-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_ZRefIdeal (m : (ℓ : Loc Cert.ZRefIdeal.nD Cert.ZRefIdeal.τ Cert.ZRefIdeal.sig) → Buf (Elt Ideal) ℓ) : Prop :=
  True

def Pre_Lg (m : (ℓ : Loc Cert.Lg.nD Cert.Lg.τ Cert.Lg.sig) → Buf (Elt Bits) ℓ) : Prop :=
  True

def Pre_LgIdeal (m : (ℓ : Loc Cert.LgIdeal.nD Cert.LgIdeal.τ Cert.LgIdeal.sig) → Buf (Elt Ideal) ℓ) : Prop :=
  True

def Pre_LgRefIdeal (m : (ℓ : Loc Cert.LgRefIdeal.nD Cert.LgRefIdeal.τ Cert.LgRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcRefIdeal (m : (ℓ : Loc Cert.XbcRefIdeal.nD Cert.XbcRefIdeal.τ Cert.XbcRefIdeal.sig) → Buf (Elt Ideal) ℓ) : Prop :=
  True

def Pre_Lx (m : (ℓ : Loc Cert.Lx.nD Cert.Lx.τ Cert.Lx.sig) → Buf (Elt Bits) ℓ) : Prop :=
  True

def Pre_LxIdeal (m : (ℓ : Loc Cert.LxIdeal.nD Cert.LxIdeal.τ Cert.LxIdeal.sig) → Buf (Elt Ideal) ℓ) : Prop :=
  True

def Pre_LxRefIdeal (m : (ℓ : Loc Cert.LxRefIdeal.nD Cert.LxRefIdeal.τ Cert.LxRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_queries_and_keys [hPre_finite_queries_and_keys : Cert.Pre_finite_queries_and_keys.Facts] (m : (ℓ : Loc Cert.MergeIdeal.nD Cert.MergeIdeal.τ Cert.MergeIdeal.sig) → Buf (Elt Ideal) ℓ) : Prop :=
  ∀ c : Dev Cert.MergeIdeal.nD,
    (Cert.Pre_finite_queries_and_keys.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).1 = (fun _ => 1#1)
    ∧ (Cert.Pre_finite_queries_and_keys.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_queries_and_keys [hPre_finite_queries_and_keys : Cert.Pre_finite_queries_and_keys.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_queries_and_keys.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).1 = (fun _ => 1#1)
    ∧ (Cert.Pre_finite_queries_and_keys.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2 = (fun _ => 1#1)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_ZRefIdeal [hZRefIdeal : Cert.ZRefIdeal.Facts] : Prop :=
  ∀ (m : (ℓ : Loc Cert.ZRefIdeal.nD Cert.ZRefIdeal.τ Cert.ZRefIdeal.sig) → Buf (Elt Ideal) ℓ) (g : Dev Cert.ZRefIdeal.nD → PrngReg), Pre_ZRefIdeal m →
    θ_run (Cert.ZRefIdeal.defs (F := Ideal)) (onTc (τ := Cert.ZRefIdeal.τ) (Cert.ZRefIdeal.main (F := Ideal))) ⟨m, fun _ => 0, g⟩ (fun r => (∀ c : Dev Cert.ZRefIdeal.nD,
      r.2.mem ((c.tc : Thread Cert.ZRefIdeal.nD Cert.ZRefIdeal.τ).loc Cert.ZRefIdeal.main_arg0) = m ((c.tc : Thread Cert.ZRefIdeal.nD Cert.ZRefIdeal.τ).loc Cert.ZRefIdeal.main_arg0)
      ∧ r.2.mem ((c.tc : Thread Cert.ZRefIdeal.nD Cert.ZRefIdeal.τ).loc Cert.ZRefIdeal.main_arg1) = m ((c.tc : Thread Cert.ZRefIdeal.nD Cert.ZRefIdeal.τ).loc Cert.ZRefIdeal.main_arg1))
      ∧ r.2.sem = fun _ => 0)

def quiescent_Lg [hLg : Cert.Lg.Facts] : Prop :=
  ∀ (m : (ℓ : Loc Cert.Lg.nD Cert.Lg.τ Cert.Lg.sig) → Buf (Elt Bits) ℓ) (g : Dev Cert.Lg.nD → PrngReg), Pre_Lg m →
    θ_run (Cert.Lg.defs (F := Bits)) (onTc (τ := Cert.Lg.τ) (Cert.Lg.main (F := Bits))) ⟨m, fun _ => 0, g⟩ (fun r => (∀ c : Dev Cert.Lg.nD,
      r.2.mem ((c.tc : Thread Cert.Lg.nD Cert.Lg.τ).loc Cert.Lg.main_arg0) = m ((c.tc : Thread Cert.Lg.nD Cert.Lg.τ).loc Cert.Lg.main_arg0)
      ∧ r.2.mem ((c.tc : Thread Cert.Lg.nD Cert.Lg.τ).loc Cert.Lg.main_arg1) = m ((c.tc : Thread Cert.Lg.nD Cert.Lg.τ).loc Cert.Lg.main_arg1))
      ∧ r.2.sem = fun _ => 0)

def quiescent_LgIdeal [hLgIdeal : Cert.LgIdeal.Facts] : Prop :=
  ∀ (m : (ℓ : Loc Cert.LgIdeal.nD Cert.LgIdeal.τ Cert.LgIdeal.sig) → Buf (Elt Ideal) ℓ) (g : Dev Cert.LgIdeal.nD → PrngReg), Pre_LgIdeal m →
    θ_run (Cert.LgIdeal.defs (F := Ideal)) (onTc (τ := Cert.LgIdeal.τ) (Cert.LgIdeal.main (F := Ideal))) ⟨m, fun _ => 0, g⟩ (fun r => (∀ c : Dev Cert.LgIdeal.nD,
      r.2.mem ((c.tc : Thread Cert.LgIdeal.nD Cert.LgIdeal.τ).loc Cert.LgIdeal.main_arg0) = m ((c.tc : Thread Cert.LgIdeal.nD Cert.LgIdeal.τ).loc Cert.LgIdeal.main_arg0)
      ∧ r.2.mem ((c.tc : Thread Cert.LgIdeal.nD Cert.LgIdeal.τ).loc Cert.LgIdeal.main_arg1) = m ((c.tc : Thread Cert.LgIdeal.nD Cert.LgIdeal.τ).loc Cert.LgIdeal.main_arg1))
      ∧ r.2.sem = fun _ => 0)

def quiescent_LgRefIdeal [hLgRefIdeal : Cert.LgRefIdeal.Facts] : Prop :=
  ∀ (m : (ℓ : Loc Cert.LgRefIdeal.nD Cert.LgRefIdeal.τ Cert.LgRefIdeal.sig) → Buf (Elt Ideal) ℓ) (g : Dev Cert.LgRefIdeal.nD → PrngReg), Pre_LgRefIdeal m →
    θ_run (Cert.LgRefIdeal.defs (F := Ideal)) (onTc (τ := Cert.LgRefIdeal.τ) (Cert.LgRefIdeal.main (F := Ideal))) ⟨m, fun _ => 0, g⟩ (fun r => (∀ c : Dev Cert.LgRefIdeal.nD,
      r.2.mem ((c.tc : Thread Cert.LgRefIdeal.nD Cert.LgRefIdeal.τ).loc Cert.LgRefIdeal.main_arg0) = m ((c.tc : Thread Cert.LgRefIdeal.nD Cert.LgRefIdeal.τ).loc Cert.LgRefIdeal.main_arg0)
      ∧ r.2.mem ((c.tc : Thread Cert.LgRefIdeal.nD Cert.LgRefIdeal.τ).loc Cert.LgRefIdeal.main_arg1) = m ((c.tc : Thread Cert.LgRefIdeal.nD Cert.LgRefIdeal.τ).loc Cert.LgRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1)
      ∧ r.2.mem ((c.tc : Thread Cert.Xbc.nD Cert.Xbc.τ).loc Cert.Xbc.main_arg2) = m ((c.tc : Thread Cert.Xbc.nD Cert.Xbc.τ).loc Cert.Xbc.main_arg2)
      ∧ r.2.mem ((c.tc : Thread Cert.Xbc.nD Cert.Xbc.τ).loc Cert.Xbc.main_arg3) = m ((c.tc : Thread Cert.Xbc.nD Cert.Xbc.τ).loc Cert.Xbc.main_arg3))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
      ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2)
      ∧ r.2.mem ((c.tc : Thread Cert.XbcIdeal.nD Cert.XbcIdeal.τ).loc Cert.XbcIdeal.main_arg3) = m ((c.tc : Thread Cert.XbcIdeal.nD Cert.XbcIdeal.τ).loc Cert.XbcIdeal.main_arg3))
      ∧ r.2.sem = fun _ => 0)

def quiescent_XbcRefIdeal [hXbcRefIdeal : Cert.XbcRefIdeal.Facts] : Prop :=
  ∀ (m : (ℓ : Loc Cert.XbcRefIdeal.nD Cert.XbcRefIdeal.τ Cert.XbcRefIdeal.sig) → Buf (Elt Ideal) ℓ) (g : Dev Cert.XbcRefIdeal.nD → PrngReg), Pre_XbcRefIdeal m →
    θ_run (Cert.XbcRefIdeal.defs (F := Ideal)) (onTc (τ := Cert.XbcRefIdeal.τ) (Cert.XbcRefIdeal.main (F := Ideal))) ⟨m, fun _ => 0, g⟩ (fun r => (∀ c : Dev Cert.XbcRefIdeal.nD,
      r.2.mem ((c.tc : Thread Cert.XbcRefIdeal.nD Cert.XbcRefIdeal.τ).loc Cert.XbcRefIdeal.main_arg0) = m ((c.tc : Thread Cert.XbcRefIdeal.nD Cert.XbcRefIdeal.τ).loc Cert.XbcRefIdeal.main_arg0)
      ∧ r.2.mem ((c.tc : Thread Cert.XbcRefIdeal.nD Cert.XbcRefIdeal.τ).loc Cert.XbcRefIdeal.main_arg1) = m ((c.tc : Thread Cert.XbcRefIdeal.nD Cert.XbcRefIdeal.τ).loc Cert.XbcRefIdeal.main_arg1)
      ∧ r.2.mem ((c.tc : Thread Cert.XbcRefIdeal.nD Cert.XbcRefIdeal.τ).loc Cert.XbcRefIdeal.main_arg2) = m ((c.tc : Thread Cert.XbcRefIdeal.nD Cert.XbcRefIdeal.τ).loc Cert.XbcRefIdeal.main_arg2)
      ∧ r.2.mem ((c.tc : Thread Cert.XbcRefIdeal.nD Cert.XbcRefIdeal.τ).loc Cert.XbcRefIdeal.main_arg3) = m ((c.tc : Thread Cert.XbcRefIdeal.nD Cert.XbcRefIdeal.τ).loc Cert.XbcRefIdeal.main_arg3))
      ∧ r.2.sem = fun _ => 0)

def quiescent_Lx [hLx : Cert.Lx.Facts] : Prop :=
  ∀ (m : (ℓ : Loc Cert.Lx.nD Cert.Lx.τ Cert.Lx.sig) → Buf (Elt Bits) ℓ) (g : Dev Cert.Lx.nD → PrngReg), Pre_Lx m →
    θ_run (Cert.Lx.defs (F := Bits)) (onTc (τ := Cert.Lx.τ) (Cert.Lx.main (F := Bits))) ⟨m, fun _ => 0, g⟩ (fun r => (∀ c : Dev Cert.Lx.nD,
      r.2.mem ((c.tc : Thread Cert.Lx.nD Cert.Lx.τ).loc Cert.Lx.main_arg0) = m ((c.tc : Thread Cert.Lx.nD Cert.Lx.τ).loc Cert.Lx.main_arg0)
      ∧ r.2.mem ((c.tc : Thread Cert.Lx.nD Cert.Lx.τ).loc Cert.Lx.main_arg1) = m ((c.tc : Thread Cert.Lx.nD Cert.Lx.τ).loc Cert.Lx.main_arg1)
      ∧ r.2.mem ((c.tc : Thread Cert.Lx.nD Cert.Lx.τ).loc Cert.Lx.main_arg2) = m ((c.tc : Thread Cert.Lx.nD Cert.Lx.τ).loc Cert.Lx.main_arg2)
      ∧ r.2.mem ((c.tc : Thread Cert.Lx.nD Cert.Lx.τ).loc Cert.Lx.main_arg3) = m ((c.tc : Thread Cert.Lx.nD Cert.Lx.τ).loc Cert.Lx.main_arg3))
      ∧ r.2.sem = fun _ => 0)

def quiescent_LxIdeal [hLxIdeal : Cert.LxIdeal.Facts] : Prop :=
  ∀ (m : (ℓ : Loc Cert.LxIdeal.nD Cert.LxIdeal.τ Cert.LxIdeal.sig) → Buf (Elt Ideal) ℓ) (g : Dev Cert.LxIdeal.nD → PrngReg), Pre_LxIdeal m →
    θ_run (Cert.LxIdeal.defs (F := Ideal)) (onTc (τ := Cert.LxIdeal.τ) (Cert.LxIdeal.main (F := Ideal))) ⟨m, fun _ => 0, g⟩ (fun r => (∀ c : Dev Cert.LxIdeal.nD,
      r.2.mem ((c.tc : Thread Cert.LxIdeal.nD Cert.LxIdeal.τ).loc Cert.LxIdeal.main_arg0) = m ((c.tc : Thread Cert.LxIdeal.nD Cert.LxIdeal.τ).loc Cert.LxIdeal.main_arg0)
      ∧ r.2.mem ((c.tc : Thread Cert.LxIdeal.nD Cert.LxIdeal.τ).loc Cert.LxIdeal.main_arg1) = m ((c.tc : Thread Cert.LxIdeal.nD Cert.LxIdeal.τ).loc Cert.LxIdeal.main_arg1)
      ∧ r.2.mem ((c.tc : Thread Cert.LxIdeal.nD Cert.LxIdeal.τ).loc Cert.LxIdeal.main_arg2) = m ((c.tc : Thread Cert.LxIdeal.nD Cert.LxIdeal.τ).loc Cert.LxIdeal.main_arg2)
      ∧ r.2.mem ((c.tc : Thread Cert.LxIdeal.nD Cert.LxIdeal.τ).loc Cert.LxIdeal.main_arg3) = m ((c.tc : Thread Cert.LxIdeal.nD Cert.LxIdeal.τ).loc Cert.LxIdeal.main_arg3))
      ∧ r.2.sem = fun _ => 0)

def quiescent_LxRefIdeal [hLxRefIdeal : Cert.LxRefIdeal.Facts] : Prop :=
  ∀ (m : (ℓ : Loc Cert.LxRefIdeal.nD Cert.LxRefIdeal.τ Cert.LxRefIdeal.sig) → Buf (Elt Ideal) ℓ) (g : Dev Cert.LxRefIdeal.nD → PrngReg), Pre_LxRefIdeal m →
    θ_run (Cert.LxRefIdeal.defs (F := Ideal)) (onTc (τ := Cert.LxRefIdeal.τ) (Cert.LxRefIdeal.main (F := Ideal))) ⟨m, fun _ => 0, g⟩ (fun r => (∀ c : Dev Cert.LxRefIdeal.nD,
      r.2.mem ((c.tc : Thread Cert.LxRefIdeal.nD Cert.LxRefIdeal.τ).loc Cert.LxRefIdeal.main_arg0) = m ((c.tc : Thread Cert.LxRefIdeal.nD Cert.LxRefIdeal.τ).loc Cert.LxRefIdeal.main_arg0)
      ∧ r.2.mem ((c.tc : Thread Cert.LxRefIdeal.nD Cert.LxRefIdeal.τ).loc Cert.LxRefIdeal.main_arg1) = m ((c.tc : Thread Cert.LxRefIdeal.nD Cert.LxRefIdeal.τ).loc Cert.LxRefIdeal.main_arg1)
      ∧ r.2.mem ((c.tc : Thread Cert.LxRefIdeal.nD Cert.LxRefIdeal.τ).loc Cert.LxRefIdeal.main_arg2) = m ((c.tc : Thread Cert.LxRefIdeal.nD Cert.LxRefIdeal.τ).loc Cert.LxRefIdeal.main_arg2)
      ∧ r.2.mem ((c.tc : Thread Cert.LxRefIdeal.nD Cert.LxRefIdeal.τ).loc Cert.LxRefIdeal.main_arg3) = m ((c.tc : Thread Cert.LxRefIdeal.nD Cert.LxRefIdeal.τ).loc Cert.LxRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_queries_and_keys [hMergeIdeal : Cert.MergeIdeal.Facts] [hPre_finite_queries_and_keys : Cert.Pre_finite_queries_and_keys.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_queries_and_keys m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_queries_and_keys [hMergeRefIdeal : Cert.MergeRefIdeal.Facts] [hPre_finite_queries_and_keys : Cert.Pre_finite_queries_and_keys.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_queries_and_keys m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v5_0)) (v1 : (c : Dev Cert.NormIdeal.nD) → Buf (Elt Ideal) ((c.tc : Thread Cert.NormIdeal.nD Cert.NormIdeal.τ).loc Cert.NormIdeal.main_v5_1)) (v2 : (c : Dev Cert.NormIdeal.nD) → Buf (Elt Ideal) ((c.tc : Thread Cert.NormIdeal.nD Cert.NormIdeal.τ).loc Cert.NormIdeal.main_v5_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v5_0) = v0 c
          ∧ r.2.mem ((c.tc : Thread Cert.NormIdeal.nD Cert.NormIdeal.τ).loc Cert.NormIdeal.main_v5_1) = v1 c
          ∧ r.2.mem ((c.tc : Thread Cert.NormIdeal.nD Cert.NormIdeal.τ).loc Cert.NormIdeal.main_v5_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v25) = v0 c
          ∧ r.2.mem ((c.tc : Thread Cert.NormRefIdeal.nD Cert.NormRefIdeal.τ).loc Cert.NormRefIdeal.main_v27) = v1 c
          ∧ r.2.mem ((c.tc : Thread Cert.NormRefIdeal.nD Cert.NormRefIdeal.τ).loc Cert.NormRefIdeal.main_v28) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Z_ZIdeal : Prop :=
  IdealRules.named_const.Statement Cert.ZIdeal.κ "neg_log2e" .f32 0xBFB8AA3B#32 ((-((Real.log 2)⁻¹) : ℝ) : EReal)

def algebraic_ZIdeal_ZRefIdeal [hZIdeal : Cert.ZIdeal.Facts] [hZRefIdeal : Cert.ZRefIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.ZRefIdeal.nD Cert.ZRefIdeal.τ Cert.ZRefIdeal.sig) → Buf (Elt Ideal) ℓ) (g' : Dev Cert.ZRefIdeal.nD → PrngReg), Pre_ZIdeal m →
    (∀ c : Dev Cert.ZIdeal.nD,
      m' ((c.tc : Thread Cert.ZRefIdeal.nD Cert.ZRefIdeal.τ).loc Cert.ZRefIdeal.main_arg0) = m ((c.tc : Thread Cert.ZIdeal.nD Cert.ZIdeal.τ).loc Cert.ZIdeal.main_arg0)
      ∧ m' ((c.tc : Thread Cert.ZRefIdeal.nD Cert.ZRefIdeal.τ).loc Cert.ZRefIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v3)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v3) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.ZRefIdeal.defs (F := Ideal)) (onTc (τ := Cert.ZRefIdeal.τ) (Cert.ZRefIdeal.main (F := Ideal))) ⟨m', fun _ => 0, g'⟩ (fun r => ∀ c : Dev Cert.ZRefIdeal.nD,
          r.2.mem ((c.tc : Thread Cert.ZRefIdeal.nD Cert.ZRefIdeal.τ).loc Cert.ZRefIdeal.main_v12) = v0 c
          ∧ r.2.mem ((c.tc : Thread Cert.ZRefIdeal.nD Cert.ZRefIdeal.τ).loc Cert.ZRefIdeal.main_arg0) = m' ((c.tc : Thread Cert.ZRefIdeal.nD Cert.ZRefIdeal.τ).loc Cert.ZRefIdeal.main_arg0)
          ∧ r.2.mem ((c.tc : Thread Cert.ZRefIdeal.nD Cert.ZRefIdeal.τ).loc Cert.ZRefIdeal.main_arg1) = m' ((c.tc : Thread Cert.ZRefIdeal.nD Cert.ZRefIdeal.τ).loc Cert.ZRefIdeal.main_arg1))

def preserves_Lg_LgIdeal : Prop :=
  IdealRules.named_const.Statement Cert.LgIdeal.κ "neg_log2e" .f32 0xBFB8AA3B#32 ((-((Real.log 2)⁻¹) : ℝ) : EReal)

def algebraic_LgIdeal_LgRefIdeal [hLgIdeal : Cert.LgIdeal.Facts] [hLgRefIdeal : Cert.LgRefIdeal.Facts] : Prop :=
  ∀ (m : (ℓ : Loc Cert.LgIdeal.nD Cert.LgIdeal.τ Cert.LgIdeal.sig) → Buf (Elt Ideal) ℓ) (g : Dev Cert.LgIdeal.nD → PrngReg)
    (m' : (ℓ : Loc Cert.LgRefIdeal.nD Cert.LgRefIdeal.τ Cert.LgRefIdeal.sig) → Buf (Elt Ideal) ℓ) (g' : Dev Cert.LgRefIdeal.nD → PrngReg), Pre_LgIdeal m →
    (∀ c : Dev Cert.LgIdeal.nD,
      m' ((c.tc : Thread Cert.LgRefIdeal.nD Cert.LgRefIdeal.τ).loc Cert.LgRefIdeal.main_arg0) = m ((c.tc : Thread Cert.LgIdeal.nD Cert.LgIdeal.τ).loc Cert.LgIdeal.main_arg0)
      ∧ m' ((c.tc : Thread Cert.LgRefIdeal.nD Cert.LgRefIdeal.τ).loc Cert.LgRefIdeal.main_arg1) = m ((c.tc : Thread Cert.LgIdeal.nD Cert.LgIdeal.τ).loc Cert.LgIdeal.main_arg1)) →
    ∃ (v0 : (c : Dev Cert.LgIdeal.nD) → Buf (Elt Ideal) ((c.tc : Thread Cert.LgIdeal.nD Cert.LgIdeal.τ).loc Cert.LgIdeal.main_v3)),
      θ_run (Cert.LgIdeal.defs (F := Ideal)) (onTc (τ := Cert.LgIdeal.τ) (Cert.LgIdeal.main (F := Ideal))) ⟨m, fun _ => 0, g⟩ (fun r => ∀ c : Dev Cert.LgIdeal.nD,
          r.2.mem ((c.tc : Thread Cert.LgIdeal.nD Cert.LgIdeal.τ).loc Cert.LgIdeal.main_v3) = v0 c
          ∧ r.2.mem ((c.tc : Thread Cert.LgIdeal.nD Cert.LgIdeal.τ).loc Cert.LgIdeal.main_arg0) = m ((c.tc : Thread Cert.LgIdeal.nD Cert.LgIdeal.τ).loc Cert.LgIdeal.main_arg0)
          ∧ r.2.mem ((c.tc : Thread Cert.LgIdeal.nD Cert.LgIdeal.τ).loc Cert.LgIdeal.main_arg1) = m ((c.tc : Thread Cert.LgIdeal.nD Cert.LgIdeal.τ).loc Cert.LgIdeal.main_arg1))
      ∧ θ_run (Cert.LgRefIdeal.defs (F := Ideal)) (onTc (τ := Cert.LgRefIdeal.τ) (Cert.LgRefIdeal.main (F := Ideal))) ⟨m', fun _ => 0, g'⟩ (fun r => ∀ c : Dev Cert.LgRefIdeal.nD,
          r.2.mem ((c.tc : Thread Cert.LgRefIdeal.nD Cert.LgRefIdeal.τ).loc Cert.LgRefIdeal.main_v12) = v0 c
          ∧ r.2.mem ((c.tc : Thread Cert.LgRefIdeal.nD Cert.LgRefIdeal.τ).loc Cert.LgRefIdeal.main_arg0) = m' ((c.tc : Thread Cert.LgRefIdeal.nD Cert.LgRefIdeal.τ).loc Cert.LgRefIdeal.main_arg0)
          ∧ r.2.mem ((c.tc : Thread Cert.LgRefIdeal.nD Cert.LgRefIdeal.τ).loc Cert.LgRefIdeal.main_arg1) = m' ((c.tc : Thread Cert.LgRefIdeal.nD Cert.LgRefIdeal.τ).loc Cert.LgRefIdeal.main_arg1))

def preserves_Gates_GatesIdeal : Prop :=
  IdealRules.named_const.Statement Cert.GatesIdeal.κ "neg_log2e" .f32 0xBFB8AA3B#32 ((-((Real.log 2)⁻¹) : ℝ) : EReal)

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v17) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Xbc_XbcIdeal : Prop :=
  IdealRules.named_const.Statement Cert.XbcIdeal.κ "neg_log2e" .f32 0xBFB8AA3B#32 ((-((Real.log 2)⁻¹) : ℝ) : EReal)

def algebraic_XbcIdeal_XbcRefIdeal [hXbcIdeal : Cert.XbcIdeal.Facts] [hXbcRefIdeal : Cert.XbcRefIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcRefIdeal.nD Cert.XbcRefIdeal.τ Cert.XbcRefIdeal.sig) → Buf (Elt Ideal) ℓ) (g' : Dev Cert.XbcRefIdeal.nD → PrngReg), Pre_XbcIdeal m →
    (∀ c : Dev Cert.XbcIdeal.nD,
      m' ((c.tc : Thread Cert.XbcRefIdeal.nD Cert.XbcRefIdeal.τ).loc Cert.XbcRefIdeal.main_arg0) = m ((c.tc : Thread Cert.XbcIdeal.nD Cert.XbcIdeal.τ).loc Cert.XbcIdeal.main_arg0)
      ∧ m' ((c.tc : Thread Cert.XbcRefIdeal.nD Cert.XbcRefIdeal.τ).loc Cert.XbcRefIdeal.main_arg1) = m ((c.tc : Thread Cert.XbcIdeal.nD Cert.XbcIdeal.τ).loc Cert.XbcIdeal.main_arg1)
      ∧ m' ((c.tc : Thread Cert.XbcRefIdeal.nD Cert.XbcRefIdeal.τ).loc Cert.XbcRefIdeal.main_arg2) = m ((c.tc : Thread Cert.XbcIdeal.nD Cert.XbcIdeal.τ).loc Cert.XbcIdeal.main_arg2)
      ∧ m' ((c.tc : Thread Cert.XbcRefIdeal.nD Cert.XbcRefIdeal.τ).loc Cert.XbcRefIdeal.main_arg3) = m ((c.tc : Thread Cert.XbcIdeal.nD Cert.XbcIdeal.τ).loc Cert.XbcIdeal.main_arg3)) →
    ∃ (v0 : (c : Dev Cert.XbcIdeal.nD) → Buf (Elt Ideal) ((c.tc : Thread Cert.XbcIdeal.nD Cert.XbcIdeal.τ).loc Cert.XbcIdeal.main_v6)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v6) = v0 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
          ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2)
          ∧ r.2.mem ((c.tc : Thread Cert.XbcIdeal.nD Cert.XbcIdeal.τ).loc Cert.XbcIdeal.main_arg3) = m ((c.tc : Thread Cert.XbcIdeal.nD Cert.XbcIdeal.τ).loc Cert.XbcIdeal.main_arg3))
      ∧ θ_run (Cert.XbcRefIdeal.defs (F := Ideal)) (onTc (τ := Cert.XbcRefIdeal.τ) (Cert.XbcRefIdeal.main (F := Ideal))) ⟨m', fun _ => 0, g'⟩ (fun r => ∀ c : Dev Cert.XbcRefIdeal.nD,
          r.2.mem ((c.tc : Thread Cert.XbcRefIdeal.nD Cert.XbcRefIdeal.τ).loc Cert.XbcRefIdeal.main_v45) = v0 c
          ∧ r.2.mem ((c.tc : Thread Cert.XbcRefIdeal.nD Cert.XbcRefIdeal.τ).loc Cert.XbcRefIdeal.main_arg0) = m' ((c.tc : Thread Cert.XbcRefIdeal.nD Cert.XbcRefIdeal.τ).loc Cert.XbcRefIdeal.main_arg0)
          ∧ r.2.mem ((c.tc : Thread Cert.XbcRefIdeal.nD Cert.XbcRefIdeal.τ).loc Cert.XbcRefIdeal.main_arg1) = m' ((c.tc : Thread Cert.XbcRefIdeal.nD Cert.XbcRefIdeal.τ).loc Cert.XbcRefIdeal.main_arg1)
          ∧ r.2.mem ((c.tc : Thread Cert.XbcRefIdeal.nD Cert.XbcRefIdeal.τ).loc Cert.XbcRefIdeal.main_arg2) = m' ((c.tc : Thread Cert.XbcRefIdeal.nD Cert.XbcRefIdeal.τ).loc Cert.XbcRefIdeal.main_arg2)
          ∧ r.2.mem ((c.tc : Thread Cert.XbcRefIdeal.nD Cert.XbcRefIdeal.τ).loc Cert.XbcRefIdeal.main_arg3) = m' ((c.tc : Thread Cert.XbcRefIdeal.nD Cert.XbcRefIdeal.τ).loc Cert.XbcRefIdeal.main_arg3))

def preserves_Lx_LxIdeal : Prop :=
  True

def algebraic_LxIdeal_LxRefIdeal [hLxIdeal : Cert.LxIdeal.Facts] [hLxRefIdeal : Cert.LxRefIdeal.Facts] : Prop :=
  ∀ (m : (ℓ : Loc Cert.LxIdeal.nD Cert.LxIdeal.τ Cert.LxIdeal.sig) → Buf (Elt Ideal) ℓ) (g : Dev Cert.LxIdeal.nD → PrngReg)
    (m' : (ℓ : Loc Cert.LxRefIdeal.nD Cert.LxRefIdeal.τ Cert.LxRefIdeal.sig) → Buf (Elt Ideal) ℓ) (g' : Dev Cert.LxRefIdeal.nD → PrngReg), Pre_LxIdeal m →
    (∀ c : Dev Cert.LxIdeal.nD,
      m' ((c.tc : Thread Cert.LxRefIdeal.nD Cert.LxRefIdeal.τ).loc Cert.LxRefIdeal.main_arg0) = m ((c.tc : Thread Cert.LxIdeal.nD Cert.LxIdeal.τ).loc Cert.LxIdeal.main_arg0)
      ∧ m' ((c.tc : Thread Cert.LxRefIdeal.nD Cert.LxRefIdeal.τ).loc Cert.LxRefIdeal.main_arg1) = m ((c.tc : Thread Cert.LxIdeal.nD Cert.LxIdeal.τ).loc Cert.LxIdeal.main_arg1)
      ∧ m' ((c.tc : Thread Cert.LxRefIdeal.nD Cert.LxRefIdeal.τ).loc Cert.LxRefIdeal.main_arg2) = m ((c.tc : Thread Cert.LxIdeal.nD Cert.LxIdeal.τ).loc Cert.LxIdeal.main_arg2)
      ∧ m' ((c.tc : Thread Cert.LxRefIdeal.nD Cert.LxRefIdeal.τ).loc Cert.LxRefIdeal.main_arg3) = m ((c.tc : Thread Cert.LxIdeal.nD Cert.LxIdeal.τ).loc Cert.LxIdeal.main_arg3)) →
    ∃ (v0 : (c : Dev Cert.LxIdeal.nD) → Buf (Elt Ideal) ((c.tc : Thread Cert.LxIdeal.nD Cert.LxIdeal.τ).loc Cert.LxIdeal.main_v6)),
      θ_run (Cert.LxIdeal.defs (F := Ideal)) (onTc (τ := Cert.LxIdeal.τ) (Cert.LxIdeal.main (F := Ideal))) ⟨m, fun _ => 0, g⟩ (fun r => ∀ c : Dev Cert.LxIdeal.nD,
          r.2.mem ((c.tc : Thread Cert.LxIdeal.nD Cert.LxIdeal.τ).loc Cert.LxIdeal.main_v6) = v0 c
          ∧ r.2.mem ((c.tc : Thread Cert.LxIdeal.nD Cert.LxIdeal.τ).loc Cert.LxIdeal.main_arg0) = m ((c.tc : Thread Cert.LxIdeal.nD Cert.LxIdeal.τ).loc Cert.LxIdeal.main_arg0)
          ∧ r.2.mem ((c.tc : Thread Cert.LxIdeal.nD Cert.LxIdeal.τ).loc Cert.LxIdeal.main_arg1) = m ((c.tc : Thread Cert.LxIdeal.nD Cert.LxIdeal.τ).loc Cert.LxIdeal.main_arg1)
          ∧ r.2.mem ((c.tc : Thread Cert.LxIdeal.nD Cert.LxIdeal.τ).loc Cert.LxIdeal.main_arg2) = m ((c.tc : Thread Cert.LxIdeal.nD Cert.LxIdeal.τ).loc Cert.LxIdeal.main_arg2)
          ∧ r.2.mem ((c.tc : Thread Cert.LxIdeal.nD Cert.LxIdeal.τ).loc Cert.LxIdeal.main_arg3) = m ((c.tc : Thread Cert.LxIdeal.nD Cert.LxIdeal.τ).loc Cert.LxIdeal.main_arg3))
      ∧ θ_run (Cert.LxRefIdeal.defs (F := Ideal)) (onTc (τ := Cert.LxRefIdeal.τ) (Cert.LxRefIdeal.main (F := Ideal))) ⟨m', fun _ => 0, g'⟩ (fun r => ∀ c : Dev Cert.LxRefIdeal.nD,
          r.2.mem ((c.tc : Thread Cert.LxRefIdeal.nD Cert.LxRefIdeal.τ).loc Cert.LxRefIdeal.main_v44) = v0 c
          ∧ r.2.mem ((c.tc : Thread Cert.LxRefIdeal.nD Cert.LxRefIdeal.τ).loc Cert.LxRefIdeal.main_arg0) = m' ((c.tc : Thread Cert.LxRefIdeal.nD Cert.LxRefIdeal.τ).loc Cert.LxRefIdeal.main_arg0)
          ∧ r.2.mem ((c.tc : Thread Cert.LxRefIdeal.nD Cert.LxRefIdeal.τ).loc Cert.LxRefIdeal.main_arg1) = m' ((c.tc : Thread Cert.LxRefIdeal.nD Cert.LxRefIdeal.τ).loc Cert.LxRefIdeal.main_arg1)
          ∧ r.2.mem ((c.tc : Thread Cert.LxRefIdeal.nD Cert.LxRefIdeal.τ).loc Cert.LxRefIdeal.main_arg2) = m' ((c.tc : Thread Cert.LxRefIdeal.nD Cert.LxRefIdeal.τ).loc Cert.LxRefIdeal.main_arg2)
          ∧ r.2.mem ((c.tc : Thread Cert.LxRefIdeal.nD Cert.LxRefIdeal.τ).loc Cert.LxRefIdeal.main_arg3) = m' ((c.tc : Thread Cert.LxRefIdeal.nD Cert.LxRefIdeal.τ).loc Cert.LxRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Merge_MergeIdeal : Prop :=
  True

def algebraic_MergeIdeal_MergeRefIdeal_pre_finite_queries_and_keys [hMergeIdeal : Cert.MergeIdeal.Facts] [hMergeRefIdeal : Cert.MergeRefIdeal.Facts] [hPre_finite_queries_and_keys : Cert.Pre_finite_queries_and_keys.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_queries_and_keys m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v61) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def Claim : Prop :=
  ∃ (hNorm : Cert.Norm.Facts) (hNormIdeal : Cert.NormIdeal.Facts) (hNormRefIdeal : Cert.NormRefIdeal.Facts) (hZ : Cert.Z.Facts) (hZIdeal : Cert.ZIdeal.Facts) (hZRefIdeal : Cert.ZRefIdeal.Facts) (hLg : Cert.Lg.Facts) (hLgIdeal : Cert.LgIdeal.Facts) (hLgRefIdeal : Cert.LgRefIdeal.Facts) (hGates : Cert.Gates.Facts) (hGatesIdeal : Cert.GatesIdeal.Facts) (hGatesRefIdeal : Cert.GatesRefIdeal.Facts) (hXbc : Cert.Xbc.Facts) (hXbcIdeal : Cert.XbcIdeal.Facts) (hXbcRefIdeal : Cert.XbcRefIdeal.Facts) (hLx : Cert.Lx.Facts) (hLxIdeal : Cert.LxIdeal.Facts) (hLxRefIdeal : Cert.LxRefIdeal.Facts) (hKv : Cert.Kv.Facts) (hKvIdeal : Cert.KvIdeal.Facts) (hKvRefIdeal : Cert.KvRefIdeal.Facts) (hMerge : Cert.Merge.Facts) (hMergeIdeal : Cert.MergeIdeal.Facts) (hMergeRefIdeal : Cert.MergeRefIdeal.Facts) (hPre_finite_queries_and_keys : Cert.Pre_finite_queries_and_keys.Facts),
    quiescent_Norm (hNorm := hNorm)
    ∧ quiescent_NormIdeal (hNormIdeal := hNormIdeal)
    ∧ quiescent_NormRefIdeal (hNormRefIdeal := hNormRefIdeal)
    ∧ quiescent_Z (hZ := hZ)
    ∧ quiescent_ZIdeal (hZIdeal := hZIdeal)
    ∧ quiescent_ZRefIdeal (hZRefIdeal := hZRefIdeal)
    ∧ quiescent_Lg (hLg := hLg)
    ∧ quiescent_LgIdeal (hLgIdeal := hLgIdeal)
    ∧ quiescent_LgRefIdeal (hLgRefIdeal := hLgRefIdeal)
    ∧ quiescent_Gates (hGates := hGates)
    ∧ quiescent_GatesIdeal (hGatesIdeal := hGatesIdeal)
    ∧ quiescent_GatesRefIdeal (hGatesRefIdeal := hGatesRefIdeal)
    ∧ quiescent_Xbc (hXbc := hXbc)
    ∧ quiescent_XbcIdeal (hXbcIdeal := hXbcIdeal)
    ∧ quiescent_XbcRefIdeal (hXbcRefIdeal := hXbcRefIdeal)
    ∧ quiescent_Lx (hLx := hLx)
    ∧ quiescent_LxIdeal (hLxIdeal := hLxIdeal)
    ∧ quiescent_LxRefIdeal (hLxRefIdeal := hLxRefIdeal)
    ∧ quiescent_Kv (hKv := hKv)
    ∧ quiescent_KvIdeal (hKvIdeal := hKvIdeal)
    ∧ quiescent_KvRefIdeal (hKvRefIdeal := hKvRefIdeal)
    ∧ quiescent_Merge (hMerge := hMerge)
    ∧ quiescent_MergeIdeal (hMergeIdeal := hMergeIdeal)
    ∧ quiescent_MergeIdeal_pre_finite_queries_and_keys (hMergeIdeal := hMergeIdeal) (hPre_finite_queries_and_keys := hPre_finite_queries_and_keys)
    ∧ quiescent_MergeRefIdeal (hMergeRefIdeal := hMergeRefIdeal)
    ∧ quiescent_MergeRefIdeal_pre_finite_queries_and_keys (hMergeRefIdeal := hMergeRefIdeal) (hPre_finite_queries_and_keys := hPre_finite_queries_and_keys)
    ∧ preserves_Norm_NormIdeal
    ∧ algebraic_NormIdeal_NormRefIdeal (hNormIdeal := hNormIdeal) (hNormRefIdeal := hNormRefIdeal)
    ∧ preserves_Z_ZIdeal
    ∧ algebraic_ZIdeal_ZRefIdeal (hZIdeal := hZIdeal) (hZRefIdeal := hZRefIdeal)
    ∧ preserves_Lg_LgIdeal
    ∧ algebraic_LgIdeal_LgRefIdeal (hLgIdeal := hLgIdeal) (hLgRefIdeal := hLgRefIdeal)
    ∧ preserves_Gates_GatesIdeal
    ∧ algebraic_GatesIdeal_GatesRefIdeal (hGatesIdeal := hGatesIdeal) (hGatesRefIdeal := hGatesRefIdeal)
    ∧ preserves_Xbc_XbcIdeal
    ∧ algebraic_XbcIdeal_XbcRefIdeal (hXbcIdeal := hXbcIdeal) (hXbcRefIdeal := hXbcRefIdeal)
    ∧ preserves_Lx_LxIdeal
    ∧ algebraic_LxIdeal_LxRefIdeal (hLxIdeal := hLxIdeal) (hLxRefIdeal := hLxRefIdeal)
    ∧ preserves_Kv_KvIdeal
    ∧ algebraic_KvIdeal_KvRefIdeal (hKvIdeal := hKvIdeal) (hKvRefIdeal := hKvRefIdeal)
    ∧ preserves_Merge_MergeIdeal
    ∧ algebraic_MergeIdeal_MergeRefIdeal_pre_finite_queries_and_keys (hMergeIdeal := hMergeIdeal) (hMergeRefIdeal := hMergeRefIdeal) (hPre_finite_queries_and_keys := hPre_finite_queries_and_keys)
-- ==== Pre_finite_queries_and_keys.lean ====
abbrev S2x8192x2048 : Shape := ⟨3, ![2, 8192, 2048]⟩
abbrev S2x8192x1536 : Shape := ⟨3, ![2, 8192, 1536]⟩
abbrev S2x8192x1024 : Shape := ⟨3, ![2, 8192, 1024]⟩
abbrev S2x256x2048 : Shape := ⟨3, ![2, 256, 2048]⟩
abbrev S2x8192x3072 : Shape := ⟨3, ![2, 8192, 3072]⟩
abbrev S1x2048x1024 : Shape := ⟨3, ![1, 2048, 1024]⟩
abbrev S1x1536x1024 : Shape := ⟨3, ![1, 1536, 1024]⟩
abbrev S1x1024x1024 : Shape := ⟨3, ![1, 1024, 1024]⟩
abbrev S1024 : Shape := ⟨1, ![1024]⟩
abbrev S_ : Shape := ⟨0, ![]⟩
abbrev S2x256x1024 : Shape := ⟨3, ![2, 256, 1024]⟩

class Facts : Prop where
  bcast_S_S2x8192x1024 : S_.BroadcastsInDim S2x8192x1024 (![] : Fin 0 → Fin S2x8192x1024.rank)
  slices_S2x256x2048_S2x256x1024_0_0_0 : S2x256x2048.Slices ![0, 0, 0] S2x256x1024
  bcast_S_S2x256x1024 : S_.BroadcastsInDim S2x256x1024 (![] : Fin 0 → Fin S2x256x1024.rank)

variable [Facts]

def fn {F : FTy → Type} [FloatOps F] (main_arg0 : FVec F S2x8192x2048 .bf16) (main_arg1 : FVec F S2x8192x1536 .bf16) (main_arg2 : FVec F S2x8192x1024 .bf16) (main_arg3 : FVec F S2x256x2048 .bf16) (main_arg4 : FVec F S2x8192x3072 .bf16) (main_arg5 : FVec F S2x8192x1024 .f32) (main_arg6 : FVec F S1x2048x1024 .f32) (main_arg7 : FVec F S1x1536x1024 .f32) (main_arg8 : FVec F S1x1024x1024 .f32) (main_arg9 : FVec F S1x1024x1024 .f32) (main_arg10 : FVec F S1024 .f32) : IVec S2x8192x1024 1 × IVec S2x256x1024 1 :=
  let main_v0 : FVec F S2x8192x1024 .bf16 := Host.absf main_arg2
  let main_cst : FVec F S_ .bf16 := constant S_ .bf16 0x7F80#16
  let main_v1 : FVec F S2x8192x1024 .bf16 := broadcastInDim S2x8192x1024 ![] bcast_S_S2x8192x1024 main_cst
  let main_v2 : IVec S2x8192x1024 1 := cmpf .olt main_v0 main_v1
  let main_v3 : FVec F S2x256x1024 .bf16 := (extractStridedSlice S2x256x1024 ![0, 0, 0] · slices_S2x256x2048_S2x256x1024_0_0_0) main_arg3
  let main_v4 : FVec F S2x256x1024 .bf16 := Host.absf main_v3
  let main_cst_0 : FVec F S_ .bf16 := constant S_ .bf16 0x7F80#16
  let main_v5 : FVec F S2x256x1024 .bf16 := broadcastInDim S2x256x1024 ![] bcast_S_S2x256x1024 main_cst_0
  let main_v6 : IVec S2x256x1024 1 := cmpf .olt main_v4 main_v5
  (main_v2, main_v6)
-- ==== Norm.lean ====
abbrev S2x8192x1024 : Shape := ⟨3, ![2, 8192, 1024]⟩
abbrev S1x1024 : Shape := ⟨2, ![1, 1024]⟩
abbrev S1x1024x12320 : Shape := ⟨3, ![1, 1024, 12320]⟩
abbrev S1024x12320 : Shape := ⟨2, ![1024, 12320]⟩
abbrev S12320x1024 : Shape := ⟨2, ![12320, 1024]⟩
abbrev S16384x1024 : Shape := ⟨2, ![16384, 1024]⟩
abbrev S1024 : Shape := ⟨1, ![1024]⟩
abbrev S16384x128 : Shape := ⟨2, ![16384, 128]⟩
abbrev S1024x1024 : Shape := ⟨2, ![1024, 1024]⟩
abbrev S128x1024 : Shape := ⟨2, ![128, 1024]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x12320, .f32⟩
  | .hbm, ⟨3, _⟩ => ⟨S1024x12320, .f32⟩
  | .hbm, ⟨4, _⟩ => ⟨S12320x1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S128x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8224_i32 : BitVec 32 := 8224#32
  let c0_i32 : BitVec 32 := 0#32
  let c0_i32_0 : BitVec 32 := 0#32
  ![c8224_i32.toNat, c0_i32.toNat]

def cc0_transform_3 (i : grid0.Coords) : Fin 2 → Nat :=
  let arg0 : BitVec 32 := BitVec.ofNat 32 (i 0).val
  let c5120_i32 : BitVec 32 := 5120#32
  let c0_i32 : BitVec 32 := 0#32
  let c0_i32_0 : BitVec 32 := 0#32
  ![c5120_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S2x8192x1024 : Shape := ⟨3, ![2, 8192, 1024]⟩
abbrev S1x1024 : Shape := ⟨2, ![1, 1024]⟩
abbrev S1x1024x12320 : Shape := ⟨3, ![1, 1024, 12320]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x12320 : Shape := ⟨2, ![1024, 12320]⟩
abbrev S2x8192x12320 : Shape := ⟨3, ![2, 8192, 12320]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S2x8192x128 : Shape := ⟨3, ![2, 8192, 128]⟩
abbrev S16384x1024 : Shape := ⟨2, ![16384, 1024]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x12320, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x12320, .f32⟩
  | .hbm, ⟨21, _⟩ => ⟨S2x8192x12320, .f32⟩
  | .hbm, ⟨22, _⟩ => ⟨S2x8192x2048, .f32⟩
  | .hbm, ⟨23, _⟩ => ⟨S2x8192x3072, .f32⟩
  | .hbm, ⟨24, _⟩ => ⟨S2x8192x32, .f32⟩
  | .hbm, ⟨25, _⟩ => ⟨S2x8192x1536, .f32⟩
  | .hbm, ⟨26, _⟩ => ⟨S2x8192x1536, .f32⟩
  | .hbm, ⟨27, _⟩ => ⟨S2x8192x1024, .f32⟩
  | .hbm, ⟨28, _⟩ => ⟨S2x8192x3072, .f32⟩
  | .hbm, ⟨29, _⟩ => ⟨S2x8192x128, .f32⟩
  | .hbm, ⟨30, _⟩ => ⟨S16384x1024, .f32⟩
  | .hbm, ⟨31, _⟩ => ⟨S16384x1024, .bf16⟩
  | .hbm, ⟨32, _⟩ => ⟨S16384x1024, .f32⟩
  | .hbm, ⟨33, _⟩ => ⟨S16384x1024, .bf16⟩
  | .hbm, ⟨34, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Z.lean ====
abbrev S2x8192x1024 : Shape := ⟨3, ![2, 8192, 1024]⟩
abbrev S1x1024x12320 : Shape := ⟨3, ![1, 1024, 12320]⟩
abbrev S1024x12320 : Shape := ⟨2, ![1024, 12320]⟩
abbrev S12320x1024 : Shape := ⟨2, ![12320, 1024]⟩
abbrev S16384x1024 : Shape := ⟨2, ![16384, 1024]⟩
abbrev S16384x2048 : Shape := ⟨2, ![16384, 2048]⟩
abbrev S4096x1024 : Shape := ⟨2, ![4096, 1024]⟩
abbrev S1024x1024 : Shape := ⟨2, ![1024, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1024x12320, .f32⟩
  | .hbm, ⟨3, _⟩ => ⟨S12320x1024, .f32⟩
  | .hbm, ⟨4, _⟩ => ⟨S16384x1024, .bf16⟩
  | .hbm, ⟨5, _⟩ => ⟨S16384x2048, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | .local _ .vmem, ⟨3, _⟩ => ⟨S1024x1024, .f32⟩
  | .local _ .vmem, ⟨4, _⟩ => ⟨S4096x1024, .bf16⟩
  | .local _ .vmem, ⟨5, _⟩ => ⟨S4096x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZIdeal.lean ====
variable {F : FTy → Type} [FloatOps F] [Named F]
def κ : String → Option EReal := fun
  | "neg_log2e" => some ((-((Real.log 2)⁻¹) : ℝ) : EReal)
  | _ => none
-- ==== ZRefIdeal.lean ====
abbrev S2x8192x1024 : Shape := ⟨3, ![2, 8192, 1024]⟩
abbrev S1x1024x12320 : Shape := ⟨3, ![1, 1024, 12320]⟩
abbrev S1024x12320 : Shape := ⟨2, ![1024, 12320]⟩
abbrev S2x8192x12320 : Shape := ⟨3, ![2, 8192, 12320]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S_ : Shape := ⟨0, ![]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S2x8192x1024, .f32⟩
  | .hbm, ⟨3, _⟩ => ⟨S1024x12320, .f32⟩
  | .hbm, ⟨4, _⟩ => ⟨S2x8192x12320, .f32⟩
  | .hbm, ⟨5, _⟩ => ⟨S2x8192x2048, .f32⟩
  | .hbm, ⟨6, _⟩ => ⟨S2x8192x3072, .f32⟩
  | .hbm, ⟨7, _⟩ => ⟨S2x8192x32, .f32⟩
  | .hbm, ⟨8, _⟩ => ⟨S2x8192x1536, .f32⟩
  | .hbm, ⟨9, _⟩ => ⟨S2x8192x1536, .f32⟩
  | .hbm, ⟨10, _⟩ => ⟨S2x8192x1024, .f32⟩
  | .hbm, ⟨11, _⟩ => ⟨S2x8192x3072, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S16384x2048, .f32⟩
  | .hbm, ⟨22, _⟩ => ⟨S16384x2048, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Lg.lean ====
abbrev S2x8192x1024 : Shape := ⟨3, ![2, 8192, 1024]⟩
abbrev S1x1024x12320 : Shape := ⟨3, ![1, 1024, 12320]⟩
abbrev S1024x12320 : Shape := ⟨2, ![1024, 12320]⟩
abbrev S12320x1024 : Shape := ⟨2, ![12320, 1024]⟩
abbrev S16384x1024 : Shape := ⟨2, ![16384, 1024]⟩
abbrev S16384x1536 : Shape := ⟨2, ![16384, 1536]⟩
abbrev S2048x1024 : Shape := ⟨2, ![2048, 1024]⟩
abbrev S768x1024 : Shape := ⟨2, ![768, 1024]⟩
abbrev S2048x768 : Shape := ⟨2, ![2048, 768]⟩
abbrev S1024x768 : Shape := ⟨2, ![1024, 768]⟩
abbrev S256x768 : Shape := ⟨2, ![256, 768]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1024x12320, .f32⟩
  | .hbm, ⟨3, _⟩ => ⟨S12320x1024, .f32⟩
  | .hbm, ⟨4, _⟩ => ⟨S16384x1024, .bf16⟩
  | .hbm, ⟨5, _⟩ => ⟨S16384x1536, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .f32⟩
  | .local _ .vmem, ⟨3, _⟩ => ⟨S768x1024, .f32⟩
  | .local _ .vmem, ⟨4, _⟩ => ⟨S2048x768, .bf16⟩
  | .local _ .vmem, ⟨5, _⟩ => ⟨S2048x768, .bf16⟩
  | .local _ .vmem, ⟨6, _⟩ => ⟨S1024x768, .bf16⟩
  | .local _ .vmem, ⟨7, _⟩ => ⟨S256x768, .f32⟩
  | .local _ .vmem, ⟨8, _⟩ => ⟨S256x768, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c5152_i32 : BitVec 32 := 5152#32
  let arg0 : BitVec 32 := BitVec.ofNat 32 (i 0).val
  let c768_i32 : BitVec 32 := 768#32
  let v0 : BitVec 32 := Scalar.muli arg0 c768_i32
  let v1 : BitVec 32 := Scalar.addi c5152_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c5152_i32 : BitVec 32 := 5152#32
  let v1 : BitVec 32 := Scalar.addi c5152_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LgIdeal.lean ====
variable {F : FTy → Type} [FloatOps F] [Named F]
def κ : String → Option EReal := fun
  | "neg_log2e" => some ((-((Real.log 2)⁻¹) : ℝ) : EReal)
  | _ => none
-- ==== LgRefIdeal.lean ====
abbrev S2x8192x1024 : Shape := ⟨3, ![2, 8192, 1024]⟩
abbrev S1x1024x12320 : Shape := ⟨3, ![1, 1024, 12320]⟩
abbrev S1024x12320 : Shape := ⟨2, ![1024, 12320]⟩
abbrev S2x8192x12320 : Shape := ⟨3, ![2, 8192, 12320]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S_ : Shape := ⟨0, ![]⟩
abbrev S16384x1536 : Shape := ⟨2, ![16384, 1536]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S2x8192x1024, .f32⟩
  | .hbm, ⟨3, _⟩ => ⟨S1024x12320, .f32⟩
  | .hbm, ⟨4, _⟩ => ⟨S2x8192x12320, .f32⟩
  | .hbm, ⟨5, _⟩ => ⟨S2x8192x2048, .f32⟩
  | .hbm, ⟨6, _⟩ => ⟨S2x8192x3072, .f32⟩
  | .hbm, ⟨7, _⟩ => ⟨S2x8192x32, .f32⟩
  | .hbm, ⟨8, _⟩ => ⟨S2x8192x1536, .f32⟩
  | .hbm, ⟨9, _⟩ => ⟨S2x8192x1536, .f32⟩
  | .hbm, ⟨10, _⟩ => ⟨S2x8192x1024, .f32⟩
  | .hbm, ⟨11, _⟩ => ⟨S2x8192x3072, .f32⟩
  | .hbm, ⟨12, _⟩ => ⟨S2x8192x1536, .f32⟩
  | .hbm, ⟨13, _⟩ => ⟨S2x8192x1536, .f32⟩
  | .hbm, ⟨14, _⟩ => ⟨S_, .f32⟩
  | .hbm, ⟨15, _⟩ => ⟨S2x8192x1536, .f32⟩
  | .hbm, ⟨16, _⟩ => ⟨S2x8192x1536, .f32⟩
  | .hbm, ⟨17, _⟩ => ⟨S_, .f32⟩
  | .hbm, ⟨18, _⟩ => ⟨S2x8192x1536, .f32⟩
  | .hbm, ⟨19, _⟩ => ⟨S2x8192x1536, .f32⟩
  | .hbm, ⟨20, _⟩ => ⟨S2x8192x1536, .f32⟩
  | .hbm, ⟨21, _⟩ => ⟨S16384x1536, .f32⟩
  | .hbm, ⟨22, _⟩ => ⟨S16384x1536, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Gates.lean ====
abbrev S2x8192x1024 : Shape := ⟨3, ![2, 8192, 1024]⟩
abbrev S1x1024x12320 : Shape := ⟨3, ![1, 1024, 12320]⟩
abbrev S1024x12320 : Shape := ⟨2, ![1024, 12320]⟩
abbrev S12320x1024 : Shape := ⟨2, ![12320, 1024]⟩
abbrev S16384x1024 : Shape := ⟨2, ![16384, 1024]⟩
abbrev S16384x3072 : Shape := ⟨2, ![16384, 3072]⟩
abbrev S4096x1024 : Shape := ⟨2, ![4096, 1024]⟩
abbrev S1024x1024 : Shape := ⟨2, ![1024, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1024x12320, .f32⟩
  | .hbm, ⟨3, _⟩ => ⟨S12320x1024, .f32⟩
  | .hbm, ⟨4, _⟩ => ⟨S16384x1024, .bf16⟩
  | .hbm, ⟨5, _⟩ => ⟨S16384x3072, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | .local _ .vmem, ⟨3, _⟩ => ⟨S1024x1024, .f32⟩
  | .local _ .vmem, ⟨4, _⟩ => ⟨S4096x1024, .bf16⟩
  | .local _ .vmem, ⟨5, _⟩ => ⟨S4096x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_mult1 (i : grid0.Coords) : BitVec 32 :=
  let c9248_i32 : BitVec 32 := 9248#32
  let arg0 : BitVec 32 := BitVec.ofNat 32 (i 0).val
  let c1024_i32 : BitVec 32 := 1024#32
  let v0 : BitVec 32 := Scalar.muli arg0 c1024_i32
  let v1 : BitVec 32 := Scalar.addi c9248_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c9248_i32 : BitVec 32 := 9248#32
  let v1 : BitVec 32 := Scalar.addi c9248_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesIdeal.lean ====
variable {F : FTy → Type} [FloatOps F] [Named F]
def κ : String → Option EReal := fun
  | "neg_log2e" => some ((-((Real.log 2)⁻¹) : ℝ) : EReal)
  | _ => none
-- ==== GatesRefIdeal.lean ====
abbrev S2x8192x1024 : Shape := ⟨3, ![2, 8192, 1024]⟩
abbrev S1x1024x12320 : Shape := ⟨3, ![1, 1024, 12320]⟩
abbrev S1024x12320 : Shape := ⟨2, ![1024, 12320]⟩
abbrev S2x8192x12320 : Shape := ⟨3, ![2, 8192, 12320]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S_ : Shape := ⟨0, ![]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S2x8192x1024, .f32⟩
  | .hbm, ⟨3, _⟩ => ⟨S1024x12320, .f32⟩
  | .hbm, ⟨4, _⟩ => ⟨S2x8192x12320, .f32⟩
  | .hbm, ⟨5, _⟩ => ⟨S2x8192x2048, .f32⟩
  | .hbm, ⟨6, _⟩ => ⟨S2x8192x3072, .f32⟩
  | .hbm, ⟨7, _⟩ => ⟨S2x8192x32, .f32⟩
  | .hbm, ⟨8, _⟩ => ⟨S2x8192x1536, .f32⟩
  | .hbm, ⟨9, _⟩ => ⟨S2x8192x1536, .f32⟩
  | .hbm, ⟨10, _⟩ => ⟨S2x8192x1024, .f32⟩
  | .hbm, ⟨11, _⟩ => ⟨S2x8192x3072, .f32⟩
  | .hbm, ⟨12, _⟩ => ⟨S2x8192x3072, .f32⟩
  | .hbm, ⟨13, _⟩ => ⟨S2x8192x3072, .f32⟩
  | .hbm, ⟨14, _⟩ => ⟨S_, .f32⟩
  | .hbm, ⟨15, _⟩ => ⟨S2x8192x3072, .f32⟩
  | .hbm, ⟨16, _⟩ => ⟨S2x8192x3072, .f32⟩
  | .hbm, ⟨17, _⟩ => ⟨S_, .f32⟩
  | .hbm, ⟨18, _⟩ => ⟨S2x8192x3072, .f32⟩
  | .hbm, ⟨19, _⟩ => ⟨S2x8192x3072, .f32⟩
  | .hbm, ⟨20, _⟩ => ⟨S16384x3072, .f32⟩
  | .hbm, ⟨21, _⟩ => ⟨S16384x3072, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Xbc.lean ====
abbrev S2x8192x1024 : Shape := ⟨3, ![2, 8192, 1024]⟩
abbrev S1x1024x12320 : Shape := ⟨3, ![1, 1024, 12320]⟩
abbrev S1x4x3072 : Shape := ⟨3, ![1, 4, 3072]⟩
abbrev S1x3072 : Shape := ⟨2, ![1, 3072]⟩
abbrev S1024x12320 : Shape := ⟨2, ![1024, 12320]⟩
abbrev S12320x1024 : Shape := ⟨2, ![12320, 1024]⟩
abbrev S16384x1024 : Shape := ⟨2, ![16384, 1024]⟩
abbrev S4x3072 : Shape := ⟨2, ![4, 3072]⟩
abbrev S3072 : Shape := ⟨1, ![3072]⟩
abbrev S16384x3072 : Shape := ⟨2, ![16384, 3072]⟩
abbrev S2048x1024 : Shape := ⟨2, ![2048, 1024]⟩
abbrev S1024x1024 : Shape := ⟨2, ![1024, 1024]⟩
abbrev S4x1024 : Shape := ⟨2, ![4, 1024]⟩
abbrev S1x1024 : Shape := ⟨2, ![1, 1024]⟩
abbrev S8x2064x128 : Shape := ⟨3, ![8, 2064, 128]⟩
abbrev S8x16x128 : Shape := ⟨3, ![8, 16, 128]⟩
abbrev S1024x128 : Shape := ⟨2, ![1024, 128]⟩
abbrev S1x1024x128 : Shape := ⟨3, ![1, 1024, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1x4x3072, .f32⟩
  | .hbm, ⟨3, _⟩ => ⟨S1x3072, .f32⟩
  | .hbm, ⟨4, _⟩ => ⟨S1024x12320, .f32⟩
  | .hbm, ⟨5, _⟩ => ⟨S12320x1024, .f32⟩
  | .hbm, ⟨6, _⟩ => ⟨S16384x1024, .bf16⟩
  | .hbm, ⟨7, _⟩ => ⟨S4x3072, .f32⟩
  | .hbm, ⟨8, _⟩ => ⟨S3072, .f32⟩
  | .hbm, ⟨9, _⟩ => ⟨S1x3072, .f32⟩
  | .hbm, ⟨10, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S8x2064x128, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c2048_i32 : BitVec 32 := 2048#32
  let arg0 : BitVec 32 := BitVec.ofNat 32 (i 0).val
  let c1024_i32 : BitVec 32 := 1024#32
  let v0 : BitVec 32 := Scalar.muli arg0 c1024_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XbcIdeal.lean ====
variable {F : FTy → Type} [FloatOps F] [Named F]
def κ : String → Option EReal := fun
  | "neg_log2e" => some ((-((Real.log 2)⁻¹) : ℝ) : EReal)
  | _ => none
-- ==== XbcRefIdeal.lean ====
abbrev S2x8192x1024 : Shape := ⟨3, ![2, 8192, 1024]⟩
abbrev S1x1024x12320 : Shape := ⟨3, ![1, 1024, 12320]⟩
abbrev S1x4x3072 : Shape := ⟨3, ![1, 4, 3072]⟩
abbrev S1x3072 : Shape := ⟨2, ![1, 3072]⟩
abbrev S1024x12320 : Shape := ⟨2, ![1024, 12320]⟩
abbrev S2x8192x12320 : Shape := ⟨3, ![2, 8192, 12320]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S4x3072 : Shape := ⟨2, ![4, 3072]⟩
abbrev S3072 : Shape := ⟨1, ![3072]⟩
abbrev S_ : Shape := ⟨0, ![]⟩
abbrev S2x8195x3072 : Shape := ⟨3, ![2, 8195, 3072]⟩
abbrev S1x1x3072 : Shape := ⟨3, ![1, 1, 3072]⟩
abbrev S16384x3072 : Shape := ⟨2, ![16384, 3072]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1x4x3072, .f32⟩
  | .hbm, ⟨3, _⟩ => ⟨S1x3072, .f32⟩
  | .hbm, ⟨4, _⟩ => ⟨S2x8192x1024, .f32⟩
  | .hbm, ⟨5, _⟩ => ⟨S1024x12320, .f32⟩
  | .hbm, ⟨6, _⟩ => ⟨S2x8192x12320, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1536, .f32⟩
  | .hbm, ⟨11, _⟩ => ⟨S2x8192x1536, .f32⟩
  | .hbm, ⟨12, _⟩ => ⟨S2x8192x1024, .f32⟩
  | .hbm, ⟨13, _⟩ => ⟨S2x8192x3072, .f32⟩
  | .hbm, ⟨14, _⟩ => ⟨S4x3072, .f32⟩
  | .hbm, ⟨15, _⟩ => ⟨S3072, .f32⟩
  | .hbm, ⟨16, _⟩ => ⟨S_, .i32⟩
  | .hbm, ⟨17, _⟩ => ⟨S_, .f32⟩
  | .hbm, ⟨18, _⟩ => ⟨S2x8195x3072, .f32⟩
  | .hbm, ⟨19, _⟩ => ⟨S2x8192x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S2x8192x3072, .f32⟩
  | .hbm, ⟨24, _⟩ => ⟨S2x8192x3072, .f32⟩
  | .hbm, ⟨25, _⟩ => ⟨S2x8192x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S2x8192x3072, .f32⟩
  | .hbm, ⟨30, _⟩ => ⟨S2x8192x3072, .f32⟩
  | .hbm, ⟨31, _⟩ => ⟨S2x8192x3072, .f32⟩
  | .hbm, ⟨32, _⟩ => ⟨S2x8192x3072, .f32⟩
  | .hbm, ⟨33, _⟩ => ⟨S1x3072, .f32⟩
  | .hbm, ⟨34, _⟩ => ⟨S3072, .f32⟩
  | .hbm, ⟨35, _⟩ => ⟨S1x1x3072, .f32⟩
  | .hbm, ⟨36, _⟩ => ⟨S2x8192x3072, .f32⟩
  | .hbm, ⟨37, _⟩ => ⟨S2x8192x3072, .f32⟩
  | .hbm, ⟨38, _⟩ => ⟨S2x8192x3072, .f32⟩
  | .hbm, ⟨39, _⟩ => ⟨S2x8192x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S2x8192x3072, .f32⟩
  | .hbm, ⟨44, _⟩ => ⟨S2x8192x3072, .f32⟩
  | .hbm, ⟨45, _⟩ => ⟨S2x8192x3072, .f32⟩
  | .hbm, ⟨46, _⟩ => ⟨S1x1x3072, .f32⟩
  | .hbm, ⟨47, _⟩ => ⟨S2x8192x3072, .f32⟩
  | .hbm, ⟨48, _⟩ => ⟨S2x8192x3072, .f32⟩
  | .hbm, ⟨49, _⟩ => ⟨S2x8192x3072, .f32⟩
  | .hbm, ⟨50, _⟩ => ⟨S2x8192x3072, .f32⟩
  | .hbm, ⟨51, _⟩ => ⟨S_, .f32⟩
  | .hbm, ⟨52, _⟩ => ⟨S2x8192x3072, .f32⟩
  | .hbm, ⟨53, _⟩ => ⟨S2x8192x3072, .f32⟩
  | .hbm, ⟨54, _⟩ => ⟨S_, .f32⟩
  | .hbm, ⟨55, _⟩ => ⟨S2x8192x3072, .f32⟩
  | .hbm, ⟨56, _⟩ => ⟨S2x8192x3072, .f32⟩
  | .hbm, ⟨57, _⟩ => ⟨S2x8192x3072, .f32⟩
  | .hbm, ⟨58, _⟩ => ⟨S16384x3072, .f32⟩
  | .hbm, ⟨59, _⟩ => ⟨S16384x3072, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Lx.lean ====
abbrev S2x8192x1024 : Shape := ⟨3, ![2, 8192, 1024]⟩
abbrev S1x1024x12320 : Shape := ⟨3, ![1, 1024, 12320]⟩
abbrev S1x4x1536 : Shape := ⟨3, ![1, 4, 1536]⟩
abbrev S1x1536 : Shape := ⟨2, ![1, 1536]⟩
abbrev S1024x12320 : Shape := ⟨2, ![1024, 12320]⟩
abbrev S12320x1024 : Shape := ⟨2, ![12320, 1024]⟩
abbrev S16384x1024 : Shape := ⟨2, ![16384, 1024]⟩
abbrev S4x1536 : Shape := ⟨2, ![4, 1536]⟩
abbrev S1536 : Shape := ⟨1, ![1536]⟩
abbrev S16384x1536 : Shape := ⟨2, ![16384, 1536]⟩
abbrev S2048x1024 : Shape := ⟨2, ![2048, 1024]⟩
abbrev S768x1024 : Shape := ⟨2, ![768, 1024]⟩
abbrev S4x768 : Shape := ⟨2, ![4, 768]⟩
abbrev S1x768 : Shape := ⟨2, ![1, 768]⟩
abbrev S2048x768 : Shape := ⟨2, ![2048, 768]⟩
abbrev S1024x768 : Shape := ⟨2, ![1024, 768]⟩
abbrev S6x2064x128 : Shape := ⟨3, ![6, 2064, 128]⟩
abbrev S6x16x128 : Shape := ⟨3, ![6, 16, 128]⟩
abbrev S1024x1024 : Shape := ⟨2, ![1024, 1024]⟩
abbrev S1024x128 : Shape := ⟨2, ![1024, 128]⟩
abbrev S1x1024x128 : Shape := ⟨3, ![1, 1024, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1x4x1536, .f32⟩
  | .hbm, ⟨3, _⟩ => ⟨S1x1536, .f32⟩
  | .hbm, ⟨4, _⟩ => ⟨S1024x12320, .f32⟩
  | .hbm, ⟨5, _⟩ => ⟨S12320x1024, .f32⟩
  | .hbm, ⟨6, _⟩ => ⟨S16384x1024, .bf16⟩
  | .hbm, ⟨7, _⟩ => ⟨S4x1536, .f32⟩
  | .hbm, ⟨8, _⟩ => ⟨S1536, .f32⟩
  | .hbm, ⟨9, _⟩ => ⟨S1x1536, .f32⟩
  | .hbm, ⟨10, _⟩ => ⟨S16384x1536, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .f32⟩
  | .local _ .vmem, ⟨3, _⟩ => ⟨S768x1024, .f32⟩
  | .local _ .vmem, ⟨4, _⟩ => ⟨S4x768, .f32⟩
  | .local _ .vmem, ⟨5, _⟩ => ⟨S4x768, .f32⟩
  | .local _ .vmem, ⟨6, _⟩ => ⟨S1x768, .f32⟩
  | .local _ .vmem, ⟨7, _⟩ => ⟨S1x768, .f32⟩
  | .local _ .vmem, ⟨8, _⟩ => ⟨S2048x768, .bf16⟩
  | .local _ .vmem, ⟨9, _⟩ => ⟨S2048x768, .bf16⟩
  | .local _ .vmem, ⟨10, _⟩ => ⟨S1024x768, .bf16⟩
  | .local _ .vmem, ⟨11, _⟩ => ⟨S6x2064x128, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c6688_i32 : BitVec 32 := 6688#32
  let arg0 : BitVec 32 := BitVec.ofNat 32 (i 0).val
  let c768_i32 : BitVec 32 := 768#32
  let v0 : BitVec 32 := Scalar.muli arg0 c768_i32
  let v1 : BitVec 32 := Scalar.addi c6688_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c6688_i32 : BitVec 32 := 6688#32
  let v1 : BitVec 32 := Scalar.addi c6688_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LxRefIdeal.lean ====
abbrev S2x8192x1024 : Shape := ⟨3, ![2, 8192, 1024]⟩
abbrev S1x1024x12320 : Shape := ⟨3, ![1, 1024, 12320]⟩
abbrev S1x4x1536 : Shape := ⟨3, ![1, 4, 1536]⟩
abbrev S1x1536 : Shape := ⟨2, ![1, 1536]⟩
abbrev S1024x12320 : Shape := ⟨2, ![1024, 12320]⟩
abbrev S2x8192x12320 : Shape := ⟨3, ![2, 8192, 12320]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x1536 : Shape := ⟨3, ![2, 8192, 1536]⟩
abbrev S4x1536 : Shape := ⟨2, ![4, 1536]⟩
abbrev S1536 : Shape := ⟨1, ![1536]⟩
abbrev S_ : Shape := ⟨0, ![]⟩
abbrev S2x8195x1536 : Shape := ⟨3, ![2, 8195, 1536]⟩
abbrev S1x1x1536 : Shape := ⟨3, ![1, 1, 1536]⟩
abbrev S16384x1536 : Shape := ⟨2, ![16384, 1536]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x12320, .f32⟩
  | .hbm, ⟨2, _⟩ => ⟨S1x4x1536, .f32⟩
  | .hbm, ⟨3, _⟩ => ⟨S1x1536, .f32⟩
  | .hbm, ⟨4, _⟩ => ⟨S2x8192x1024, .f32⟩
  | .hbm, ⟨5, _⟩ => ⟨S1024x12320, .f32⟩
  | .hbm, ⟨6, _⟩ => ⟨S2x8192x12320, .f32⟩
  | .hbm, ⟨7, _⟩ => ⟨S2x8192x2048, .f32⟩
  | .hbm, ⟨8, _⟩ => ⟨S2x8192x3072, .f32⟩
  | .hbm, ⟨9, _⟩ => ⟨S2x8192x32, .f32⟩
  | .hbm, ⟨10, _⟩ => ⟨S2x8192x1536, .f32⟩
  | .hbm, ⟨11, _⟩ => ⟨S2x8192x1536, .f32⟩
  | .hbm, ⟨12, _⟩ => ⟨S2x8192x1024, .f32⟩
  | .hbm, ⟨13, _⟩ => ⟨S2x8192x3072, .f32⟩
  | .hbm, ⟨14, _⟩ => ⟨S4x1536, .f32⟩
  | .hbm, ⟨15, _⟩ => ⟨S1536, .f32⟩
  | .hbm, ⟨16, _⟩ => ⟨S_, .i32⟩
  | .hbm, ⟨17, _⟩ => ⟨S_, .f32⟩
  | .hbm, ⟨18, _⟩ => ⟨S2x8195x1536, .f32⟩
  | .hbm, ⟨19, _⟩ => ⟨S2x8192x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S2x8192x1536, .f32⟩
  | .hbm, ⟨24, _⟩ => ⟨S2x8192x1536, .f32⟩
  | .hbm, ⟨25, _⟩ => ⟨S2x8192x1536, .f32⟩
  | .hbm, ⟨26, _⟩ => ⟨S1x1536, .f32⟩
  | .hbm, ⟨27, _⟩ => ⟨S1536, .f32⟩
  | .hbm, ⟨28, _⟩ => ⟨S1x1x1536, .f32⟩
  | .hbm, ⟨29, _⟩ => ⟨S2x8192x1536, .f32⟩
  | .hbm, ⟨30, _⟩ => ⟨S2x8192x1536, .f32⟩
  | .hbm, ⟨31, _⟩ => ⟨S2x8192x1536, .f32⟩
  | .hbm, ⟨32, _⟩ => ⟨S2x8192x1536, .f32⟩
  | .hbm, ⟨33, _⟩ => ⟨S1x1536, .f32⟩
  | .hbm, ⟨34, _⟩ => ⟨S1536, .f32⟩
  | .hbm, ⟨35, _⟩ => ⟨S1x1x1536, .f32⟩
  | .hbm, ⟨36, _⟩ => ⟨S2x8192x1536, .f32⟩
  | .hbm, ⟨37, _⟩ => ⟨S2x8192x1536, .f32⟩
  | .hbm, ⟨38, _⟩ => ⟨S2x8192x1536, .f32⟩
  | .hbm, ⟨39, _⟩ => ⟨S2x8192x1536, .f32⟩
  | .hbm, ⟨40, _⟩ => ⟨S1x1536, .f32⟩
  | .hbm, ⟨41, _⟩ => ⟨S1536, .f32⟩
  | .hbm, ⟨42, _⟩ => ⟨S1x1x1536, .f32⟩
  | .hbm, ⟨43, _⟩ => ⟨S2x8192x1536, .f32⟩
  | .hbm, ⟨44, _⟩ => ⟨S2x8192x1536, .f32⟩
  | .hbm, ⟨45, _⟩ => ⟨S2x8192x1536, .f32⟩
  | .hbm, ⟨46, _⟩ => ⟨S1x1x1536, .f32⟩
  | .hbm, ⟨47, _⟩ => ⟨S2x8192x1536, .f32⟩
  | .hbm, ⟨48, _⟩ => ⟨S2x8192x1536, .f32⟩
  | .hbm, ⟨49, _⟩ => ⟨S16384x1536, .f32⟩
  | .hbm, ⟨50, _⟩ => ⟨S16384x1536, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Kv.lean ====
abbrev S2x256x1024 : Shape := ⟨3, ![2, 256, 1024]⟩
abbrev S1x1024 : Shape := ⟨2, ![1, 1024]⟩
abbrev S1x1024x2048 : Shape := ⟨3, ![1, 1024, 2048]⟩
abbrev S512x1024 : Shape := ⟨2, ![512, 1024]⟩
abbrev S1024 : Shape := ⟨1, ![1024]⟩
abbrev S1024x2048 : Shape := ⟨2, ![1024, 2048]⟩
abbrev S512x2048 : Shape := ⟨2, ![512, 2048]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S512x1024, .f32⟩
  | .hbm, ⟨4, _⟩ => ⟨S1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S512x2048, .bf16⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvRefIdeal.lean ====
abbrev S2x256x1024 : Shape := ⟨3, ![2, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x2048, .f32⟩
  | .hbm, ⟨21, _⟩ => ⟨S2x256x2048, .f32⟩
  | .hbm, ⟨22, _⟩ => ⟨S512x2048, .f32⟩
  | .hbm, ⟨23, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Merge.lean ====
abbrev S2x8192x2048 : Shape := ⟨3, ![2, 8192, 2048]⟩
abbrev S2x8192x1536 : Shape := ⟨3, ![2, 8192, 1536]⟩
abbrev S2x8192x1024 : Shape := ⟨3, ![2, 8192, 1024]⟩
abbrev S2x256x2048 : Shape := ⟨3, ![2, 256, 2048]⟩
abbrev S2x8192x3072 : Shape := ⟨3, ![2, 8192, 3072]⟩
abbrev S1x2048x1024 : Shape := ⟨3, ![1, 2048, 1024]⟩
abbrev S1x1536x1024 : Shape := ⟨3, ![1, 1536, 1024]⟩
abbrev S1x1024x1024 : Shape := ⟨3, ![1, 1024, 1024]⟩
abbrev S1024 : Shape := ⟨1, ![1024]⟩
abbrev S16384x2048 : Shape := ⟨2, ![16384, 2048]⟩
abbrev S16384x1536 : Shape := ⟨2, ![16384, 1536]⟩
abbrev S16384x1024 : Shape := ⟨2, ![16384, 1024]⟩
abbrev S512x2048 : Shape := ⟨2, ![512, 2048]⟩
abbrev S16384x3072 : Shape := ⟨2, ![16384, 3072]⟩
abbrev S2048x1024 : Shape := ⟨2, ![2048, 1024]⟩
abbrev S1536x1024 : Shape := ⟨2, ![1536, 1024]⟩
abbrev S1024x1024 : Shape := ⟨2, ![1024, 1024]⟩
abbrev S1x1024 : Shape := ⟨2, ![1, 1024]⟩
abbrev S512x1536 : Shape := ⟨2, ![512, 1536]⟩
abbrev S512x1024 : Shape := ⟨2, ![512, 1024]⟩
abbrev S256x2048 : Shape := ⟨2, ![256, 2048]⟩
abbrev S512x3072 : Shape := ⟨2, ![512, 3072]⟩
abbrev S256x256 : Shape := ⟨2, ![256, 256]⟩
abbrev S256 : Shape := ⟨1, ![256]⟩
abbrev S256x1 : Shape := ⟨2, ![256, 1]⟩
abbrev S512 : Shape := ⟨1, ![512]⟩
abbrev S512x1 : Shape := ⟨2, ![512, 1]⟩

abbrev nBuf : Space → Nat
  | .hbm => 27
  | .vmem => 20
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1536, .bf16⟩
  | .hbm, ⟨2, _⟩ => ⟨S2x8192x1024, .bf16⟩
  | .hbm, ⟨3, _⟩ => ⟨S2x256x2048, .bf16⟩
  | .hbm, ⟨4, _⟩ => ⟨S2x8192x3072, .bf16⟩
  | .hbm, ⟨5, _⟩ => ⟨S2x8192x1024, .f32⟩
  | .hbm, ⟨6, _⟩ => ⟨S1x2048x1024, .f32⟩
  | .hbm, ⟨7, _⟩ => ⟨S1x1536x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S16384x2048, .bf16⟩
  | .hbm, ⟨12, _⟩ => ⟨S16384x1536, .bf16⟩
  | .hbm, ⟨13, _⟩ => ⟨S16384x1024, .bf16⟩
  | .hbm, ⟨14, _⟩ => ⟨S512x2048, .bf16⟩
  | .hbm, ⟨15, _⟩ => ⟨S16384x3072, .bf16⟩
  | .hbm, ⟨16, _⟩ => ⟨S16384x1024, .f32⟩
  | .hbm, ⟨17, _⟩ => ⟨S2048x1024, .f32⟩
  | .hbm, ⟨18, _⟩ => ⟨S2048x1024, .bf16⟩
  | .hbm, ⟨19, _⟩ => ⟨S1536x1024, .f32⟩
  | .hbm, ⟨20, _⟩ => ⟨S1536x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S256x2048, .bf16⟩
  | .local _ .vmem, ⟨7, _⟩ => ⟨S256x2048, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | .local _ .vmem, ⟨13, _⟩ => ⟨S1536x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S2x8192x2048 : Shape := ⟨3, ![2, 8192, 2048]⟩
abbrev S2x8192x1536 : Shape := ⟨3, ![2, 8192, 1536]⟩
abbrev S2x8192x1024 : Shape := ⟨3, ![2, 8192, 1024]⟩
abbrev S2x256x2048 : Shape := ⟨3, ![2, 256, 2048]⟩
abbrev S2x8192x3072 : Shape := ⟨3, ![2, 8192, 3072]⟩
abbrev S1x2048x1024 : Shape := ⟨3, ![1, 2048, 1024]⟩
abbrev S1x1536x1024 : Shape := ⟨3, ![1, 1536, 1024]⟩
abbrev S1x1024x1024 : Shape := ⟨3, ![1, 1024, 1024]⟩
abbrev S1024 : Shape := ⟨1, ![1024]⟩
abbrev S2x256x1024 : Shape := ⟨3, ![2, 256, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S2x8192x3x1024 : Shape := ⟨4, ![2, 8192, 3, 1024]⟩
abbrev S2x8192x1x1024 : Shape := ⟨4, ![2, 8192, 1, 1024]⟩
abbrev S2048x1024 : Shape := ⟨2, ![2048, 1024]⟩
abbrev S1536x1024 : Shape := ⟨2, ![1536, 1024]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1536, .bf16⟩
  | .hbm, ⟨2, _⟩ => ⟨S2x8192x1024, .bf16⟩
  | .hbm, ⟨3, _⟩ => ⟨S2x256x2048, .bf16⟩
  | .hbm, ⟨4, _⟩ => ⟨S2x8192x3072, .bf16⟩
  | .hbm, ⟨5, _⟩ => ⟨S2x8192x1024, .f32⟩
  | .hbm, ⟨6, _⟩ => ⟨S1x2048x1024, .f32⟩
  | .hbm, ⟨7, _⟩ => ⟨S1x1536x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S2x8192x2048, .f32⟩
  | .hbm, ⟨12, _⟩ => ⟨S2x8192x1536, .f32⟩
  | .hbm, ⟨13, _⟩ => ⟨S2x8192x1024, .f32⟩
  | .hbm, ⟨14, _⟩ => ⟨S2x256x2048, .f32⟩
  | .hbm, ⟨15, _⟩ => ⟨S2x8192x3072, .f32⟩
  | .hbm, ⟨16, _⟩ => ⟨S2x256x1024, .f32⟩
  | .hbm, ⟨17, _⟩ => ⟨S2x256x1024, .f32⟩
  | .hbm, ⟨18, _⟩ => ⟨S2x8192x4x256, .f32⟩
  | .hbm, ⟨19, _⟩ => ⟨S2x256x4x256, .f32⟩
  | .hbm, ⟨20, _⟩ => ⟨S2x256x4x256, .f32⟩
  | .hbm, ⟨21, _⟩ => ⟨S2x4x8192x256, .f32⟩
  | .hbm, ⟨22, _⟩ => ⟨S_, .f32⟩
  | .hbm, ⟨23, _⟩ => ⟨S2x4x8192x256, .f32⟩
  | .hbm, ⟨24, _⟩ => ⟨S2x4x8192x256, .f32⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S2x4x8192, .f32⟩
  | .hbm, ⟨30, _⟩ => ⟨S2x4x8192x1, .f32⟩
  | .hbm, ⟨31, _⟩ => ⟨S2x4x8192x256, .f32⟩
  | .hbm, ⟨32, _⟩ => ⟨S2x4x8192x256, .f32⟩
  | .hbm, ⟨33, _⟩ => ⟨S2x4x8192x256, .f32⟩
  | .hbm, ⟨34, _⟩ => ⟨S_, .f32⟩
  | .hbm, ⟨35, _⟩ => ⟨S2x4x8192, .f32⟩
  | .hbm, ⟨36, _⟩ => ⟨S2x4x8192x1, .f32⟩
  | .hbm, ⟨37, _⟩ => ⟨S2x4x8192x256, .f32⟩
  | .hbm, ⟨38, _⟩ => ⟨S2x4x8192x256, .f32⟩
  | .hbm, ⟨39, _⟩ => ⟨S2x4x256x8192, .f32⟩
  | .hbm, ⟨40, _⟩ => ⟨S2x8192x4x256, .f32⟩
  | .hbm, ⟨41, _⟩ => ⟨S2x8192x1024, .f32⟩
  | .hbm, ⟨42, _⟩ => ⟨S2x8192x3x1024, .f32⟩
  | .hbm, ⟨43, _⟩ => ⟨S2x8192x1x1024, .f32⟩
  | .hbm, ⟨44, _⟩ => ⟨S2x8192x1024, .f32⟩
  | .hbm, ⟨45, _⟩ => ⟨S2048x1024, .f32⟩
  | .hbm, ⟨46, _⟩ => ⟨S2x8192x1024, .f32⟩
  | .hbm, ⟨47, _⟩ => ⟨S2x8192x1024, .f32⟩
  | .hbm, ⟨48, _⟩ => ⟨S2x8192x1x1024, .f32⟩
  | .hbm, ⟨49, _⟩ => ⟨S2x8192x1024, .f32⟩
  | .hbm, ⟨50, _⟩ => ⟨S1536x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1x1024, .f32⟩
  | .hbm, ⟨55, _⟩ => ⟨S2x8192x1024, .f32⟩
  | .hbm, ⟨56, _⟩ => ⟨S1024x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S1024x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S16384x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Proof.Logistic.lean ====
/-
  The one place where a projection kernel's arithmetic differs from the reference's: the kernel writes the logistic
  function with a power of two, `1 / (1 + 2 ^ (x * neg_log2e))`, the reference with the exponential,
  `1 / (1 + exp (-x))`. `neg_log2e` is the named constant `-(1 / log 2)`, so the two powers are the same extended
  real for every extended real `x`, the infinities included.
-/
module

public import Idealize.ShloMosaic.PureOps.Ideal

@[expose] public section

noncomputable section

namespace Cert.Shared

open Idealize.ShloMosaic

/-- A negative real factor sends the top of the extended reals to the bottom. -/
theorem top_mul_neg_log : (⊤ : EReal) * ((-((Real.log 2)⁻¹) : ℝ) : EReal) = ⊥ := by
  apply EReal.top_mul_coe_of_neg
  have : 0 < (Real.log 2)⁻¹ := inv_pos.mpr (Real.log_pos (by norm_num))
  linarith

/-- A negative real factor sends the bottom of the extended reals to the top. -/
theorem bot_mul_neg_log : (⊥ : EReal) * ((-((Real.log 2)⁻¹) : ℝ) : EReal) = ⊤ := by
  apply EReal.bot_mul_coe_of_neg
  have : 0 < (Real.log 2)⁻¹ := inv_pos.mpr (Real.log_pos (by norm_num))
  linarith

/-- Two to the power `x * -(1 / log 2)` is the exponential of `-x`, for every extended real `x`. -/
theorem exp2_mul_neg_log (x : EReal) :
    Ideal.exp2 (x * ((-((Real.log 2)⁻¹) : ℝ) : EReal)) = Ideal.exp (-x) := by
  induction x using EReal.rec with
  | bot => rw [bot_mul_neg_log]; rfl
  | top => rw [top_mul_neg_log]; rfl
  | coe r =>
    rw [← EReal.coe_mul, ← EReal.coe_neg, Ideal.exp2_coe, Ideal.exp_coe]
    have h2 : Real.log 2 ≠ 0 := (Real.log_pos (by norm_num)).ne'
    congr 1
    show (2 : ℝ) ^ (r * -(Real.log 2)⁻¹) = Real.exp (-r)
    rw [Real.rpow_def_of_pos (by norm_num)]
    congr 1
    field_simp

end Cert.Shared

end
-- ==== Proof.Project.lean ====
/-
  What the projection calls compute, in the extended reals and in plain words: a row of `h` times a column of the
  in-projection's weight, and the two activations. The kernels' blocks and the references' arrays are both stated
  with these functions.
-/
module

public import proofs.«01_k».proof.Proof.Logistic
public import Idealize.ShloMosaic.Lib.Pointwise

@[expose] public section

noncomputable section

namespace Cert.Shared

open Idealize.ShloMosaic

/-- The logistic function as the reference computes it. -/
def sigm (x : EReal) : EReal := Ideal.div 1 (1 + Ideal.exp (-x))

/-- The activation `x * sigm x`. -/
def silu (x : EReal) : EReal := x * sigm x

/-- Row `r` of a block `X` times column `j` of a block `W`. -/
def dotRow {R K N : ℕ} (X : FVec Ideal ⟨2, ![R, K]⟩ .bf16) (W : FVec Ideal ⟨2, ![K, N]⟩ .bf16) (r : Fin R) (j : Fin N) :
    EReal :=
  ∑ k : Fin K, X (ix2 r k) * W (ix2 k j)

/-- The in-projection: token `r` of the 2 × 8192 tokens of `h` times column `col` of the weight. -/
def proj (h : FVec Ideal ⟨3, ![2, 8192, 1024]⟩ .bf16) (w : FVec Ideal ⟨3, ![1, 1024, 12320]⟩ .f32) (r : Fin 16384)
    (col : Fin 12320) : EReal :=
  ∑ k : Fin 1024, h (ix3 ⟨r.val / 8192, by omega⟩ ⟨r.val % 8192, by omega⟩ k) * w (ix3 0 k col)

/-- Element `k` of a row `x` normalised: over the root of its mean square plus `1e-6`, times the weight `g`. -/
def normRow (x g : Fin 1024 → EReal) (k : Fin 1024) : EReal :=
  x k * Ideal.rsqrt (Ideal.div (∑ l, x l * x l) (Ideal.ofBits .f32 0x44800000#32) + Ideal.ofBits .f32 0x358637BD#32)
    * g k

/-- The two powers agree on a kernel's operation: `2 ^ (x * neg_log2e)` is `exp (-x)`. -/
theorem exp2_named (x : EReal) :
    (FloatOps.exp2 (F := Ideal) (φ := .f32) (x * ((-((Real.log 2)⁻¹) : ℝ) : EReal))) = Ideal.exp (-x) :=
  exp2_mul_neg_log x

end Cert.Shared

end
-- ==== Proof.NormBlock.lean ====
/-
  The call that normalises the rows of `x` and multiplies them by two column blocks of the in-projection's weight (the
  queries' and the 128 columns from the step sizes' first on), block by block. The grid has 16 row blocks; at the first
  one the kernel transposes both blocks of the weight into scratches, which the other points read again.
-/
module

public import proofs.«01_k».proof.Proof.Gen.NormIdeal.Frame
public import proofs.«01_k».proof.Proof.Project
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Hand

open Cert.NormIdeal Cert.NormIdeal.Gen Cert.Shared

variable (m : (ℓ : Loc nD τ sig) → Buf (Elt Ideal) ℓ)

/-- Where the windows stand at a grid point: the rows and the results at the point's row block, the norm's weight at
    its only block, the two blocks of the weight at the rows where the queries' and the step sizes' columns begin. -/
theorem idx : ∀ t : Fin cfg0.N, win0_0.index t = ![t.val, 0] ∧ win0_1.index t = ![0, 0] ∧ win0_2.index t = ![8224, 0]
    ∧ win0_3.index t = ![5120, 0] ∧ win0_4.index t = ![t.val, 0] ∧ win0_5.index t = ![t.val, 0]
    ∧ win0_6.index t = ![t.val, 0] := (by decide +kernel : ∀ t : Fin grid0.N, _)

/-- The rows that a point normalises, read from the first argument. -/
theorem rows_apply (c : Dev nD) (t : Fin cfg0.N) (r : Fin 1024) (k : Fin 1024) (h : t.val * 1024 + r.val < 16384) :
    iblk m c 0 t (ix2 r k) = m ((c : Thread nD τ).loc main_arg0)
      (ix3 ⟨(t.val * 1024 + r.val) / 8192, by omega⟩ ⟨(t.val * 1024 + r.val) % 8192, by omega⟩ k) := by
  blk_simp [iblk, idx t]
  entry_read
  pointwise
  blk_ext [idx t]

/-- The norm's weight, read from the second argument. -/
theorem gain_apply (c : Dev nD) (t : Fin cfg0.N) (k : Fin 1024) :
    iblk m c 1 t (ix2 0 k) = m ((c : Thread nD τ).loc main_arg1) (ix2 0 k) := by
  blk_simp [iblk, idx t]
  entry_read
  pointwise
  try blk_ext [idx t]

/-- The queries' block of the weight: its element `(j, k)` is the weight's column `8224 + j` at `k`. -/
theorem wq_apply (c : Dev nD) (t : Fin cfg0.N) (j k : Fin 1024) :
    iblk m c 2 t (ix2 j k) = m ((c : Thread nD τ).loc main_arg2) (ix3 0 k ⟨8224 + j.val, by omega⟩) := by
  blk_simp [iblk]
  entry_read
  have e : (((View.whole main_v1).slice (win0_2.rect t)).emb (ix2 j k) : S12320x1024.Idx)
      = ix2 ⟨8224 + j.val, by omega⟩ k := by
    have h0 : win0_2.index t (0 : Fin 2) = 8224 := congrFun (idx t).2.2.1 0
    have h1 : win0_2.index t (1 : Fin 2) = 0 := congrFun (idx t).2.2.1 1
    funext a
    apply Fin.ext
    match a with
    | ⟨0, _⟩ => show win0_2.index t (0 : Fin 2) + 1 * j.val = _; rw [h0, one_mul]; rfl
    | ⟨1, _⟩ => show win0_2.index t (1 : Fin 2) + 1 * k.val = _; rw [h1, one_mul, zero_add]; rfl
  rw [e]
  pointwise
  try rfl

/-- The step sizes' block of the weight: its element `(j, k)` is the weight's column `5120 + j` at `k`. -/
theorem wdt_apply (c : Dev nD) (t : Fin cfg0.N) (j : Fin 128) (k : Fin 1024) :
    iblk m c 3 t (ix2 j k) = m ((c : Thread nD τ).loc main_arg2) (ix3 0 k ⟨5120 + j.val, by omega⟩) := by
  blk_simp [iblk]
  entry_read
  have e : (((View.whole main_v1).slice (win0_3.rect t)).emb (ix2 j k) : S12320x1024.Idx)
      = ix2 ⟨5120 + j.val, by omega⟩ k := by
    have h0 : win0_3.index t (0 : Fin 2) = 5120 := congrFun (idx t).2.2.2.1 0
    have h1 : win0_3.index t (1 : Fin 2) = 0 := congrFun (idx t).2.2.2.1 1
    funext a
    apply Fin.ext
    match a with
    | ⟨0, _⟩ => show win0_3.index t (0 : Fin 2) + 1 * j.val = _; rw [h0, one_mul]; rfl
    | ⟨1, _⟩ => show win0_3.index t (1 : Fin 2) + 1 * k.val = _; rw [h1, one_mul, zero_add]; rfl
  rw [e]
  pointwise
  try rfl

/-- What the first scratch holds after a point: the weight's columns for the queries. -/
theorem held_q (c : Dev nD) (t : Fin cfg0.N) (k j : Fin 1024) :
    (outsAt0 m c t.val t.isLt).2.2.2.1 (ix2 k j)
      = m ((c : Thread nD τ).loc main_arg2) (ix3 0 k ⟨8224 + j.val, by omega⟩) := by
  rw [Pipeline.eq_of_write_hold (fun n h => (outsAt0 m c n h).2.2.2.1) 16
    (fun t => k0_pay3 (F := Ideal) (iblk m c 2 t))
    (fun t h => by rw [outsAt0_A m c t h]; frame_out)
    (fun t h => by rw [outsAt0_B m c t h]; rfl) t]
  pointwise [k0_pay3]
  exact wq_apply m c _ j k

/-- What the second scratch holds after a point: the weight's 128 columns from the step sizes' first on. -/
theorem held_dt (c : Dev nD) (t : Fin cfg0.N) (k : Fin 1024) (j : Fin 128) :
    (outsAt0 m c t.val t.isLt).2.2.2.2 (ix2 k j)
      = m ((c : Thread nD τ).loc main_arg2) (ix3 0 k ⟨5120 + j.val, by omega⟩) := by
  rw [Pipeline.eq_of_write_hold (fun n h => (outsAt0 m c n h).2.2.2.2) 16
    (fun t => k0_pay4 (F := Ideal) (iblk m c 3 t))
    (fun t h => by rw [outsAt0_A m c t h]; frame_out)
    (fun t h => by rw [outsAt0_B m c t h]; rfl) t]
  pointwise [k0_pay4]
  exact wdt_apply m c _ j k

/-- Row `r` of a block of rows, normalised. -/
def normed (X : FVec Ideal S1024x1024 .f32) (G : FVec Ideal S1x1024 .f32) (r k : Fin 1024) : EReal :=
  normRow (fun l => X (ix2 r l)) (fun l => G (ix2 0 l)) k

/-- One sub-block of normalised rows: 256 rows of `X` from row `o` on. -/
theorem sub_norm (X : FVec Ideal S1024x1024 .f32) (G : FVec Ideal S1x1024 .f32) (o : ℕ)
    (inb : ∀ a, (![o, 0] : Fin 2 → ℕ) a + (![256, 1024] : Fin 2 → ℕ) a ≤ S1024x1024.size a) (a : Fin 256)
    (b r : Fin 1024) (h : r.val = o + a.val) :
    k0_pay5 (F := Ideal)
        (View.ld (Val := Elt Ideal) (e' := .f32) X (Rect.unit (s := S1024x1024) ![o, 0] ![256, 1024] inb)) G (ix2 a b)
      = normed X G r b := by
  pointwise [k0_pay5]
  have hb : o + a.val < 1024 := lt_of_eq_of_lt h.symm r.isLt
  obtain rfl : r = ⟨o + a.val, hb⟩ := Fin.ext h
  rfl

/-- One sub-block of the queries: the normalised rows times the first scratch. -/
theorem sub_q (X : FVec Ideal S1024x1024 .f32) (G : FVec Ideal S1x1024 .f32) (W : FVec Ideal S1024x1024 .bf16) (o : ℕ)
    (inb : ∀ a, (![o, 0] : Fin 2 → ℕ) a + (![256, 1024] : Fin 2 → ℕ) a ≤ S1024x1024.size a) (a : Fin 256)
    (b r : Fin 1024) (h : r.val = o + a.val) :
    k0_pay6 (F := Ideal)
        (View.ld (Val := Elt Ideal) (e' := .f32) X (Rect.unit (s := S1024x1024) ![o, 0] ![256, 1024] inb)) G W (ix2 a b)
      = ∑ k, normed X G r k * W (ix2 k b) := by
  pointwise [k0_pay6, k0_pay5]
  have hb : o + a.val < 1024 := lt_of_eq_of_lt h.symm r.isLt
  obtain rfl : r = ⟨o + a.val, hb⟩ := Fin.ext h
  rfl

/-- One sub-block of the third result: the normalised rows times the second scratch. -/
theorem sub_dt (X : FVec Ideal S1024x1024 .f32) (G : FVec Ideal S1x1024 .f32) (W : FVec Ideal S1024x128 .bf16) (o : ℕ)
    (inb : ∀ a, (![o, 0] : Fin 2 → ℕ) a + (![256, 1024] : Fin 2 → ℕ) a ≤ S1024x1024.size a) (a : Fin 256)
    (b : Fin 128) (r : Fin 1024) (h : r.val = o + a.val) :
    k0_pay7 (F := Ideal)
        (View.ld (Val := Elt Ideal) (e' := .f32) X (Rect.unit (s := S1024x1024) ![o, 0] ![256, 1024] inb)) G W (ix2 a b)
      = ∑ k, normed X G r k * W (ix2 k b) := by
  pointwise [k0_pay7, k0_pay5]
  have hb : o + a.val < 1024 := lt_of_eq_of_lt h.symm r.isLt
  obtain rfl : r = ⟨o + a.val, hb⟩ := Fin.ext h
  rfl

set_option maxHeartbeats 800000 in
/-- WHAT A POINT LEAVES in the first result's block: its rows normalised. -/
theorem out_h (c : Dev nD) (t : Fin cfg0.N) (r k : Fin 1024) :
    (outsAt0 m c t.val t.isLt).1 (ix2 r k) = normed (iblk m c 0 t) (iblk m c 1 t) r k := by
  by_cases h : t.val % 16 = 0
  · rw [outsAt0_A m c t h]
    frame_open
    simp (disch := decide) only [↓ View.readCov_skip, ↓ View.readCov_cons_toLoadRect, ↓ View.readCov_fill]
    frame_out
    canon_tiles x h
    all_goals
      obtain ⟨a, b, rfl⟩ : ∃ (a : Fin 256) (b : Fin 1024), x = ix2 a b := ⟨x 0, x 1, eq_ix2 x⟩
      obtain rfl : k = b := Fin.ext h1
      refine sub_norm _ _ _ _ a k r ?_
      first | exact h0 | exact h0.trans (Nat.zero_add _).symm
  · rw [outsAt0_B m c t h]
    generalize outsAt0 m c (t.val - 1) (Nat.lt_of_le_of_lt (Nat.sub_le _ _) t.isLt) = P
    frame_open
    simp (disch := decide) only [↓ View.readCov_skip, ↓ View.readCov_cons_toLoadRect, ↓ View.readCov_fill]
    frame_out
    canon_tiles x h
    all_goals
      obtain ⟨a, b, rfl⟩ : ∃ (a : Fin 256) (b : Fin 1024), x = ix2 a b := ⟨x 0, x 1, eq_ix2 x⟩
      obtain rfl : k = b := Fin.ext h1
      refine sub_norm _ _ _ _ a k r ?_
      first | exact h0 | exact h0.trans (Nat.zero_add _).symm

set_option maxHeartbeats 800000 in
/-- WHAT A POINT LEAVES in the queries' block: its normalised rows times what the first scratch holds. -/
theorem out_q (c : Dev nD) (t : Fin cfg0.N) (r j : Fin 1024) :
    (outsAt0 m c t.val t.isLt).2.1 (ix2 r j)
      = ∑ k, normed (iblk m c 0 t) (iblk m c 1 t) r k * (outsAt0 m c t.val t.isLt).2.2.2.1 (ix2 k j) := by
  by_cases h : t.val % 16 = 0
  · rw [outsAt0_A m c t h]
    frame_open
    simp (disch := decide) only [↓ View.readCov_skip, ↓ View.readCov_cons_toLoadRect, ↓ View.readCov_fill]
    frame_out
    generalize k0_pay3 (F := Ideal) (iblk m c 2 t) = W
    canon_tiles x h
    all_goals
      obtain ⟨a, b, rfl⟩ : ∃ (a : Fin 256) (b : Fin 1024), x = ix2 a b := ⟨x 0, x 1, eq_ix2 x⟩
      obtain rfl : j = b := Fin.ext h1
      refine sub_q _ _ _ _ _ a j r ?_
      first | exact h0 | exact h0.trans (Nat.zero_add _).symm
  · rw [outsAt0_B m c t h]
    generalize outsAt0 m c (t.val - 1) (Nat.lt_of_le_of_lt (Nat.sub_le _ _) t.isLt) = P
    frame_open
    simp (disch := decide) only [↓ View.readCov_skip, ↓ View.readCov_cons_toLoadRect, ↓ View.readCov_fill]
    frame_out
    simp only [read_unread_whole]
    canon_tiles x h
    all_goals
      obtain ⟨a, b, rfl⟩ : ∃ (a : Fin 256) (b : Fin 1024), x = ix2 a b := ⟨x 0, x 1, eq_ix2 x⟩
      obtain rfl : j = b := Fin.ext h1
      refine sub_q _ _ _ _ _ a j r ?_
      first | exact h0 | exact h0.trans (Nat.zero_add _).symm

set_option maxHeartbeats 800000 in
/-- WHAT A POINT LEAVES in the third result's block: its normalised rows times what the second scratch holds. -/
theorem out_dt (c : Dev nD) (t : Fin cfg0.N) (r : Fin 1024) (j : Fin 128) :
    (outsAt0 m c t.val t.isLt).2.2.1 (ix2 r j)
      = ∑ k, normed (iblk m c 0 t) (iblk m c 1 t) r k * (outsAt0 m c t.val t.isLt).2.2.2.2 (ix2 k j) := by
  by_cases h : t.val % 16 = 0
  · rw [outsAt0_A m c t h]
    frame_open
    simp (disch := decide) only [↓ View.readCov_skip, ↓ View.readCov_cons_toLoadRect, ↓ View.readCov_fill]
    frame_out
    generalize k0_pay4 (F := Ideal) (iblk m c 3 t) = W
    canon_tiles x h
    all_goals
      obtain ⟨a, b, rfl⟩ : ∃ (a : Fin 256) (b : Fin 128), x = ix2 a b := ⟨x 0, x 1, eq_ix2 x⟩
      obtain rfl : j = b := Fin.ext h1
      refine sub_dt _ _ _ _ _ a j r ?_
      first | exact h0 | exact h0.trans (Nat.zero_add _).symm
  · rw [outsAt0_B m c t h]
    generalize outsAt0 m c (t.val - 1) (Nat.lt_of_le_of_lt (Nat.sub_le _ _) t.isLt) = P
    frame_open
    simp (disch := decide) only [↓ View.readCov_skip, ↓ View.readCov_cons_toLoadRect, ↓ View.readCov_fill]
    frame_out
    simp only [read_unread_whole]
    canon_tiles x h
    all_goals
      obtain ⟨a, b, rfl⟩ : ∃ (a : Fin 256) (b : Fin 128), x = ix2 a b := ⟨x 0, x 1, eq_ix2 x⟩
      obtain rfl : j = b := Fin.ext h1
      refine sub_dt _ _ _ _ _ a j r ?_
      first | exact h0 | exact h0.trans (Nat.zero_add _).symm

end Cert.NormIdeal.Hand

end
-- ==== Proof.NormValue.lean ====
/-
  The call that normalises `x` and projects it, as arrays: the kernel's three results after the run and the reference's are
  the same functions of the arguments.
-/
module

public import proofs.«01_k».proof.Proof.NormBlock
public import proofs.«01_k».proof.Proof.Gen.NormRefIdeal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.NormIdeal.Hand

open Cert.NormIdeal Cert.NormIdeal.Gen Cert.Shared

variable (x : FVec Ideal S2x8192x1024 .f32) (g : FVec Ideal S1x1024 .f32) (w : FVec Ideal S1x1024x12320 .f32)

/-- Element `k` of token `r` of `x`, normalised. -/
def normTok (r : Fin 16384) (k : Fin 1024) : EReal :=
  normRow (fun l => x (ix3 ⟨r.val / 8192, by omega⟩ ⟨r.val % 8192, by omega⟩ l)) (fun l => g (ix2 0 l)) k

/-- Token `r`, normalised, times column `col` of the weight. -/
def normProj (r : Fin 16384) (col : Fin 12320) : EReal := ∑ k, normTok x g r k * w (ix3 0 k col)

/-- The first result: the normalised tokens. -/
def resultH : FVec Ideal S16384x1024 .bf16 := fun i => normTok x g (i 0) (i 1)

/-- The second result: the queries. -/
def resultQ : FVec Ideal S16384x1024 .bf16 :=
  fun i => normProj x g w (i 0) ⟨8224 + (i 1).val, by have := (i 1).isLt; change _ < 1024 at this; omega⟩

/-- The third result: the 128 columns from the step sizes' first on. -/
def resultDt : FVec Ideal S16384x128 .f32 :=
  fun i => normProj x g w (i 0) ⟨5120 + (i 1).val, by have := (i 1).isLt; change _ < 128 at this; omega⟩

omit x g w
variable (m : (ℓ : Loc nD τ sig) → Buf (Elt Ideal) ℓ)

/-- A point's normalised rows are the tokens' of its row block. -/
theorem normed_eq (c : Dev nD) (t : Fin cfg0.N) (r k : Fin 1024) (h : t.val * 1024 + r.val < 16384) :
    normed (iblk m c 0 t) (iblk m c 1 t) r k = normTok (m ((c : Thread nD τ).loc main_arg0))
      (m ((c : Thread nD τ).loc main_arg1)) ⟨t.val * 1024 + r.val, h⟩ k := by
  have hx : ∀ l : Fin 1024, iblk m c 0 t (ix2 r l) = _ := fun l => rows_apply m c t r l h
  have hg : ∀ l : Fin 1024, iblk m c 1 t (ix2 0 l) = _ := fun l => gain_apply m c t l
  simp only [normed, hx, hg]
  rfl

/-- The first result array after the kernel's run. -/
theorem final_h (c : Dev nD) : (dats m 0 c).arrAt 4 (cfgs 0).N
    = resultH (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, j, rfl⟩ : ∃ (r : Fin 1024) (j : Fin 1024), y = ix2 r j := ⟨y 0, y 1, eq_ix2 y⟩
  have hN : t.val < 16 := lt_of_lt_of_eq t.isLt N_0
  have hj := j.isLt
  have hr := r.isLt
  have e : (((win0_4.blk t).view.emb (ix2 r j)) : S16384x1024.Idx)
      = ix2 ⟨t.val * 1024 + r.val, by omega⟩ j := by
    blk_ext [idx t]
  rw [e]
  exact (out_h m c t r j).trans (normed_eq m c t r j (by omega))

/-- The second result array after the kernel's run. -/
theorem final_q (c : Dev nD) : (dats m 0 c).arrAt 5 (cfgs 0).N
    = resultQ (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  obtain ⟨r, j, rfl⟩ : ∃ (r : Fin 1024) (j : Fin 1024), y = ix2 r j := ⟨y 0, y 1, eq_ix2 y⟩
  have hN : t.val < 16 := lt_of_lt_of_eq t.isLt N_0
  have hj := j.isLt
  have hr := r.isLt
  have e : (((win0_5.blk t).view.emb (ix2 r j)) : S16384x1024.Idx)
      = ix2 ⟨t.val * 1024 + r.val, by omega⟩ j := by
    blk_ext [idx t]
  rw [e]
  refine (out_q m c t r j).trans ?_
  have hw : ∀ k : Fin 1024, (outsAt0 m c t.val t.isLt).2.2.2.1 (ix2 k j) = _ := fun k => held_q m c t k j
  have hn : ∀ k : Fin 1024, normed (iblk m c 0 t) (iblk m c 1 t) r k = _ := fun k => normed_eq m c t r k (by omega)
  simp only [hn, hw]
  rfl

/-- The third result array after the kernel's run. -/
theorem final_dt (c : Dev nD) : (dats m 0 c).arrAt 6 (cfgs 0).N
    = resultDt (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6]
  obtain ⟨r, j, rfl⟩ : ∃ (r : Fin 1024) (j : Fin 128), y = ix2 r j := ⟨y 0, y 1, eq_ix2 y⟩
  have hN : t.val < 16 := lt_of_lt_of_eq t.isLt N_0
  have hj := j.isLt
  have hr := r.isLt
  have e : (((win0_6.blk t).view.emb (ix2 r j)) : S16384x128.Idx)
      = ix2 ⟨t.val * 1024 + r.val, by omega⟩ j := by
    blk_ext [idx t]
  rw [e]
  refine (out_dt m c t r j).trans ?_
  have hw : ∀ k : Fin 1024, (outsAt0 m c t.val t.isLt).2.2.2.2 (ix2 k j) = _ := fun k => held_dt m c t k j
  have hn : ∀ k : Fin 1024, normed (iblk m c 0 t) (iblk m c 1 t) r k = _ := fun k => normed_eq m c t r k (by omega)
  simp only [hn, hw]
  rfl

/-- THE KERNEL'S RUN: it ends with the three results at these functions of the arguments, and the arguments
    unchanged. -/
theorem kernel_run (ρ : Dev nD → PrngReg) :
    θ_run defs (onTc (τ := τ) (main (F := Ideal))) ⟨m, fun _ => 0, ρ⟩ fun r => ∀ c : Dev nD,
      (r.2.mem ((c : Thread nD τ).loc main_v5_0)
          = resultH (m ((c : Thread nD τ).loc main_arg0)) (m ((c : Thread nD τ).loc main_arg1))
      ∧ r.2.mem ((c : Thread nD τ).loc main_v5_1)
          = resultQ (m ((c : Thread nD τ).loc main_arg0)) (m ((c : Thread nD τ).loc main_arg1))
              (m ((c : Thread nD τ).loc main_arg2))
      ∧ r.2.mem ((c : Thread nD τ).loc main_v5_2)
          = resultDt (m ((c : Thread nD τ).loc main_arg0)) (m ((c : Thread nD τ).loc main_arg1))
              (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨⟨((h.1 c).1 4).trans (final_h m c), ((h.1 c).1 5).trans (final_q m c),
      ((h.1 c).1 6).trans (final_dt m c)⟩, h.2 c⟩)
    (θ_run_and (run_main m ρ) (unchanged m ρ))

/-- THE REFERENCE'S RUN: it ends with its results at the same functions of its arguments. -/
theorem reference_run (m : (ℓ : Loc Cert.NormRefIdeal.nD Cert.NormRefIdeal.τ Cert.NormRefIdeal.sig) → Buf (Elt Ideal) ℓ)
    (ρ : Dev Cert.NormRefIdeal.nD → PrngReg) :
    θ_run Cert.NormRefIdeal.defs (onTc (τ := Cert.NormRefIdeal.τ) (Cert.NormRefIdeal.main (F := Ideal)))
      ⟨m, fun _ => 0, ρ⟩ fun r => ∀ c : Dev Cert.NormRefIdeal.nD,
        (r.2.mem ((c.tc : Thread Cert.NormRefIdeal.nD Cert.NormRefIdeal.τ).loc Cert.NormRefIdeal.main_v25)
          = resultH (m ((c.tc : Thread Cert.NormRefIdeal.nD Cert.NormRefIdeal.τ).loc Cert.NormRefIdeal.main_arg0))
              (m ((c.tc : Thread Cert.NormRefIdeal.nD Cert.NormRefIdeal.τ).loc Cert.NormRefIdeal.main_arg1))
        ∧ r.2.mem ((c.tc : Thread Cert.NormRefIdeal.nD Cert.NormRefIdeal.τ).loc Cert.NormRefIdeal.main_v27)
          = resultQ (m ((c.tc : Thread Cert.NormRefIdeal.nD Cert.NormRefIdeal.τ).loc Cert.NormRefIdeal.main_arg0))
              (m ((c.tc : Thread Cert.NormRefIdeal.nD Cert.NormRefIdeal.τ).loc Cert.NormRefIdeal.main_arg1))
              (m ((c.tc : Thread Cert.NormRefIdeal.nD Cert.NormRefIdeal.τ).loc Cert.NormRefIdeal.main_arg2))
        ∧ r.2.mem ((c.tc : Thread Cert.NormRefIdeal.nD Cert.NormRefIdeal.τ).loc Cert.NormRefIdeal.main_v28)
          = resultDt (m ((c.tc : Thread Cert.NormRefIdeal.nD Cert.NormRefIdeal.τ).loc Cert.NormRefIdeal.main_arg0))
              (m ((c.tc : Thread Cert.NormRefIdeal.nD Cert.NormRefIdeal.τ).loc Cert.NormRefIdeal.main_arg1))
              (m ((c.tc : Thread Cert.NormRefIdeal.nD Cert.NormRefIdeal.τ).loc Cert.NormRefIdeal.main_arg2)))
        ∧ r.2.mem ((c.tc : Thread Cert.NormRefIdeal.nD Cert.NormRefIdeal.τ).loc Cert.NormRefIdeal.main_arg0)
          = m ((c.tc : Thread Cert.NormRefIdeal.nD Cert.NormRefIdeal.τ).loc Cert.NormRefIdeal.main_arg0)
        ∧ r.2.mem ((c.tc : Thread Cert.NormRefIdeal.nD Cert.NormRefIdeal.τ).loc Cert.NormRefIdeal.main_arg1)
          = m ((c.tc : Thread Cert.NormRefIdeal.nD Cert.NormRefIdeal.τ).loc Cert.NormRefIdeal.main_arg1)
        ∧ r.2.mem ((c.tc : Thread Cert.NormRefIdeal.nD Cert.NormRefIdeal.τ).loc Cert.NormRefIdeal.main_arg2)
          = m ((c.tc : Thread Cert.NormRefIdeal.nD Cert.NormRefIdeal.τ).loc Cert.NormRefIdeal.main_arg2) := by
  refine (θ_run Cert.NormRefIdeal.defs _ _).mono (fun r h c => ⟨⟨(h c).1.trans ?_, (h c).2.1.trans ?_,
    (h c).2.2.1.trans ?_⟩, (h c).2.2.2⟩) (Cert.NormRefIdeal.Value.run (F := Ideal) m ρ)
  all_goals
    generalize m ((c.tc : Thread Cert.NormRefIdeal.nD Cert.NormRefIdeal.τ).loc Cert.NormRefIdeal.main_arg0) = x0
    generalize m ((c.tc : Thread Cert.NormRefIdeal.nD Cert.NormRefIdeal.τ).loc Cert.NormRefIdeal.main_arg1) = g0
    try generalize m ((c.tc : Thread Cert.NormRefIdeal.nD Cert.NormRefIdeal.τ).loc Cert.NormRefIdeal.main_arg2) = w0
    funext i
  · obtain ⟨r, j, rfl⟩ : ∃ (r : Fin 16384) (j : Fin 1024), i = ix2 r j := ⟨i 0, i 1, eq_ix2 i⟩
    clean_types
    pointwise
    rfl
  · obtain ⟨r, j, rfl⟩ : ∃ (r : Fin 16384) (j : Fin 1024), i = ix2 r j := ⟨i 0, i 1, eq_ix2 i⟩
    clean_types
    pointwise
    rfl
  · obtain ⟨r, j, rfl⟩ : ∃ (r : Fin 16384) (j : Fin 128), i = ix2 r j := ⟨i 0, i 1, eq_ix2 i⟩
    clean_types
    pointwise
    rfl

end Cert.NormIdeal.Hand

end
-- ==== Proof.ZBlock.lean ====
/-
  The call that computes `silu (h @ w_z)`, block by block: what one grid point leaves in its block of the result, and
  what the blocks it reads hold. The grid has two column blocks of four row blocks each; at the first row block of a
  column block the kernel transposes its block of the weight into a scratch, which the other row blocks read again.
-/
module

public import proofs.«01_k».proof.Proof.Gen.ZIdeal.Frame
public import proofs.«01_k».proof.Proof.Project
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ZIdeal.Hand

open Cert.ZIdeal Cert.ZIdeal.Gen Cert.Shared

variable (m : (ℓ : Loc nD τ sig) → Buf (Elt Ideal) ℓ)

/-- Where the windows stand at a grid point: the row block is the point's number modulo 4, the column block its
    quotient by 4; the weight's window is at the row where the column block's weight begins. -/
theorem idx : ∀ t : Fin cfg0.N, win0_0.index t = ![t.val % 4, 0] ∧ win0_1.index t = ![t.val / 4 * 1024, 0]
    ∧ win0_2.index t = ![t.val % 4, t.val / 4] := (by decide +kernel : ∀ t : Fin grid0.N, _)

/-- The named constant is `-(1 / log 2)`. -/
theorem neg_log2e : (Named.named κ "neg_log2e" 0xBFB8AA3B#32 : Ideal .f32) = ((-((Real.log 2)⁻¹) : ℝ) : EReal) := rfl

/-- The rows that a point multiplies, read from the first argument. -/
theorem rows_apply (c : Dev nD) (t : Fin cfg0.N) (r : Fin 4096) (k : Fin 1024) (h : t.val % 4 * 4096 + r.val < 16384) :
    iblk m c 0 t (ix2 r k) = m ((c : Thread nD τ).loc main_arg0)
      (ix3 ⟨(t.val % 4 * 4096 + r.val) / 8192, by omega⟩ ⟨(t.val % 4 * 4096 + r.val) % 8192, by omega⟩ k) := by
  blk_simp [iblk, idx t]
  entry_read
  pointwise
  blk_ext [idx t]

/-- The block of the weight that a point may fetch: its element `(j, k)` is the weight's column `j` of the column
    block, at the contracted coordinate `k`. -/
theorem weight_apply (c : Dev nD) (t : Fin cfg0.N) (j k : Fin 1024) (h : t.val / 4 * 1024 + j.val < 12320) :
    iblk m c 1 t (ix2 j k) = m ((c : Thread nD τ).loc main_arg1) (ix3 0 k ⟨t.val / 4 * 1024 + j.val, h⟩) := by
  blk_simp [iblk]
  entry_read
  have e : (((View.whole main_v1).slice (win0_1.rect t)).emb (ix2 j k) : S12320x1024.Idx)
      = ix2 ⟨t.val / 4 * 1024 + j.val, h⟩ k := by
    have h0 : win0_1.index t (0 : Fin 2) = t.val / 4 * 1024 := congrFun (idx t).2.1 0
    have h1 : win0_1.index t (1 : Fin 2) = 0 := congrFun (idx t).2.1 1
    funext a
    apply Fin.ext
    match a with
    | ⟨0, _⟩ => show win0_1.index t (0 : Fin 2) + 1 * j.val = _; rw [h0, one_mul]; rfl
    | ⟨1, _⟩ => show win0_1.index t (1 : Fin 2) + 1 * k.val = _; rw [h1, one_mul, zero_add]; rfl
  rw [e]
  pointwise
  try rfl

/-- What the scratch holds after a point: the weight's columns of the point's column block. -/
theorem held_apply (c : Dev nD) (t : Fin cfg0.N) (k j : Fin 1024) (h : t.val / 4 * 1024 + j.val < 12320) :
    (outsAt0 m c t.val t.isLt).2 (ix2 k j)
      = m ((c : Thread nD τ).loc main_arg1) (ix3 0 k ⟨t.val / 4 * 1024 + j.val, h⟩) := by
  rw [Pipeline.eq_of_write_hold (fun n h => (outsAt0 m c n h).2) 4 (fun t => k0_pay2 (F := Ideal) (iblk m c 1 t))
    (fun t h => by rw [outsAt0_A m c t h]; frame_out)
    (fun t h => by rw [outsAt0_B m c t h]; rfl) t]
  have e : 4 * (t.val / 4) / 4 = t.val / 4 := by omega
  pointwise [k0_pay2]
  rw [weight_apply m c ⟨4 * (t.val / 4), _⟩ j k (by show 4 * (t.val / 4) / 4 * 1024 + j.val < 12320; rw [e]; exact h)]
  simp only [e]

/-- One sub-block of rows: 256 rows of `X` from row `o` on, times `W`, activated. -/
theorem sub_block (X : FVec Ideal S4096x1024 .bf16) (W : FVec Ideal S1024x1024 .bf16) (o : ℕ)
    (inb : ∀ a, (![o, 0] : Fin 2 → ℕ) a + (![256, 1024] : Fin 2 → ℕ) a ≤ S4096x1024.size a) (a : Fin 256) (b : Fin 1024)
    (r : Fin 4096) (h : r.val = o + a.val) :
    k0_pay4 (F := Ideal) (k0_pay3 (F := Ideal)
        (View.ld (Val := Elt Ideal) (e' := .bf16) X (Rect.unit (s := S4096x1024) ![o, 0] ![256, 1024] inb)) W) (ix2 a b)
      = silu (dotRow X W r b) := by
  pointwise [k0_pay4, k0_pay3, neg_log2e, exp2_named]
  have hb : o + a.val < 4096 := lt_of_eq_of_lt h.symm r.isLt
  obtain rfl : r = ⟨o + a.val, hb⟩ := Fin.ext h
  rfl

set_option maxHeartbeats 800000 in
/-- WHAT A POINT LEAVES in the result's block: every element is the activation of a row of the point's rows times a
    column of the weight that the scratch holds after the point. -/
theorem out_apply (c : Dev nD) (t : Fin cfg0.N) (r : Fin 4096) (j : Fin 1024) :
    (outsAt0 m c t.val t.isLt).1 (ix2 r j) = silu (dotRow (iblk m c 0 t) (outsAt0 m c t.val t.isLt).2 r j) := by
  by_cases h : t.val % 4 = 0
  · rw [outsAt0_A m c t h]
    frame_open
    simp (disch := decide) only [↓ View.readCov_skip, ↓ View.readCov_cons_toLoadRect, ↓ View.readCov_fill]
    frame_out
    generalize k0_pay2 (F := Ideal) (iblk m c 1 t) = W
    canon_tiles x h
    all_goals
      obtain ⟨a, b, rfl⟩ : ∃ (a : Fin 256) (b : Fin 1024), x = ix2 a b := ⟨x 0, x 1, eq_ix2 x⟩
      obtain rfl : j = b := Fin.ext h1
      refine sub_block _ _ _ _ a j r ?_
      first | exact h0 | exact h0.trans (Nat.zero_add _).symm
  · rw [outsAt0_B m c t h]
    generalize outsAt0 m c (t.val - 1) (Nat.lt_of_le_of_lt (Nat.sub_le _ _) t.isLt) = P
    frame_open
    simp (disch := decide) only [↓ View.readCov_skip, ↓ View.readCov_cons_toLoadRect, ↓ View.readCov_fill]
    frame_out
    simp only [read_unread_whole]
    canon_tiles x h
    all_goals
      obtain ⟨a, b, rfl⟩ : ∃ (a : Fin 256) (b : Fin 1024), x = ix2 a b := ⟨x 0, x 1, eq_ix2 x⟩
      obtain rfl : j = b := Fin.ext h1
      refine sub_block _ _ _ _ a j r ?_
      first | exact h0 | exact h0.trans (Nat.zero_add _).symm

end Cert.ZIdeal.Hand

end
-- ==== Proof.ZValue.lean ====
/-
  The call that computes `silu (h @ w_z)`, as arrays: the kernel's result after the run and the reference's result are
  one function of the two arguments.
-/
module

public import proofs.«01_k».proof.Proof.ZBlock
public import proofs.«01_k».proof.Proof.Gen.ZRefIdeal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.ZIdeal.Hand

open Cert.ZIdeal Cert.ZIdeal.Gen Cert.Shared

/-- The result: column `j` of token `r` is the activated product with the weight's column `j`. -/
def result (h : FVec Ideal S2x8192x1024 .bf16) (w : FVec Ideal S1x1024x12320 .f32) : FVec Ideal S16384x2048 .bf16 :=
  fun i => silu (proj h w (i 0) ⟨(i 1).val, by have := (i 1).isLt; change _ < 2048 at this; omega⟩)

/-- The result array after the kernel's run. -/
theorem final (m : (ℓ : Loc nD τ sig) → Buf (Elt Ideal) ℓ) (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 4096) (j : Fin 1024), y = ix2 r j := ⟨y 0, y 1, eq_ix2 y⟩
  have hN : t.val < 8 := lt_of_lt_of_eq t.isLt N_0
  have hj := j.isLt
  have hr := r.isLt
  have e : (((win0_2.blk t).view.emb (ix2 r j)) : S16384x2048.Idx)
      = ix2 ⟨t.val % 4 * 4096 + r.val, by omega⟩ ⟨t.val / 4 * 1024 + j.val, by omega⟩ := by
    blk_ext [idx t]
  rw [e]
  refine (out_apply m c t r j).trans ?_
  have hh : ∀ k : Fin 1024, iblk m c 0 t (ix2 r k) = _ := fun k => rows_apply m c t r k (by omega)
  have hw : ∀ k : Fin 1024, (outsAt0 m c t.val t.isLt).2 (ix2 k j) = _ := fun k => held_apply m c t k j (by omega)
  simp only [dotRow, hh, hw]
  rfl

/-- THE KERNEL'S RUN: it ends with the result at `result` of the arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ) (unchanged m ρ))

/-- THE REFERENCE'S RUN: it ends with its result at the same function of its arguments. -/
theorem reference_run (m : (ℓ : Loc Cert.ZRefIdeal.nD Cert.ZRefIdeal.τ Cert.ZRefIdeal.sig) → Buf (Elt Ideal) ℓ)
    (ρ : Dev Cert.ZRefIdeal.nD → PrngReg) :
    θ_run Cert.ZRefIdeal.defs (onTc (τ := Cert.ZRefIdeal.τ) (Cert.ZRefIdeal.main (F := Ideal))) ⟨m, fun _ => 0, ρ⟩
      fun r => ∀ c : Dev Cert.ZRefIdeal.nD,
        r.2.mem ((c.tc : Thread Cert.ZRefIdeal.nD Cert.ZRefIdeal.τ).loc Cert.ZRefIdeal.main_v12)
          = result (m ((c.tc : Thread Cert.ZRefIdeal.nD Cert.ZRefIdeal.τ).loc Cert.ZRefIdeal.main_arg0))
              (m ((c.tc : Thread Cert.ZRefIdeal.nD Cert.ZRefIdeal.τ).loc Cert.ZRefIdeal.main_arg1))
        ∧ r.2.mem ((c.tc : Thread Cert.ZRefIdeal.nD Cert.ZRefIdeal.τ).loc Cert.ZRefIdeal.main_arg0)
          = m ((c.tc : Thread Cert.ZRefIdeal.nD Cert.ZRefIdeal.τ).loc Cert.ZRefIdeal.main_arg0)
        ∧ r.2.mem ((c.tc : Thread Cert.ZRefIdeal.nD Cert.ZRefIdeal.τ).loc Cert.ZRefIdeal.main_arg1)
          = m ((c.tc : Thread Cert.ZRefIdeal.nD Cert.ZRefIdeal.τ).loc Cert.ZRefIdeal.main_arg1) := by
  refine (θ_run Cert.ZRefIdeal.defs _ _).mono (fun r h c => ⟨(h c).1.trans ?_, (h c).2⟩)
    (Cert.ZRefIdeal.Value.run (F := Ideal) m ρ)
  generalize m ((c.tc : Thread Cert.ZRefIdeal.nD Cert.ZRefIdeal.τ).loc Cert.ZRefIdeal.main_arg0) = h0
  generalize m ((c.tc : Thread Cert.ZRefIdeal.nD Cert.ZRefIdeal.τ).loc Cert.ZRefIdeal.main_arg1) = w0
  funext i
  obtain ⟨r, j, rfl⟩ : ∃ (r : Fin 16384) (j : Fin 2048), i = ix2 r j := ⟨i 0, i 1, eq_ix2 i⟩
  clean_types
  pointwise
  rfl

end Cert.ZIdeal.Hand

end
-- ==== Proof.LgBlock.lean ====
/-
  The call that computes `silu (h @ w_lg)`, block by block: what one grid point leaves in its block of the result, and
  what the blocks it reads hold. The grid has two column blocks of eight row blocks each; at the first row block of a
  column block the kernel transposes its block of the weight into a scratch, which the other row blocks read again.
-/
module

public import proofs.«01_k».proof.Proof.Gen.LgIdeal.Frame
public import proofs.«01_k».proof.Proof.Project
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LgIdeal.Hand

open Cert.LgIdeal Cert.LgIdeal.Gen Cert.Shared

variable (m : (ℓ : Loc nD τ sig) → Buf (Elt Ideal) ℓ)

/-- Where the windows stand at a grid point: the row block is the point's number modulo 8, the column block its
    quotient by 8; the weight's window is at the row where the column block's weight begins. -/
theorem idx : ∀ t : Fin cfg0.N, win0_0.index t = ![t.val % 8, 0] ∧ win0_1.index t = ![5152 + t.val / 8 * 768, 0]
    ∧ win0_2.index t = ![t.val % 8, t.val / 8] := (by decide +kernel : ∀ t : Fin grid0.N, _)

/-- The named constant is `-(1 / log 2)`. -/
theorem neg_log2e : (Named.named κ "neg_log2e" 0xBFB8AA3B#32 : Ideal .f32) = ((-((Real.log 2)⁻¹) : ℝ) : EReal) := rfl

/-- The rows that a point multiplies, read from the first argument. -/
theorem rows_apply (c : Dev nD) (t : Fin cfg0.N) (r : Fin 2048) (k : Fin 1024) (h : t.val % 8 * 2048 + r.val < 16384) :
    iblk m c 0 t (ix2 r k) = m ((c : Thread nD τ).loc main_arg0)
      (ix3 ⟨(t.val % 8 * 2048 + r.val) / 8192, by omega⟩ ⟨(t.val % 8 * 2048 + r.val) % 8192, by omega⟩ k) := by
  blk_simp [iblk, idx t]
  entry_read
  pointwise
  blk_ext [idx t]

/-- The block of the weight that a point may fetch: its element `(j, k)` is the weight's column `j` of the column
    block, at the contracted coordinate `k`. -/
theorem weight_apply (c : Dev nD) (t : Fin cfg0.N) (j : Fin 768) (k : Fin 1024) (h : 5152 + (t.val / 8 * 768 + j.val) < 12320) :
    iblk m c 1 t (ix2 j k) = m ((c : Thread nD τ).loc main_arg1) (ix3 0 k ⟨5152 + (t.val / 8 * 768 + j.val), h⟩) := by
  blk_simp [iblk]
  entry_read
  have e : (((View.whole main_v1).slice (win0_1.rect t)).emb (ix2 j k) : S12320x1024.Idx)
      = ix2 ⟨5152 + (t.val / 8 * 768 + j.val), h⟩ k := by
    have h0 : win0_1.index t (0 : Fin 2) = 5152 + t.val / 8 * 768 := congrFun (idx t).2.1 0
    have h1 : win0_1.index t (1 : Fin 2) = 0 := congrFun (idx t).2.1 1
    funext a
    apply Fin.ext
    match a with
    | ⟨0, _⟩ => show win0_1.index t (0 : Fin 2) + 1 * j.val = _; rw [h0, one_mul]; exact Nat.add_assoc _ _ _
    | ⟨1, _⟩ => show win0_1.index t (1 : Fin 2) + 1 * k.val = _; rw [h1, one_mul, zero_add]; rfl
  rw [e]
  pointwise
  try rfl

/-- What the scratch holds after a point: the weight's columns of the point's column block. -/
theorem held_apply (c : Dev nD) (t : Fin cfg0.N) (k : Fin 1024) (j : Fin 768) (h : 5152 + (t.val / 8 * 768 + j.val) < 12320) :
    (outsAt0 m c t.val t.isLt).2 (ix2 k j)
      = m ((c : Thread nD τ).loc main_arg1) (ix3 0 k ⟨5152 + (t.val / 8 * 768 + j.val), h⟩) := by
  rw [Pipeline.eq_of_write_hold (fun n h => (outsAt0 m c n h).2) 8 (fun t => k0_pay4 (F := Ideal) (iblk m c 1 t))
    (fun t h => by rw [outsAt0_A m c t h]; frame_out)
    (fun t h => by rw [outsAt0_B m c t h]; rfl) t]
  have e : 8 * (t.val / 8) / 8 = t.val / 8 := by omega
  pointwise [k0_pay4]
  rw [weight_apply m c ⟨8 * (t.val / 8), _⟩ j k (by show 5152 + (8 * (t.val / 8) / 8 * 768 + j.val) < 12320; rw [e]; exact h)]
  simp only [e]

/-- One sub-block of rows: 256 rows of `X` from row `o` on, times `W`, activated. -/
theorem sub_block (X : FVec Ideal S2048x1024 .bf16) (W : FVec Ideal S1024x768 .bf16) (o : ℕ)
    (inb : ∀ a, (![o, 0] : Fin 2 → ℕ) a + (![256, 1024] : Fin 2 → ℕ) a ≤ S2048x1024.size a) (a : Fin 256) (b : Fin 768)
    (r : Fin 2048) (h : r.val = o + a.val) :
    k0_pay6 (F := Ideal) (k0_pay5 (F := Ideal)
        (View.ld (Val := Elt Ideal) (e' := .bf16) X (Rect.unit (s := S2048x1024) ![o, 0] ![256, 1024] inb)) W) (ix2 a b)
      = silu (dotRow X W r b) := by
  pointwise [k0_pay6, k0_pay5, neg_log2e, exp2_named]
  have hb : o + a.val < 2048 := lt_of_eq_of_lt h.symm r.isLt
  obtain rfl : r = ⟨o + a.val, hb⟩ := Fin.ext h
  rfl

set_option maxHeartbeats 800000 in
/-- WHAT A POINT LEAVES in the result's block: every element is the activation of a row of the point's rows times a
    column of the weight that the scratch holds after the point. -/
theorem out_apply (c : Dev nD) (t : Fin cfg0.N) (r : Fin 2048) (j : Fin 768) :
    (outsAt0 m c t.val t.isLt).1 (ix2 r j) = silu (dotRow (iblk m c 0 t) (outsAt0 m c t.val t.isLt).2 r j) := by
  by_cases h : t.val % 8 = 0
  · rw [outsAt0_A m c t h]
    frame_open
    simp (disch := decide) only [↓ View.readCov_skip, ↓ View.readCov_cons_toLoadRect, ↓ View.readCov_fill]
    frame_out
    generalize k0_pay4 (F := Ideal) (iblk m c 1 t) = W
    canon_tiles x h
    all_goals
      obtain ⟨a, b, rfl⟩ : ∃ (a : Fin 256) (b : Fin 768), x = ix2 a b := ⟨x 0, x 1, eq_ix2 x⟩
      obtain rfl : j = b := Fin.ext h1
      refine sub_block _ _ _ _ a j r ?_
      first | exact h0 | exact h0.trans (Nat.zero_add _).symm
  · rw [outsAt0_B m c t h]
    generalize outsAt0 m c (t.val - 1) (Nat.lt_of_le_of_lt (Nat.sub_le _ _) t.isLt) = P
    frame_open
    simp (disch := decide) only [↓ View.readCov_skip, ↓ View.readCov_cons_toLoadRect, ↓ View.readCov_fill]
    frame_out
    simp only [read_unread_whole]
    canon_tiles x h
    all_goals
      obtain ⟨a, b, rfl⟩ : ∃ (a : Fin 256) (b : Fin 768), x = ix2 a b := ⟨x 0, x 1, eq_ix2 x⟩
      obtain rfl : j = b := Fin.ext h1
      refine sub_block _ _ _ _ a j r ?_
      first | exact h0 | exact h0.trans (Nat.zero_add _).symm

end Cert.LgIdeal.Hand

end
-- ==== Proof.LgValue.lean ====
/-
  The call that computes `silu (h @ w_lg)`, as arrays: the kernel's result after the run and the reference's result are
  one function of the two arguments.
-/
module

public import proofs.«01_k».proof.Proof.LgBlock
public import proofs.«01_k».proof.Proof.Gen.LgRefIdeal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LgIdeal.Hand

open Cert.LgIdeal Cert.LgIdeal.Gen Cert.Shared

/-- The result: column `j` of token `r` is the activated product with the weight's column `j`. -/
def result (h : FVec Ideal S2x8192x1024 .bf16) (w : FVec Ideal S1x1024x12320 .f32) : FVec Ideal S16384x1536 .bf16 :=
  fun i => silu (proj h w (i 0) ⟨5152 + (i 1).val, by have := (i 1).isLt; change _ < 1536 at this; omega⟩)

/-- The result array after the kernel's run. -/
theorem final (m : (ℓ : Loc nD τ sig) → Buf (Elt Ideal) ℓ) (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 2048) (j : Fin 768), y = ix2 r j := ⟨y 0, y 1, eq_ix2 y⟩
  have hN : t.val < 16 := lt_of_lt_of_eq t.isLt N_0
  have hj := j.isLt
  have hr := r.isLt
  have e : (((win0_2.blk t).view.emb (ix2 r j)) : S16384x1536.Idx)
      = ix2 ⟨t.val % 8 * 2048 + r.val, by omega⟩ ⟨t.val / 8 * 768 + j.val, by omega⟩ := by
    blk_ext [idx t]
  rw [e]
  refine (out_apply m c t r j).trans ?_
  have hh : ∀ k : Fin 1024, iblk m c 0 t (ix2 r k) = _ := fun k => rows_apply m c t r k (by omega)
  have hw : ∀ k : Fin 1024, (outsAt0 m c t.val t.isLt).2 (ix2 k j) = _ := fun k => held_apply m c t k j (by omega)
  simp only [dotRow, hh, hw]
  rfl

/-- THE KERNEL'S RUN: it ends with the result at `result` of the arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ) (unchanged m ρ))

/-- THE REFERENCE'S RUN: it ends with its result at the same function of its arguments. -/
theorem reference_run (m : (ℓ : Loc Cert.LgRefIdeal.nD Cert.LgRefIdeal.τ Cert.LgRefIdeal.sig) → Buf (Elt Ideal) ℓ)
    (ρ : Dev Cert.LgRefIdeal.nD → PrngReg) :
    θ_run Cert.LgRefIdeal.defs (onTc (τ := Cert.LgRefIdeal.τ) (Cert.LgRefIdeal.main (F := Ideal))) ⟨m, fun _ => 0, ρ⟩
      fun r => ∀ c : Dev Cert.LgRefIdeal.nD,
        r.2.mem ((c.tc : Thread Cert.LgRefIdeal.nD Cert.LgRefIdeal.τ).loc Cert.LgRefIdeal.main_v12)
          = result (m ((c.tc : Thread Cert.LgRefIdeal.nD Cert.LgRefIdeal.τ).loc Cert.LgRefIdeal.main_arg0))
              (m ((c.tc : Thread Cert.LgRefIdeal.nD Cert.LgRefIdeal.τ).loc Cert.LgRefIdeal.main_arg1))
        ∧ r.2.mem ((c.tc : Thread Cert.LgRefIdeal.nD Cert.LgRefIdeal.τ).loc Cert.LgRefIdeal.main_arg0)
          = m ((c.tc : Thread Cert.LgRefIdeal.nD Cert.LgRefIdeal.τ).loc Cert.LgRefIdeal.main_arg0)
        ∧ r.2.mem ((c.tc : Thread Cert.LgRefIdeal.nD Cert.LgRefIdeal.τ).loc Cert.LgRefIdeal.main_arg1)
          = m ((c.tc : Thread Cert.LgRefIdeal.nD Cert.LgRefIdeal.τ).loc Cert.LgRefIdeal.main_arg1) := by
  refine (θ_run Cert.LgRefIdeal.defs _ _).mono (fun r h c => ⟨(h c).1.trans ?_, (h c).2⟩)
    (Cert.LgRefIdeal.Value.run (F := Ideal) m ρ)
  generalize m ((c.tc : Thread Cert.LgRefIdeal.nD Cert.LgRefIdeal.τ).loc Cert.LgRefIdeal.main_arg0) = h0
  generalize m ((c.tc : Thread Cert.LgRefIdeal.nD Cert.LgRefIdeal.τ).loc Cert.LgRefIdeal.main_arg1) = w0
  funext i
  obtain ⟨r, j, rfl⟩ : ∃ (r : Fin 16384) (j : Fin 1536), i = ix2 r j := ⟨i 0, i 1, eq_ix2 i⟩
  clean_types
  pointwise
  rfl

end Cert.LgIdeal.Hand

end
-- ==== Proof.GatesBlock.lean ====
/-
  The call that computes `sigm (h @ w_gates)`, block by block: what one grid point leaves in its block of the result, and
  what the blocks it reads hold. The grid has three column blocks of four row blocks each; at the first row block of a
  column block the kernel transposes its block of the weight into a scratch, which the other row blocks read again.
-/
module

public import proofs.«01_k».proof.Proof.Gen.GatesIdeal.Frame
public import proofs.«01_k».proof.Proof.Project
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesIdeal.Hand

open Cert.GatesIdeal Cert.GatesIdeal.Gen Cert.Shared

variable (m : (ℓ : Loc nD τ sig) → Buf (Elt Ideal) ℓ)

/-- Where the windows stand at a grid point: the row block is the point's number modulo 4, the column block its
    quotient by 4; the weight's window is at the row where the column block's weight begins. -/
theorem idx : ∀ t : Fin cfg0.N, win0_0.index t = ![t.val % 4, 0] ∧ win0_1.index t = ![9248 + t.val / 4 * 1024, 0]
    ∧ win0_2.index t = ![t.val % 4, t.val / 4] := (by decide +kernel : ∀ t : Fin grid0.N, _)

/-- The named constant is `-(1 / log 2)`. -/
theorem neg_log2e : (Named.named κ "neg_log2e" 0xBFB8AA3B#32 : Ideal .f32) = ((-((Real.log 2)⁻¹) : ℝ) : EReal) := rfl

/-- The rows that a point multiplies, read from the first argument. -/
theorem rows_apply (c : Dev nD) (t : Fin cfg0.N) (r : Fin 4096) (k : Fin 1024) (h : t.val % 4 * 4096 + r.val < 16384) :
    iblk m c 0 t (ix2 r k) = m ((c : Thread nD τ).loc main_arg0)
      (ix3 ⟨(t.val % 4 * 4096 + r.val) / 8192, by omega⟩ ⟨(t.val % 4 * 4096 + r.val) % 8192, by omega⟩ k) := by
  blk_simp [iblk, idx t]
  entry_read
  pointwise
  blk_ext [idx t]

/-- The block of the weight that a point may fetch: its element `(j, k)` is the weight's column `j` of the column
    block, at the contracted coordinate `k`. -/
theorem weight_apply (c : Dev nD) (t : Fin cfg0.N) (j k : Fin 1024) (h : 9248 + (t.val / 4 * 1024 + j.val) < 12320) :
    iblk m c 1 t (ix2 j k) = m ((c : Thread nD τ).loc main_arg1) (ix3 0 k ⟨9248 + (t.val / 4 * 1024 + j.val), h⟩) := by
  blk_simp [iblk]
  entry_read
  have e : (((View.whole main_v1).slice (win0_1.rect t)).emb (ix2 j k) : S12320x1024.Idx)
      = ix2 ⟨9248 + (t.val / 4 * 1024 + j.val), h⟩ k := by
    have h0 : win0_1.index t (0 : Fin 2) = 9248 + t.val / 4 * 1024 := congrFun (idx t).2.1 0
    have h1 : win0_1.index t (1 : Fin 2) = 0 := congrFun (idx t).2.1 1
    funext a
    apply Fin.ext
    match a with
    | ⟨0, _⟩ => show win0_1.index t (0 : Fin 2) + 1 * j.val = _; rw [h0, one_mul]; exact Nat.add_assoc _ _ _
    | ⟨1, _⟩ => show win0_1.index t (1 : Fin 2) + 1 * k.val = _; rw [h1, one_mul, zero_add]; rfl
  rw [e]
  pointwise
  try rfl

/-- What the scratch holds after a point: the weight's columns of the point's column block. -/
theorem held_apply (c : Dev nD) (t : Fin cfg0.N) (k j : Fin 1024) (h : 9248 + (t.val / 4 * 1024 + j.val) < 12320) :
    (outsAt0 m c t.val t.isLt).2 (ix2 k j)
      = m ((c : Thread nD τ).loc main_arg1) (ix3 0 k ⟨9248 + (t.val / 4 * 1024 + j.val), h⟩) := by
  rw [Pipeline.eq_of_write_hold (fun n h => (outsAt0 m c n h).2) 4 (fun t => k0_pay1 (F := Ideal) (iblk m c 1 t))
    (fun t h => by rw [outsAt0_A m c t h]; frame_out)
    (fun t h => by rw [outsAt0_B m c t h]; rfl) t]
  have e : 4 * (t.val / 4) / 4 = t.val / 4 := by omega
  pointwise [k0_pay1]
  rw [weight_apply m c ⟨4 * (t.val / 4), _⟩ j k (by show 9248 + (4 * (t.val / 4) / 4 * 1024 + j.val) < 12320; rw [e]; exact h)]
  simp only [e]

/-- One sub-block of rows: 256 rows of `X` from row `o` on, times `W`, activated. -/
theorem sub_block (X : FVec Ideal S4096x1024 .bf16) (W : FVec Ideal S1024x1024 .bf16) (o : ℕ)
    (inb : ∀ a, (![o, 0] : Fin 2 → ℕ) a + (![256, 1024] : Fin 2 → ℕ) a ≤ S4096x1024.size a) (a : Fin 256) (b : Fin 1024)
    (r : Fin 4096) (h : r.val = o + a.val) :
    k0_pay3 (F := Ideal) (k0_pay2 (F := Ideal)
        (View.ld (Val := Elt Ideal) (e' := .bf16) X (Rect.unit (s := S4096x1024) ![o, 0] ![256, 1024] inb)) W) (ix2 a b)
      = sigm (dotRow X W r b) := by
  pointwise [k0_pay3, k0_pay2, neg_log2e, exp2_named]
  have hb : o + a.val < 4096 := lt_of_eq_of_lt h.symm r.isLt
  obtain rfl : r = ⟨o + a.val, hb⟩ := Fin.ext h
  rfl

set_option maxHeartbeats 800000 in
/-- WHAT A POINT LEAVES in the result's block: every element is the activation of a row of the point's rows times a
    column of the weight that the scratch holds after the point. -/
theorem out_apply (c : Dev nD) (t : Fin cfg0.N) (r : Fin 4096) (j : Fin 1024) :
    (outsAt0 m c t.val t.isLt).1 (ix2 r j) = sigm (dotRow (iblk m c 0 t) (outsAt0 m c t.val t.isLt).2 r j) := by
  by_cases h : t.val % 4 = 0
  · rw [outsAt0_A m c t h]
    frame_open
    simp (disch := decide) only [↓ View.readCov_skip, ↓ View.readCov_cons_toLoadRect, ↓ View.readCov_fill]
    frame_out
    generalize k0_pay1 (F := Ideal) (iblk m c 1 t) = W
    canon_tiles x h
    all_goals
      obtain ⟨a, b, rfl⟩ : ∃ (a : Fin 256) (b : Fin 1024), x = ix2 a b := ⟨x 0, x 1, eq_ix2 x⟩
      obtain rfl : j = b := Fin.ext h1
      refine sub_block _ _ _ _ a j r ?_
      first | exact h0 | exact h0.trans (Nat.zero_add _).symm
  · rw [outsAt0_B m c t h]
    generalize outsAt0 m c (t.val - 1) (Nat.lt_of_le_of_lt (Nat.sub_le _ _) t.isLt) = P
    frame_open
    simp (disch := decide) only [↓ View.readCov_skip, ↓ View.readCov_cons_toLoadRect, ↓ View.readCov_fill]
    frame_out
    simp only [read_unread_whole]
    canon_tiles x h
    all_goals
      obtain ⟨a, b, rfl⟩ : ∃ (a : Fin 256) (b : Fin 1024), x = ix2 a b := ⟨x 0, x 1, eq_ix2 x⟩
      obtain rfl : j = b := Fin.ext h1
      refine sub_block _ _ _ _ a j r ?_
      first | exact h0 | exact h0.trans (Nat.zero_add _).symm

end Cert.GatesIdeal.Hand

end
-- ==== Proof.GatesValue.lean ====
/-
  The call that computes `sigm (h @ w_gates)`, as arrays: the kernel's result after the run and the reference's result are
  one function of the two arguments.
-/
module

public import proofs.«01_k».proof.Proof.GatesBlock
public import proofs.«01_k».proof.Proof.Gen.GatesRefIdeal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.GatesIdeal.Hand

open Cert.GatesIdeal Cert.GatesIdeal.Gen Cert.Shared

/-- The result: column `j` of token `r` is the activated product with the weight's column `j`. -/
def result (h : FVec Ideal S2x8192x1024 .bf16) (w : FVec Ideal S1x1024x12320 .f32) : FVec Ideal S16384x3072 .bf16 :=
  fun i => sigm (proj h w (i 0) ⟨9248 + (i 1).val, by have := (i 1).isLt; change _ < 3072 at this; omega⟩)

/-- The result array after the kernel's run. -/
theorem final (m : (ℓ : Loc nD τ sig) → Buf (Elt Ideal) ℓ) (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 4096) (j : Fin 1024), y = ix2 r j := ⟨y 0, y 1, eq_ix2 y⟩
  have hN : t.val < 12 := lt_of_lt_of_eq t.isLt N_0
  have hj := j.isLt
  have hr := r.isLt
  have e : (((win0_2.blk t).view.emb (ix2 r j)) : S16384x3072.Idx)
      = ix2 ⟨t.val % 4 * 4096 + r.val, by omega⟩ ⟨t.val / 4 * 1024 + j.val, by omega⟩ := by
    blk_ext [idx t]
  rw [e]
  refine (out_apply m c t r j).trans ?_
  have hh : ∀ k : Fin 1024, iblk m c 0 t (ix2 r k) = _ := fun k => rows_apply m c t r k (by omega)
  have hw : ∀ k : Fin 1024, (outsAt0 m c t.val t.isLt).2 (ix2 k j) = _ := fun k => held_apply m c t k j (by omega)
  simp only [dotRow, hh, hw]
  rfl

/-- THE KERNEL'S RUN: it ends with the result at `result` of the arguments, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ) (unchanged m ρ))

/-- THE REFERENCE'S RUN: it ends with its result at the same function of its arguments. -/
theorem reference_run (m : (ℓ : Loc Cert.GatesRefIdeal.nD Cert.GatesRefIdeal.τ Cert.GatesRefIdeal.sig) → Buf (Elt Ideal) ℓ)
    (ρ : Dev Cert.GatesRefIdeal.nD → PrngReg) :
    θ_run Cert.GatesRefIdeal.defs (onTc (τ := Cert.GatesRefIdeal.τ) (Cert.GatesRefIdeal.main (F := Ideal))) ⟨m, fun _ => 0, ρ⟩
      fun r => ∀ c : Dev Cert.GatesRefIdeal.nD,
        r.2.mem ((c.tc : Thread Cert.GatesRefIdeal.nD Cert.GatesRefIdeal.τ).loc Cert.GatesRefIdeal.main_v17)
          = result (m ((c.tc : Thread Cert.GatesRefIdeal.nD Cert.GatesRefIdeal.τ).loc Cert.GatesRefIdeal.main_arg0))
              (m ((c.tc : Thread Cert.GatesRefIdeal.nD Cert.GatesRefIdeal.τ).loc Cert.GatesRefIdeal.main_arg1))
        ∧ r.2.mem ((c.tc : Thread Cert.GatesRefIdeal.nD Cert.GatesRefIdeal.τ).loc Cert.GatesRefIdeal.main_arg0)
          = m ((c.tc : Thread Cert.GatesRefIdeal.nD Cert.GatesRefIdeal.τ).loc Cert.GatesRefIdeal.main_arg0)
        ∧ r.2.mem ((c.tc : Thread Cert.GatesRefIdeal.nD Cert.GatesRefIdeal.τ).loc Cert.GatesRefIdeal.main_arg1)
          = m ((c.tc : Thread Cert.GatesRefIdeal.nD Cert.GatesRefIdeal.τ).loc Cert.GatesRefIdeal.main_arg1) := by
  refine (θ_run Cert.GatesRefIdeal.defs _ _).mono (fun r h c => ⟨(h c).1.trans ?_, (h c).2⟩)
    (Cert.GatesRefIdeal.Value.run (F := Ideal) m ρ)
  generalize m ((c.tc : Thread Cert.GatesRefIdeal.nD Cert.GatesRefIdeal.τ).loc Cert.GatesRefIdeal.main_arg0) = h0
  generalize m ((c.tc : Thread Cert.GatesRefIdeal.nD Cert.GatesRefIdeal.τ).loc Cert.GatesRefIdeal.main_arg1) = w0
  funext i
  obtain ⟨r, j, rfl⟩ : ∃ (r : Fin 16384) (j : Fin 3072), i = ix2 r j := ⟨i 0, i 1, eq_ix2 i⟩
  clean_types
  pointwise
  rfl

end Cert.GatesIdeal.Hand

end
-- ==== Proof.Conv.lean ====
/-
  One block of a causal convolution over four rows, as two of the calls compute it. The rows of a block of 128 columns are
  written to every second row of a plane of a scratch, below eight rows that were kept from the rows before; the four rows
  that a result row needs are read at four offsets of the plane; then the last eight rows are kept for the rows after.
-/
module

public import proofs.«01_k».proof.Proof.Project
public import Idealize.ShloMosaic.Lib.Pipeline.FrameBody
public import Idealize.ShloMosaic.Lib.Pipeline.ValueKit
public import Idealize.ShloMosaic.Lib.Pipeline.ReadBack
public import Idealize.ShloMosaic.Lib.Ring
public import Idealize.ShloMosaic.Lib.Tactic

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Conv

/-- A block of rows and columns. -/
abbrev Blk : Shape := ⟨2, ![1024, 128]⟩
/-- One row of a block. -/
abbrev Row : Shape := ⟨2, ![1, 128]⟩
/-- The rows kept from one block to the next. -/
abbrev Kept : Shape := ⟨2, ![8, 128]⟩
/-- A block in a plane of the scratch. -/
abbrev PBlk : Shape := ⟨3, ![1, 1024, 128]⟩
/-- The kept rows in a plane of the scratch. -/
abbrev PKept : Shape := ⟨3, ![1, 8, 128]⟩
/-- The scratch: one plane for each block of columns. -/
abbrev Pad (nc : ℕ) : Shape := ⟨3, ![nc, 2064, 128]⟩

variable {F : FTy → Type} [FloatOps F]

/-- Every second row of plane `p`, 1024 of them, from row `o` on. -/
theorem rowsInb {nc p : ℕ} (hp : p < nc) {o : ℕ} (ho : o ≤ 16) (a : Fin 3) :
    PBlk.size a = 0 ∨ (![p, o, 0] : Fin 3 → ℕ) a + (![1, 2, 1] : Fin 3 → ℕ) a * (PBlk.size a - 1) < (Pad nc).size a := by
  right; fin_cases a
  · show p + 1 * (1 - 1) < nc; omega
  · show o + 2 * (1024 - 1) < 2064; omega
  · show 0 + 1 * (128 - 1) < 128; omega

theorem keptInb {nc p : ℕ} (hp : p < nc) (a : Fin 3) :
    PKept.size a = 0 ∨ (![p, 0, 0] : Fin 3 → ℕ) a + (![1, 2, 1] : Fin 3 → ℕ) a * (PKept.size a - 1) < (Pad nc).size a := by
  right; fin_cases a
  · show p + 1 * (1 - 1) < nc; omega
  · show 0 + 2 * (8 - 1) < 2064; omega
  · show 0 + 1 * (128 - 1) < 128; omega

theorem steps (a : Fin 3) : 0 < (![1, 2, 1] : Fin 3 → ℕ) a := by fin_cases a <;> decide

theorem colInb {k W q r : ℕ} (hr : r + 1 ≤ k) (hq : 128 * q + 128 ≤ W) (a : Fin 2) :
    (![r, 128 * q] : Fin 2 → ℕ) a + Row.size a ≤ (⟨2, ![k, W]⟩ : Shape).size a := by
  fin_cases a
  · show r + 1 ≤ k; exact hr
  · show 128 * q + 128 ≤ W; exact hq

theorem outInb {W q r : ℕ} (hr : r < 2) (hq : 128 * q + 128 ≤ W) (a : Fin 2) :
    (![1024 * r, 128 * q] : Fin 2 → ℕ) a + Blk.size a ≤ (⟨2, ![2048, W]⟩ : Shape).size a := by
  fin_cases a
  · show 1024 * r + 1024 ≤ 2048; omega
  · show 128 * q + 128 ≤ W; exact hq

theorem blkPos : 0 < Blk.numel := by decide
theorem rowPos : 0 < Row.numel := by decide
theorem pblkPos : 0 < PBlk.numel := by decide
theorem pkeptPos : 0 < PKept.numel := by decide

/-- Every second row of plane `p` from row `o` on, as a rectangle of the scratch. -/
abbrev rowsAt {nc p : ℕ} (hp : p < nc) (o : ℕ) (ho : o ≤ 16) : LoadRect (Pad nc) := ⟨![p, o, 0], PBlk.size, ![1, 2, 1], rowsInb hp ho⟩
/-- The kept rows of plane `p`. -/
abbrev keptAt {nc p : ℕ} (hp : p < nc) : LoadRect (Pad nc) := ⟨![p, 0, 0], PKept.size, ![1, 2, 1], keptInb hp⟩
/-- Where a block of the result stands in it. -/
abbrev outAt {W q r : ℕ} (hr : r < 2) (hq : 128 * q + 128 ≤ W) : Rect (⟨2, ![2048, W]⟩ : Shape) :=
  Rect.unit ![1024 * r, 128 * q] Blk.size (outInb hr hq)
/-- One row of 128 columns of an array of `k` rows. -/
abbrev colAt {k W q r : ℕ} (hr : r + 1 ≤ k) (hq : 128 * q + 128 ≤ W) : Rect (⟨2, ![k, W]⟩ : Shape) :=
  Rect.unit ![r, 128 * q] Row.size (colInb hr hq)

theorem rowCast : Row.ShapeCasts Row := by decide
theorem rowBroadcasts : Row.Broadcasts Blk := by decide
theorem blkCast : Blk.ShapeCasts PBlk := by decide
theorem pblkCast : PBlk.ShapeCasts Blk := by decide
theorem keptCast : Kept.ShapeCasts PKept := by decide
theorem keptSlices : Blk.Slices ![1016, 0] Kept := by decide

/-- The block as it is put in a plane. -/
abbrev placed (x : FVec F Blk .f32) : FVec F PBlk .f32 := shapeCast PBlk x blkCast
/-- The last eight rows of the block, as they are put in a plane. -/
abbrev kept (x : FVec F Blk .f32) : FVec F PKept .f32 := shapeCast PKept (extractStridedSlice Kept ![1016, 0] x keptSlices) keptCast
/-- The bias and the four products, in the order in which they are added. -/
abbrev taps (x : FVec F Blk .f32) (b w3 w2 : FVec F Row .f32) (x1 : FVec F PBlk .f32) (w1 : FVec F Row .f32) (x2 : FVec F PBlk .f32)
    (w0 : FVec F Row .f32) (x3 : FVec F PBlk .f32) : FVec F Blk .f32 :=
  addf (addf (addf (addf (broadcastTo Blk (shapeCast Row b rowCast) rowBroadcasts)
      (mulf (broadcastTo Blk (shapeCast Row w3 rowCast) rowBroadcasts) x))
      (mulf (broadcastTo Blk (shapeCast Row w2 rowCast) rowBroadcasts) (shapeCast Blk x1 pblkCast)))
      (mulf (broadcastTo Blk (shapeCast Row w1 rowCast) rowBroadcasts) (shapeCast Blk x2 pblkCast)))
      (mulf (broadcastTo Blk (shapeCast Row w0 rowCast) rowBroadcasts) (shapeCast Blk x3 pblkCast))

/-- The rows of a grid point. -/
abbrev Rows : Shape := ⟨2, ![2048, 1024]⟩
/-- Half of them. -/
abbrev Half : Shape := ⟨2, ![1024, 1024]⟩
/-- The rows of every plane that a reset overwrites. -/
abbrev Reset (nc : ℕ) : Shape := ⟨3, ![nc, 16, 128]⟩

theorem halfPos : 0 < Half.numel := by decide

theorem halfInb {r : ℕ} (hr : r < 2) (a : Fin 2) : (![1024 * r, 0] : Fin 2 → ℕ) a + Half.size a ≤ Rows.size a := by
  fin_cases a
  · show 1024 * r + 1024 ≤ 2048; omega
  · show 0 + 1024 ≤ 1024; omega

theorem allInb (W : ℕ) (a : Fin 2) : (![0, 0] : Fin 2 → ℕ) a + (⟨2, ![1024, W]⟩ : Shape).size a ≤ (⟨2, ![1024, W]⟩ : Shape).size a := by
  fin_cases a
  · show 0 + 1024 ≤ 1024; omega
  · show 0 + W ≤ W; omega

theorem allInb' (W : ℕ) (a : Fin 2) : (![0, 0] : Fin 2 → ℕ) a + (⟨2, ![W, 1024]⟩ : Shape).size a ≤ (⟨2, ![W, 1024]⟩ : Shape).size a := by
  fin_cases a
  · show 0 + W ≤ W; omega
  · show 0 + 1024 ≤ 1024; omega

theorem resetInb (nc : ℕ) (a : Fin 3) : (![0, 0, 0] : Fin 3 → ℕ) a + (Reset nc).size a ≤ (Pad nc).size a := by
  fin_cases a
  · show 0 + nc ≤ nc; omega
  · show 0 + 16 ≤ 2064; omega
  · show 0 + 128 ≤ 128; omega

/-- A half of the rows. -/
abbrev halfAt {r : ℕ} (hr : r < 2) : Rect Rows := Rect.unit ![1024 * r, 0] Half.size (halfInb hr)
/-- All of the transposed weight. -/
abbrev allAt (W : ℕ) : Rect (⟨2, ![1024, W]⟩ : Shape) := Rect.unit ![0, 0] (⟨2, ![1024, W]⟩ : Shape).size (allInb W)
/-- All of the weight. -/
abbrev allAt' (W : ℕ) : Rect (⟨2, ![W, 1024]⟩ : Shape) := Rect.unit ![0, 0] (⟨2, ![W, 1024]⟩ : Shape).size (allInb' W)
/-- What a reset overwrites. -/
abbrev resetAt (nc : ℕ) : Rect (Pad nc) := Rect.unit ![0, 0, 0] (Reset nc).size (resetInb nc)

theorem width {nc W q : ℕ} (hW : 128 * nc = W) (hq : q < nc) : 128 * q + 128 ≤ W := by omega

theorem left {nc n : ℕ} (h : n + 1 ≤ nc) : nc - (n + 1) < nc := by omega

theorem columnSlices {nc W q : ℕ} (hW : 128 * nc = W) (hq : q < nc) : (⟨2, ![1024, W]⟩ : Shape).Slices ![0, 128 * q] Blk :=
  ⟨rfl, fun a => by
    fin_cases a
    · show 0 + 1024 ≤ 1024; omega
    · show 128 * q + 128 ≤ W; omega⟩

/-- Block `q` of the projected rows. -/
abbrev columns {nc W q : ℕ} (v : FVec F ⟨2, ![1024, W]⟩ .f32) (hW : 128 * nc = W) (hq : q < nc) : FVec F Blk .f32 :=
  extractStridedSlice Blk ![0, 128 * q] v (columnSlices hW hq)

section Program

variable {nD : ℕ} {τ : Topo} {sig : RefSig} {Λ : Labels} {nc W : ℕ}

/-- One block: its rows put in their plane, the convolution, the last rows kept, the result stored; then the rest. -/
def block (a4 : Memref sig .tc .vmem ⟨2, ![4, W]⟩ .f32) (a5 : Memref sig .tc .vmem ⟨2, ![1, W]⟩ .f32)
    (a6 : Memref sig .tc .vmem ⟨2, ![2048, W]⟩ .bf16) (a8 : Memref sig .tc .vmem (Pad nc) .f32)
    (act : FVec F Blk .f32 → FVec F Blk .bf16) {r q : ℕ} (hr : r < 2) (hp : q < nc) (hq : 128 * q + 128 ≤ W)
    (hs : (a6.access (outAt hr hq)).Stores Finset.univ) (x : FVec F Blk .f32)
    (k : Prog (TpuEff nD τ sig (Elt F) Λ .tc) PUnit) : Prog (TpuEff nD τ sig (Elt F) Λ .tc) PUnit :=
  .op (.load a8 (rowsAt hp 16 (by decide)) (View.loadsAt_vmem pblkPos)) fun _ =>
  .op (.store a8 ⟨rowsAt hp 16 (by decide), steps⟩ (placed x) Finset.univ (View.stores_vmem_bits_univ pblkPos rfl) (.inl rfl)) fun _ =>
  .op (.load a5 (colAt (by decide : 0 + 1 ≤ 1) hq).toLoadRect (View.loadsAt_vmem rowPos)) fun (b : FVec F Row .f32) =>
  .op (.load a4 (colAt (by decide : 3 + 1 ≤ 4) hq).toLoadRect (View.loadsAt_vmem rowPos)) fun (w3 : FVec F Row .f32) =>
  .op (.load a4 (colAt (by decide : 2 + 1 ≤ 4) hq).toLoadRect (View.loadsAt_vmem rowPos)) fun (w2 : FVec F Row .f32) =>
  .op (.load a8 (rowsAt hp 14 (by decide)) (View.loadsAt_vmem pblkPos)) fun (x1 : FVec F PBlk .f32) =>
  .op (.load a4 (colAt (by decide : 1 + 1 ≤ 4) hq).toLoadRect (View.loadsAt_vmem rowPos)) fun (w1 : FVec F Row .f32) =>
  .op (.load a8 (rowsAt hp 12 (by decide)) (View.loadsAt_vmem pblkPos)) fun (x2 : FVec F PBlk .f32) =>
  .op (.load a4 (colAt (by decide : 0 + 1 ≤ 4) hq).toLoadRect (View.loadsAt_vmem rowPos)) fun (w0 : FVec F Row .f32) =>
  .op (.load a8 (rowsAt hp 10 (by decide)) (View.loadsAt_vmem pblkPos)) fun (x3 : FVec F PBlk .f32) =>
  .op (.load a8 (keptAt hp) (View.loadsAt_vmem pkeptPos)) fun _ =>
  .op (.store a8 ⟨keptAt hp, steps⟩ (kept x) Finset.univ (View.stores_vmem_bits_univ pkeptPos rfl) (.inl rfl)) fun _ =>
  .op (.load a6 (outAt hr hq).toLoadRect (View.loadsAt_vmem blkPos)) fun _ =>
  .op (.store a6 (outAt hr hq) (act (taps x b w3 w2 x1 w1 x2 w0 x3)) Finset.univ hs (.inl rfl)) fun _ => k

/-- The last `n` blocks of a half of the rows, one after another. -/
def blocks (a4 : Memref sig .tc .vmem ⟨2, ![4, W]⟩ .f32) (a5 : Memref sig .tc .vmem ⟨2, ![1, W]⟩ .f32)
    (a6 : Memref sig .tc .vmem ⟨2, ![2048, W]⟩ .bf16) (a8 : Memref sig .tc .vmem (Pad nc) .f32)
    (act : FVec F Blk .f32 → FVec F Blk .bf16) (hW : 128 * nc = W) {r : ℕ} (hr : r < 2)
    (hs : ∀ q (hq : q < nc), (a6.access (outAt hr (width hW hq))).Stores Finset.univ) (v : FVec F ⟨2, ![1024, W]⟩ .f32) :
    (n : ℕ) → n ≤ nc → Prog (TpuEff nD τ sig (Elt F) Λ .tc) PUnit → Prog (TpuEff nD τ sig (Elt F) Λ .tc) PUnit
  | 0, _, k => k
  | n + 1, h, k => block a4 a5 a6 a8 act hr (left h) (width hW (left h)) (hs (nc - (n + 1)) (left h))
      (columns v hW (left h)) (blocks a4 a5 a6 a8 act hW hr hs v n (Nat.le_of_succ_le h) k)

/-- The blocks of both halves of the rows, each half multiplied before its blocks. -/
def halves (a2 : Memref sig .tc .vmem Rows .bf16) (a4 : Memref sig .tc .vmem ⟨2, ![4, W]⟩ .f32) (a5 : Memref sig .tc .vmem ⟨2, ![1, W]⟩ .f32)
    (a6 : Memref sig .tc .vmem ⟨2, ![2048, W]⟩ .bf16) (a7 : Memref sig .tc .vmem ⟨2, ![1024, W]⟩ .bf16) (a8 : Memref sig .tc .vmem (Pad nc) .f32)
    (mm : FVec F Half .bf16 → FVec F ⟨2, ![1024, W]⟩ .bf16 → FVec F ⟨2, ![1024, W]⟩ .f32)
    (act : FVec F Blk .f32 → FVec F Blk .bf16) (hW : 128 * nc = W) (hw : 0 < (⟨2, ![1024, W]⟩ : Shape).numel)
    (hs : ∀ r (hr : r < 2) q (hq : q < nc), (a6.access (outAt hr (width hW hq))).Stores Finset.univ) :
    Prog (TpuEff nD τ sig (Elt F) Λ .tc) PUnit :=
  .op (.load a2 (halfAt (by decide : 0 < 2)).toLoadRect (View.loadsAt_vmem halfPos)) fun (h0 : FVec F Half .bf16) =>
  .op (.load a7 (allAt W).toLoadRect (View.loadsAt_vmem hw)) fun (w0 : FVec F ⟨2, ![1024, W]⟩ .bf16) =>
  blocks a4 a5 a6 a8 act hW (by decide : 0 < 2) (hs 0 _) (mm h0 w0) nc le_rfl
  (.op (.load a2 (halfAt (by decide : 1 < 2)).toLoadRect (View.loadsAt_vmem halfPos)) fun (h1 : FVec F Half .bf16) =>
  .op (.load a7 (allAt W).toLoadRect (View.loadsAt_vmem hw)) fun (w1 : FVec F ⟨2, ![1024, W]⟩ .bf16) =>
  blocks a4 a5 a6 a8 act hW (by decide : 1 < 2) (hs 1 _) (mm h1 w1) nc le_rfl (.ret ⟨⟩))

/-- The body at a grid point: at some points the weight is transposed into its scratch; at some the kept rows are reset;
    then the blocks. -/
def body (a2 : Memref sig .tc .vmem Rows .bf16) (a3 : Memref sig .tc .vmem ⟨2, ![W, 1024]⟩ .f32) (a4 : Memref sig .tc .vmem ⟨2, ![4, W]⟩ .f32)
    (a5 : Memref sig .tc .vmem ⟨2, ![1, W]⟩ .f32) (a6 : Memref sig .tc .vmem ⟨2, ![2048, W]⟩ .bf16)
    (a7 : Memref sig .tc .vmem ⟨2, ![1024, W]⟩ .bf16) (a8 : Memref sig .tc .vmem (Pad nc) .f32)
    (fresh begins : Prop) [Decidable fresh] [Decidable begins] (tr : FVec F ⟨2, ![W, 1024]⟩ .f32 → FVec F ⟨2, ![1024, W]⟩ .bf16) (zero : FVec F (Reset nc) .f32)
    (mm : FVec F Half .bf16 → FVec F ⟨2, ![1024, W]⟩ .bf16 → FVec F ⟨2, ![1024, W]⟩ .f32)
    (act : FVec F Blk .f32 → FVec F Blk .bf16) (hW : 128 * nc = W) (hw : 0 < (⟨2, ![1024, W]⟩ : Shape).numel) (hw' : 0 < (⟨2, ![W, 1024]⟩ : Shape).numel)
    (hz : 0 < (Reset nc).numel) (hs7 : (a7.access (allAt W)).Stores Finset.univ)
    (hs : ∀ r (hr : r < 2) q (hq : q < nc), (a6.access (outAt hr (width hW hq))).Stores Finset.univ) :
    Prog (TpuEff nD τ sig (Elt F) Λ .tc) PUnit :=
  Prog.bind ((if _h : fresh then
    .op (.load a3 (allAt' W).toLoadRect (View.loadsAt_vmem hw')) fun (w : FVec F ⟨2, ![W, 1024]⟩ .f32) =>
    .op (.load a7 (allAt W).toLoadRect (View.loadsAt_vmem hw)) fun _ =>
    .op (.store a7 (allAt W) (tr w) Finset.univ hs7 (.inl rfl)) fun _ => .ret PUnit.unit
  else .ret PUnit.unit : Prog (TpuEff nD τ sig (Elt F) Λ .tc) PUnit)) fun _ =>
  Prog.bind ((if _h : begins then
    .op (.load a8 (resetAt nc).toLoadRect (View.loadsAt_vmem hz)) fun _ =>
    .op (.store a8 (resetAt nc) zero Finset.univ (View.stores_vmem_bits_univ hz rfl) (.inl rfl)) fun _ => .ret PUnit.unit
  else .ret PUnit.unit : Prog (TpuEff nD τ sig (Elt F) Λ .tc) PUnit)) fun _ =>
  halves a2 a4 a5 a6 a7 a8 mm act hW hw hs

end Program

end Cert.Conv

end
-- ==== Proof.ConvRun.lean ====
/-
  What a run of the shared body leaves: its result block by block, the rows it keeps, the transposed weight.
-/
module

public import proofs.«01_k».proof.Proof.Conv
public import Idealize.ShloMosaic.Lib.Pipeline.Frame
public import Idealize.ShloMosaic.Lib.Writes

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Conv

variable {F : FTy → Type} [FloatOps F]

section Values

/-- The rows of a block moved down by `s`, the last kept rows above them. -/
def moved (s : ℕ) (hs : s ≤ 8) (k : FVec F PKept .f32) (x : FVec F Blk .f32) : FVec F PBlk .f32 := fun j =>
  if h : (j 1).val < s then k (ix3 0 ⟨8 - s + (j 1).val, by omega⟩ (j 2))
  else x (ix2 ⟨(j 1).val - s, lt_of_le_of_lt (Nat.sub_le _ _) (j 1).isLt⟩ (j 2))

end Values

section Program

variable {nD : ℕ} {τ : Topo} {sig : RefSig} {Λ : Labels} {nc W : ℕ}
variable {Ix : Type} [DecidableEq Ix] {Name : Type} [DecidableEq Name] {U : Type} [URA U] {Lvl : Type} [Preorder Lvl]

local notation "𝕄" => MT nD τ sig Ix (Elt F) Name U Lvl

/-- Core `c` holds a buffer whole at raw contents. -/
abbrev held (c : Dev nD) {s : Shape} {e : EltTy} (a : Memref sig .tc .vmem s e) (f : a.view.ty.Contents (Elt F)) : sProp 𝕄 :=
  a.view.loc (c : Thread nD τ) ↦[a.view.set]{fullShare} f

variable (defs : Defs nD τ sig (Elt F) Λ) (𝒱 : Variants) (c : Dev nD) (bd : Option 𝒱.V) (E : Set Name) (Q : PUnit.{1} → sProp (MT nD τ sig Ix (Elt F) Name U Lvl))

theorem loads {s : Shape} {e : EltTy} (a : Memref sig .tc .vmem s e) (r : LoadRect s) (h : a.view.LoadsAt r) (f : a.view.ty.Contents (Elt F))
    (k : (r.shape.Idx → Elt F e) → Prog (TpuEff nD τ sig (Elt F) Λ .tc) PUnit) :
    (held c a f : sProp 𝕄) ⊢ iprop((held c a f -∗ wp frame (wpE defs 𝒱 (c : Thread nD τ) bd) E (k (a.view.readAt (Elt F) r f)) Q)
      -∗ wp frame (wpE defs 𝒱 (c : Thread nD τ) bd) E (.op (.load a r h) k) Q) :=
  wp_load 𝒱 (c : Thread nD τ) bd E (View.setOn_subset_set _ _)

theorem stores {s : Shape} {e : EltTy} (a : Memref sig .tc .vmem s e) (r : Rect s) (w : r.shape.Idx → Elt F e)
    (h : (a.access r).Stores Finset.univ) (hm : Finset.univ = Finset.univ ∨ ∀ i, r.stride i = 1) (f : a.view.ty.Contents (Elt F))
    (k : PUnit → Prog (TpuEff nD τ sig (Elt F) Λ .tc) PUnit) :
    (held c a f : sProp 𝕄) ⊢ iprop((held c a (a.view.writes (Elt F) f [⟨r, w⟩]) -∗ wp frame (wpE defs 𝒱 (c : Thread nD τ) bd) E (k ⟨⟩) Q)
      -∗ wp frame (wpE defs 𝒱 (c : Thread nD τ) bd) E (.op (.store a r w Finset.univ h hm) k) Q) :=
  wp_store_writes₀ 𝒱 (c : Thread nD τ) bd E (View.set_slice_subset _ _)

variable (a2 : Memref sig .tc .vmem Rows .bf16) (a3 : Memref sig .tc .vmem ⟨2, ![W, 1024]⟩ .f32) (a4 : Memref sig .tc .vmem ⟨2, ![4, W]⟩ .f32)
    (a5 : Memref sig .tc .vmem ⟨2, ![1, W]⟩ .f32) (a6 : Memref sig .tc .vmem ⟨2, ![2048, W]⟩ .bf16)
    (a7 : Memref sig .tc .vmem ⟨2, ![1024, W]⟩ .bf16) (a8 : Memref sig .tc .vmem (Pad nc) .f32)
    (act : FVec F Blk .f32 → FVec F Blk .bf16)

/-- The rows kept in plane `q`. -/
abbrev keptIn (f8 : a8.view.ty.Contents (Elt F)) {q : ℕ} (hp : q < nc) : FVec F PKept .f32 := a8.view.readAt (Elt F) (keptAt hp) f8

/-- Row `r` of the four, its columns those of block `q`. -/
abbrev tapIn (f4 : a4.view.ty.Contents (Elt F)) (r : ℕ) (hr : r + 1 ≤ 4) {q : ℕ} (hq : 128 * q + 128 ≤ W) : FVec F Row .f32 :=
  a4.view.readAt (Elt F) (colAt hr hq).toLoadRect f4

/-- The bias's columns of block `q`. -/
abbrev biasIn (f5 : a5.view.ty.Contents (Elt F)) {q : ℕ} (hq : 128 * q + 128 ≤ W) : FVec F Row .f32 :=
  a5.view.readAt (Elt F) (colAt (by decide : 0 + 1 ≤ 1) hq).toLoadRect f5

/-- What a block computes from its rows and the rows kept before it. -/
def blockOf (f4 : a4.view.ty.Contents (Elt F)) (f5 : a5.view.ty.Contents (Elt F)) {q : ℕ} (hq : 128 * q + 128 ≤ W)
    (k : FVec F PKept .f32) (x : FVec F Blk .f32) : FVec F Blk .bf16 :=
  act (taps x (biasIn a5 f5 hq) (tapIn a4 f4 3 (by decide) hq) (tapIn a4 f4 2 (by decide) hq) (moved 1 (by decide) k x)
    (tapIn a4 f4 1 (by decide) hq) (moved 2 (by decide) k x) (tapIn a4 f4 0 (by decide) hq) (moved 3 (by decide) k x))

/-- A plane whose rows have been put in place, read at a lower offset: the rows moved down, kept rows above. -/
theorem read_moved (f8 : a8.view.ty.Contents (Elt F)) {q : ℕ} (hp : q < nc) (x : FVec F Blk .f32) (s : ℕ) (hs : s ≤ 8) (o : ℕ) (ho : o ≤ 16) (e : o + 2 * s = 16) :
    a8.view.readAt (Elt F) (rowsAt hp o ho) (a8.view.writes (Elt F) f8 [⟨⟨rowsAt hp 16 (by decide), steps⟩, placed x⟩])
      = moved s hs (keptIn a8 f8 hp) x := by
  funext j
  have j0 : (j 0).val < 1 := (j 0).isLt
  have j1 : (j 1).val < 1024 := (j 1).isLt
  unfold moved
  rw [View.readAt_apply]
  split
  · next h =>
    rw [View.read_writes_cons_miss, View.writes_nil]
    · show a8.view.read (Elt F) f8 _ = a8.view.read (Elt F) f8 _
      congr 1
      funext a; fin_cases a <;> apply Fin.ext
      · show q + 1 * (j 0).val = q + 1 * 0; omega
      · show o + 2 * (j 1).val = 0 + 2 * (8 - s + (j 1).val); omega
      · rfl
    · intro hy
      obtain ⟨i, hi, hy'⟩ := (LoadRect.mem_set _).mp hy (1 : Fin 3)
      have hy'' : o + 2 * (j 1).val = 16 + 2 * i := hy'
      omega
  · next h =>
    rw [View.read_writes_cons_hit_of_coords _ _ _ _ _ (ix3 0 ⟨(j 1).val - s, by omega⟩ (j 2))]
    · pointwise [placed]
    · intro a; fin_cases a
      · show q + 1 * (j 0).val = q + 1 * 0; omega
      · show o + 2 * (j 1).val = 16 + 2 * ((j 1).val - s); omega
      · show 0 + 1 * (j 2).val = 0 + 1 * (j 2).val; rfl

/-- What the stores of one block leave: the rows in their plane and the last of them kept; the result in its place. -/
abbrev padAfter (f8 : a8.view.ty.Contents (Elt F)) {q : ℕ} (hp : q < nc) (x : FVec F Blk .f32) : a8.view.ty.Contents (Elt F) :=
  a8.view.writes (Elt F) f8 [⟨⟨keptAt hp, steps⟩, kept x⟩, ⟨⟨rowsAt hp 16 (by decide), steps⟩, placed x⟩]

abbrev outAfter (f6 : a6.view.ty.Contents (Elt F)) {r q : ℕ} (hr : r < 2) (hq : 128 * q + 128 ≤ W) (y : FVec F Blk .bf16) : a6.view.ty.Contents (Elt F) :=
  a6.view.writes (Elt F) f6 [⟨outAt hr hq, y⟩]

/-- A block runs: the rest then runs from what it leaves. -/
theorem runBlock {r q : ℕ} (hr : r < 2) (hp : q < nc) (hq : 128 * q + 128 ≤ W)
    (hs : (a6.access (outAt hr hq)).Stores Finset.univ) (x : FVec F Blk .f32) (k : Prog (TpuEff nD τ sig (Elt F) Λ .tc) PUnit)
    (f4 : a4.view.ty.Contents (Elt F)) (f5 : a5.view.ty.Contents (Elt F)) (f6 : a6.view.ty.Contents (Elt F)) (f8 : a8.view.ty.Contents (Elt F)) :
    (iprop(held c a4 f4 ∗ held c a5 f5 ∗ held c a6 f6 ∗ held c a8 f8) : sProp 𝕄) ⊢
      iprop((held c a4 f4 ∗ held c a5 f5 ∗ held c a6 (outAfter a6 f6 hr hq (blockOf a4 a5 act f4 f5 hq (keptIn a8 f8 hp) x)) ∗ held c a8 (padAfter a8 f8 hp x)
          -∗ wp frame (wpE defs 𝒱 (c : Thread nD τ) bd) E k Q)
        -∗ wp frame (wpE defs 𝒱 (c : Thread nD τ) bd) E (block a4 a5 a6 a8 act hr hp hq hs x k) Q) := by
  iintro ⟨H4, H5, H6, H8⟩ Hk
  unfold block
  iapply (loads defs 𝒱 c bd E Q a8) $$ H8; iintro H8
  iapply (stores defs 𝒱 c bd E Q a8) $$ H8; iintro H8
  iapply (loads defs 𝒱 c bd E Q a5) $$ H5; iintro H5
  iapply (loads defs 𝒱 c bd E Q a4) $$ H4; iintro H4
  iapply (loads defs 𝒱 c bd E Q a4) $$ H4; iintro H4
  iapply (loads defs 𝒱 c bd E Q a8) $$ H8; iintro H8
  iapply (loads defs 𝒱 c bd E Q a4) $$ H4; iintro H4
  iapply (loads defs 𝒱 c bd E Q a8) $$ H8; iintro H8
  iapply (loads defs 𝒱 c bd E Q a4) $$ H4; iintro H4
  iapply (loads defs 𝒱 c bd E Q a8) $$ H8; iintro H8
  iapply (loads defs 𝒱 c bd E Q a8) $$ H8; iintro H8
  iapply (stores defs 𝒱 c bd E Q a8) $$ H8; iintro H8
  iapply (loads defs 𝒱 c bd E Q a6) $$ H6; iintro H6
  iapply (stores defs 𝒱 c bd E Q a6) $$ H6; iintro H6
  rw [read_moved a8 f8 hp x 1 (by decide) 14 (by decide) rfl, read_moved a8 f8 hp x 2 (by decide) 12 (by decide) rfl,
    read_moved a8 f8 hp x 3 (by decide) 10 (by decide) rfl]
  iapply Hk
  isplitl [H4]; · iexact H4
  isplitl [H5]; · iexact H5
  isplitl [H6]; · iexact H6
  iexact H8

end Program

end Cert.Conv

end
-- ==== Proof.ConvBody.lean ====
/-
  What a run of the whole shared body leaves, from what a run of one block leaves: the result of both halves of the rows,
  the transposed weight, and the rows kept for the next point.
-/
module

public import proofs.«01_k».proof.Proof.ConvRun

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Conv

variable {F : FTy → Type} [FloatOps F] {nc W : ℕ}

/-- Row `r`, columns of block `q`, of an array of `k` rows. -/
def tapOf {k r q : ℕ} (X : FVec F ⟨2, ![k, W]⟩ .f32) (hr : r + 1 ≤ k) (hq : 128 * q + 128 ≤ W) : FVec F Row .f32 :=
  fun y => X ((colAt hr hq).toLoadRect.idx y)

/-- A half of the rows of a point. -/
def halfOf {r : ℕ} (X : FVec F Rows .bf16) (hr : r < 2) : FVec F Half .bf16 := fun y => X ((halfAt hr).toLoadRect.idx y)

/-- A block's result from the taps, the bias, the rows kept before it and its rows. -/
def convBlock (act : FVec F Blk .f32 → FVec F Blk .bf16) (X4 : FVec F ⟨2, ![4, W]⟩ .f32) (X5 : FVec F ⟨2, ![1, W]⟩ .f32) {q : ℕ}
    (hq : 128 * q + 128 ≤ W) (k : FVec F PKept .f32) (x : FVec F Blk .f32) : FVec F Blk .bf16 :=
  act (taps x (tapOf X5 (by decide : 0 + 1 ≤ 1) hq) (tapOf X4 (by decide : 3 + 1 ≤ 4) hq) (tapOf X4 (by decide : 2 + 1 ≤ 4) hq) (moved 1 (by decide) k x)
    (tapOf X4 (by decide : 1 + 1 ≤ 4) hq) (moved 2 (by decide) k x) (tapOf X4 (by decide : 0 + 1 ≤ 4) hq) (moved 3 (by decide) k x))

/-- The rows kept before the blocks of half `r`: before the first half those of the point before, before the second
    the first half's last. -/
def before (hW : 128 * nc = W) (mm : FVec F Half .bf16 → FVec F ⟨2, ![1024, W]⟩ .bf16 → FVec F ⟨2, ![1024, W]⟩ .f32)
    (X2 : FVec F Rows .bf16) (w : FVec F ⟨2, ![1024, W]⟩ .bf16) (K : (q : ℕ) → q < nc → FVec F PKept .f32) (r q : ℕ) (hq : q < nc) : FVec F PKept .f32 :=
  if r = 0 then K q hq else kept (columns (mm (halfOf X2 (by decide : 0 < 2)) w) hW hq)

theorem halfLt {a : ℕ} (h : a < 2048) : a / 1024 < 2 := by omega
theorem blockLt {nc W a : ℕ} (hW : 128 * nc = W) (h : a < W) : a / 128 < nc := by omega

/-- A point's result. -/
def resultOf (hW : 128 * nc = W) (act : FVec F Blk .f32 → FVec F Blk .bf16)
    (mm : FVec F Half .bf16 → FVec F ⟨2, ![1024, W]⟩ .bf16 → FVec F ⟨2, ![1024, W]⟩ .f32)
    (X2 : FVec F Rows .bf16) (X4 : FVec F ⟨2, ![4, W]⟩ .f32) (X5 : FVec F ⟨2, ![1, W]⟩ .f32) (w : FVec F ⟨2, ![1024, W]⟩ .bf16)
    (K : (q : ℕ) → q < nc → FVec F PKept .f32) : FVec F ⟨2, ![2048, W]⟩ .bf16 := fun j =>
  convBlock act X4 X5 (width hW (blockLt hW (j 1).isLt)) (before hW mm X2 w K ((j 0).val / 1024) ((j 1).val / 128) (blockLt hW (j 1).isLt))
    (columns (mm (halfOf X2 (halfLt (j 0).isLt)) w) hW (blockLt hW (j 1).isLt))
    (ix2 ⟨(j 0).val % 1024, Nat.mod_lt _ (by decide)⟩ ⟨(j 1).val % 128, Nat.mod_lt _ (by decide)⟩)

variable {nD : ℕ} {τ : Topo} {sig : RefSig} {Λ : Labels}
variable (a2 : Memref sig .tc .vmem Rows .bf16) (a3 : Memref sig .tc .vmem ⟨2, ![W, 1024]⟩ .f32) (a4 : Memref sig .tc .vmem ⟨2, ![4, W]⟩ .f32)
    (a5 : Memref sig .tc .vmem ⟨2, ![1, W]⟩ .f32) (a6 : Memref sig .tc .vmem ⟨2, ![2048, W]⟩ .bf16)
    (a7 : Memref sig .tc .vmem ⟨2, ![1024, W]⟩ .bf16) (a8 : Memref sig .tc .vmem (Pad nc) .f32)
    (act : FVec F Blk .f32 → FVec F Blk .bf16)

/-- The result's block `(r, q)`. -/
abbrev outIn (f6 : a6.view.ty.Contents (Elt F)) {r q : ℕ} (hr : r < 2) (hq : 128 * q + 128 ≤ W) : FVec F Blk .bf16 :=
  a6.view.readAt (Elt F) (outAt hr hq).toLoadRect f6

section Planes

/-- After a block, its plane keeps the block's last rows. -/
theorem kept_hit (f8 : a8.view.ty.Contents (Elt F)) {q : ℕ} (hp : q < nc) (x : FVec F Blk .f32) :
    keptIn a8 (padAfter a8 f8 hp x) hp = kept x := by
  funext j
  show a8.view.read (Elt F) _ _ = _
  rw [View.read_writes_cons_hit_of_coords _ _ _ _ _ j]
  intro a; rfl

/-- A block leaves the rows that the other planes keep. -/
theorem kept_miss (f8 : a8.view.ty.Contents (Elt F)) {q q' : ℕ} (hp : q < nc) (hp' : q' < nc) (h : q' ≠ q) (x : FVec F Blk .f32) :
    keptIn a8 (padAfter a8 f8 hp x) hp' = keptIn a8 f8 hp' := by
  funext j
  show a8.view.read (Elt F) _ _ = a8.view.read (Elt F) _ _
  have j0 : (j 0).val < 1 := (j 0).isLt
  rw [View.read_writes_cons_miss, View.read_writes_cons_miss, View.writes_nil]
  · intro hy
    obtain ⟨i, hi, hy'⟩ := (LoadRect.mem_set _).mp hy (0 : Fin 3)
    have hi' : i < 1 := hi
    have hy'' : q' + 1 * (j 0).val = q + 1 * i := hy'
    omega
  · intro hy
    obtain ⟨i, hi, hy'⟩ := (LoadRect.mem_set _).mp hy (0 : Fin 3)
    have hi' : i < 1 := hi
    have hy'' : q' + 1 * (j 0).val = q + 1 * i := hy'
    omega

/-- A block's result is where it was stored. -/
theorem out_hit (f6 : a6.view.ty.Contents (Elt F)) {r q : ℕ} (hr : r < 2) (hq : 128 * q + 128 ≤ W) (y : FVec F Blk .bf16) :
    outIn a6 (outAfter a6 f6 hr hq y) hr hq = y := by
  funext j
  show a6.view.read (Elt F) _ _ = _
  rw [View.read_writes_cons_hit_of_coords _ _ _ _ _ j]
  intro a; rfl

/-- A block's store leaves the other blocks of the result. -/
theorem out_miss (f6 : a6.view.ty.Contents (Elt F)) {r q r' q' : ℕ} (hr : r < 2) (hq : 128 * q + 128 ≤ W) (hr' : r' < 2) (hq' : 128 * q' + 128 ≤ W)
    (h : r' ≠ r ∨ q' ≠ q) (y : FVec F Blk .bf16) : outIn a6 (outAfter a6 f6 hr hq y) hr' hq' = outIn a6 f6 hr' hq' := by
  funext j
  show a6.view.read (Elt F) _ _ = a6.view.read (Elt F) _ _
  have j0 : (j 0).val < 1024 := (j 0).isLt
  have j1 : (j 1).val < 128 := (j 1).isLt
  rw [View.read_writes_cons_miss, View.writes_nil]
  intro hy
  obtain ⟨i0, hi0, hy0⟩ := (LoadRect.mem_set _).mp hy (0 : Fin 2)
  obtain ⟨i1, hi1, hy1⟩ := (LoadRect.mem_set _).mp hy (1 : Fin 2)
  have hi0' : i0 < 1024 := hi0
  have hi1' : i1 < 128 := hi1
  have hy0' : 1024 * r' + 1 * (j 0).val = 1024 * r + 1 * i0 := hy0
  have hy1' : 128 * q' + 1 * (j 1).val = 128 * q + 1 * i1 := hy1
  omega

/-- What the last `n` blocks of a half leave. -/
structure Ran (hW : 128 * nc = W) {r : ℕ} (hr : r < 2) (X4 : FVec F ⟨2, ![4, W]⟩ .f32) (X5 : FVec F ⟨2, ![1, W]⟩ .f32)
    (v : FVec F ⟨2, ![1024, W]⟩ .f32) (n : ℕ) (f6 : a6.view.ty.Contents (Elt F)) (f8 : a8.view.ty.Contents (Elt F))
    (f6' : a6.view.ty.Contents (Elt F)) (f8' : a8.view.ty.Contents (Elt F)) : Prop where
  out : ∀ q (hq : q < nc), nc ≤ q + n → outIn a6 f6' hr (width hW hq) = convBlock act X4 X5 (width hW hq) (keptIn a8 f8 hq) (columns v hW hq)
  kept : ∀ q (hq : q < nc), nc ≤ q + n → keptIn a8 f8' hq = kept (columns v hW hq)
  outMiss : ∀ r' (hr' : r' < 2) q (hq : q < nc), (r' ≠ r ∨ q + n < nc) → outIn a6 f6' hr' (width hW hq) = outIn a6 f6 hr' (width hW hq)
  keptMiss : ∀ q (hq : q < nc), q + n < nc → keptIn a8 f8' hq = keptIn a8 f8 hq

theorem Ran.zero (hW : 128 * nc = W) {r : ℕ} (hr : r < 2) (X4 : FVec F ⟨2, ![4, W]⟩ .f32) (X5 : FVec F ⟨2, ![1, W]⟩ .f32)
    (v : FVec F ⟨2, ![1024, W]⟩ .f32) (f6 : a6.view.ty.Contents (Elt F)) (f8 : a8.view.ty.Contents (Elt F)) :
    Ran a6 a8 act hW hr X4 X5 v 0 f6 f8 f6 f8 :=
  ⟨fun q hq h => absurd hq (by omega), fun q hq h => absurd hq (by omega), fun _ _ _ _ _ => rfl, fun _ _ _ => rfl⟩

/-- One more block in front. -/
theorem Ran.succ (hW : 128 * nc = W) {r : ℕ} (hr : r < 2) (X4 : FVec F ⟨2, ![4, W]⟩ .f32) (X5 : FVec F ⟨2, ![1, W]⟩ .f32)
    (v : FVec F ⟨2, ![1024, W]⟩ .f32) (n : ℕ) (hn : n + 1 ≤ nc) (f6 f6' : a6.view.ty.Contents (Elt F)) (f8 f8' : a8.view.ty.Contents (Elt F))
    (h : Ran a6 a8 act hW hr X4 X5 v n
      (outAfter a6 f6 hr (width hW (left hn)) (convBlock act X4 X5 (width hW (left hn)) (keptIn a8 f8 (left hn)) (columns v hW (left hn))))
      (padAfter a8 f8 (left hn) (columns v hW (left hn))) f6' f8') :
    Ran a6 a8 act hW hr X4 X5 v (n + 1) f6 f8 f6' f8' := by
  refine ⟨fun q hq hle => ?_, fun q hq hle => ?_, fun r' hr' q hq hlt => ?_, fun q hq hlt => ?_⟩
  · by_cases hle' : nc ≤ q + n
    · rw [h.out q hq hle', kept_miss a8 f8 (left hn) hq (by omega)]
    · obtain rfl : q = nc - (n + 1) := by omega
      rw [h.outMiss r hr _ hq (.inr (by omega)), out_hit]
  · by_cases hle' : nc ≤ q + n
    · exact h.kept q hq hle'
    · obtain rfl : q = nc - (n + 1) := by omega
      rw [h.keptMiss _ hq (by omega), kept_hit]
  · rw [h.outMiss r' hr' q hq (by omega), out_miss a6 f6 hr _ hr' _ (by omega)]
  · rw [h.keptMiss q hq (by omega), kept_miss a8 f8 (left hn) hq (by omega)]

end Planes

variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ) (𝒱 : Variants) (c : Dev nD) (bd : Option 𝒱.V) (E : Set Name) (Q : PUnit.{1} → sProp (MT nD τ sig Ix (Elt F) Name U Lvl))

/-- The last `n` blocks of a half run: what follows runs from what they leave. -/
theorem runBlocks (hW : 128 * nc = W) {r : ℕ} (hr : r < 2)
    (hs : ∀ q (hq : q < nc), (a6.access (outAt hr (width hW hq))).Stores Finset.univ) (v : FVec F ⟨2, ![1024, W]⟩ .f32)
    (k : Prog (TpuEff nD τ sig (Elt F) Λ .tc) PUnit) (R : sProp (MT nD τ sig Ix (Elt F) Name U Lvl))
    (f4 : a4.view.ty.Contents (Elt F)) (f5 : a5.view.ty.Contents (Elt F)) : (n : ℕ) → (hn : n ≤ nc) →
    (f6 : a6.view.ty.Contents (Elt F)) → (f8 : a8.view.ty.Contents (Elt F)) →
    (∀ f6' f8', Ran a6 a8 act hW hr (a4.view.read (Elt F) f4) (a5.view.read (Elt F) f5) v n f6 f8 f6' f8' →
      (iprop((held c a4 f4 ∗ held c a5 f5 ∗ held c a6 f6' ∗ held c a8 f8') ∗ R) : sProp 𝕄) ⊢ wp frame (wpE defs 𝒱 (c : Thread nD τ) bd) E k Q) →
    (iprop((held c a4 f4 ∗ held c a5 f5 ∗ held c a6 f6 ∗ held c a8 f8) ∗ R) : sProp 𝕄)
      ⊢ wp frame (wpE defs 𝒱 (c : Thread nD τ) bd) E (blocks a4 a5 a6 a8 act hW hr hs v n hn k) Q
  | 0, hn, f6, f8, H => H f6 f8 (Ran.zero ..)
  | n + 1, hn, f6, f8, H => by
    have ih := runBlocks hW hr hs v k R f4 f5 n (Nat.le_of_succ_le hn) _ _ (fun f6' f8' h => H f6' f8' (Ran.succ a6 a8 act hW hr _ _ v n hn f6 f6' f8 f8' h))
    iintro ⟨Hh, HR⟩
    unfold blocks
    iapply (runBlock defs 𝒱 c bd E Q a4 a5 a6 a8 act hr (left hn) (width hW (left hn)) (hs _ (left hn)) (columns v hW (left hn)) _ f4 f5 f6 f8) $$ Hh
    iintro Hh
    iapply ih
    isplitl [Hh]; · iexact Hh
    iexact HR

/-- Reading all of an array whose number of columns is not fixed. -/
theorem read_all {e : EltTy} {n k : ℕ} (a : Memref sig .tc .vmem ⟨2, ![n, k]⟩ e) (f : a.view.ty.Contents (Elt F))
    (inb : ∀ i : Fin 2, (![0, 0] : Fin 2 → ℕ) i + (⟨2, ![n, k]⟩ : Shape).size i ≤ (⟨2, ![n, k]⟩ : Shape).size i) :
    a.view.readAt (Elt F) (Rect.unit (s := ⟨2, ![n, k]⟩) ![0, 0] (⟨2, ![n, k]⟩ : Shape).size inb).toLoadRect f = a.view.read (Elt F) f := by
  funext j
  show a.view.read (Elt F) f _ = a.view.read (Elt F) f _
  congr 1
  funext i; fin_cases i <;> apply Fin.ext
  · show 0 + 1 * (j 0).val = (j 0).val; omega
  · show 0 + 1 * (j 1).val = (j 1).val; omega

/-- All of an array overwritten. -/
theorem write_all (f : a7.view.ty.Contents (Elt F)) (y : FVec F ⟨2, ![1024, W]⟩ .bf16) :
    a7.view.read (Elt F) (a7.view.writes (Elt F) f [⟨allAt W, y⟩]) = y := by
  funext j
  rw [View.read_writes_cons_hit_of_coords _ _ _ _ _ j]
  intro i; fin_cases i
  · show (j 0).val = 0 + 1 * (j 0).val; omega
  · show (j 1).val = 0 + 1 * (j 1).val; omega

theorem resetLt {j : ℕ} (h : j < 8) : 2 * j < 16 := by omega

/-- The kept rows of a plane among the rows that a reset writes. -/
def resetKept (zero : FVec F (Reset nc) .f32) (q : ℕ) (hq : q < nc) : FVec F PKept .f32 :=
  fun j => zero (ix3 ⟨q, hq⟩ ⟨2 * (j 1).val, resetLt (j 1).isLt⟩ (j 2))

theorem kept_reset (f8 : a8.view.ty.Contents (Elt F)) (zero : FVec F (Reset nc) .f32) (q : ℕ) (hq : q < nc) :
    keptIn a8 (a8.view.writes (Elt F) f8 [⟨resetAt nc, zero⟩]) hq = resetKept zero q hq := by
  funext j
  show a8.view.read (Elt F) _ _ = _
  have j0 : (j 0).val < 1 := (j 0).isLt
  rw [View.read_writes_cons_hit_of_coords _ _ _ _ _ (ix3 ⟨q, hq⟩ ⟨2 * (j 1).val, resetLt (j 1).isLt⟩ (j 2))]
  · rfl
  · intro a; fin_cases a
    · show q + 1 * (j 0).val = 0 + 1 * q; omega
    · show 0 + 2 * (j 1).val = 0 + 1 * (2 * (j 1).val); omega
    · show 0 + 1 * (j 2).val = 0 + 1 * (j 2).val; rfl

/-- A result whose blocks are known is known. -/
theorem read_result (hW : 128 * nc = W) (f6 : a6.view.ty.Contents (Elt F)) (G : FVec F ⟨2, ![2048, W]⟩ .bf16)
    (h : ∀ r (hr : r < 2) q (hq : q < nc) (a : Fin 1024) (b : Fin 128), outIn a6 f6 hr (width hW hq) (ix2 a b)
      = G (ix2 ⟨1024 * r + a.val, by omega⟩ ⟨128 * q + b.val, by omega⟩)) : a6.view.read (Elt F) f6 = G := by
  funext j
  have j0 : (j 0).val < 2048 := (j 0).isLt
  have j1 : (j 1).val < W := (j 1).isLt
  have e : j = ix2 ⟨1024 * ((j 0).val / 1024) + (j 0).val % 1024, by omega⟩ ⟨128 * ((j 1).val / 128) + (j 1).val % 128, by omega⟩ := by
    funext i; fin_cases i <;> apply Fin.ext
    · exact (Nat.div_add_mod _ _).symm
    · exact (Nat.div_add_mod _ _).symm
  have hh := h ((j 0).val / 1024) (by omega) ((j 1).val / 128) (by omega) ⟨(j 0).val % 1024, Nat.mod_lt _ (by decide)⟩ ⟨(j 1).val % 128, Nat.mod_lt _ (by decide)⟩
  refine Eq.trans ?_ (hh.trans (congrArg G e.symm))
  show a6.view.read (Elt F) f6 _ = a6.view.read (Elt F) f6 _
  congr 1
  funext i; fin_cases i <;> apply Fin.ext
  · show (j 0).val = 1024 * ((j 0).val / 1024) + 1 * ((j 0).val % 1024); omega
  · show (j 1).val = 128 * ((j 1).val / 128) + 1 * ((j 1).val % 128); omega

/-- `resultOf`, block by block. -/
theorem resultOf_apply (hW : 128 * nc = W) (mm : FVec F Half .bf16 → FVec F ⟨2, ![1024, W]⟩ .bf16 → FVec F ⟨2, ![1024, W]⟩ .f32)
    (X2 : FVec F Rows .bf16) (X4 : FVec F ⟨2, ![4, W]⟩ .f32) (X5 : FVec F ⟨2, ![1, W]⟩ .f32) (w : FVec F ⟨2, ![1024, W]⟩ .bf16)
    (K : (q : ℕ) → q < nc → FVec F PKept .f32) (r : ℕ) (hr : r < 2) (q : ℕ) (hq : q < nc) (a : Fin 1024) (b : Fin 128)
    (h0 : 1024 * r + a.val < 2048) (h1 : 128 * q + b.val < W) :
    resultOf hW act mm X2 X4 X5 w K (ix2 ⟨1024 * r + a.val, h0⟩ ⟨128 * q + b.val, h1⟩)
      = convBlock act X4 X5 (width hW hq) (before hW mm X2 w K r q hq) (columns (mm (halfOf X2 hr) w) hW hq) (ix2 a b) := by
  have e0 : (1024 * r + a.val) / 1024 = r := by omega
  have e1 : (128 * q + b.val) / 128 = q := by omega
  have e2 : (1024 * r + a.val) % 1024 = a.val := by omega
  have e3 : (128 * q + b.val) % 128 = b.val := by omega
  have key : ∀ r' (hr' : r' < 2) q' (hq' : q' < nc) (a' : Fin 1024) (b' : Fin 128), r' = r → q' = q → a' = a → b' = b →
      convBlock act X4 X5 (width hW hq') (before hW mm X2 w K r' q' hq') (columns (mm (halfOf X2 hr') w) hW hq') (ix2 a' b')
      = convBlock act X4 X5 (width hW hq) (before hW mm X2 w K r q hq) (columns (mm (halfOf X2 hr) w) hW hq) (ix2 a b) := by
    rintro _ _ _ _ _ _ rfl rfl rfl rfl; rfl
  exact key _ _ _ _ _ _ e0 e1 (Fin.ext e2) (Fin.ext e3)

/-- THE BODY RUNS. From the arrays it reads, the transposed weight `w` of this point (transposed here, or held already) and
    the kept rows `K` (reset here, or held already), it leaves the result, the transposed weight, and the second half's
    last rows. -/
theorem runBody (fresh begins : Prop) [Decidable fresh] [Decidable begins] (tr : FVec F ⟨2, ![W, 1024]⟩ .f32 → FVec F ⟨2, ![1024, W]⟩ .bf16) (zero : FVec F (Reset nc) .f32)
    (mm : FVec F Half .bf16 → FVec F ⟨2, ![1024, W]⟩ .bf16 → FVec F ⟨2, ![1024, W]⟩ .f32)
    (hW : 128 * nc = W) (hw : 0 < (⟨2, ![1024, W]⟩ : Shape).numel) (hw' : 0 < (⟨2, ![W, 1024]⟩ : Shape).numel)
    (hz : 0 < (Reset nc).numel) (hs7 : (a7.access (allAt W)).Stores Finset.univ)
    (hs : ∀ r (hr : r < 2) q (hq : q < nc), (a6.access (outAt hr (width hW hq))).Stores Finset.univ)
    (R : sProp (MT nD τ sig Ix (Elt F) Name U Lvl))
    (f2 : a2.view.ty.Contents (Elt F)) (f3 : a3.view.ty.Contents (Elt F)) (f4 : a4.view.ty.Contents (Elt F)) (f5 : a5.view.ty.Contents (Elt F))
    (f6 : a6.view.ty.Contents (Elt F)) (f7 : a7.view.ty.Contents (Elt F)) (f8 : a8.view.ty.Contents (Elt F))
    (w : FVec F ⟨2, ![1024, W]⟩ .bf16) (K : (q : ℕ) → q < nc → FVec F PKept .f32)
    (hfresh : fresh → tr (a3.view.read (Elt F) f3) = w) (hstale : ¬fresh → a7.view.read (Elt F) f7 = w)
    (hbegin : begins → ∀ q (hq : q < nc), resetKept zero q hq = K q hq) (hgo : ¬begins → ∀ q (hq : q < nc), keptIn a8 f8 hq = K q hq)
    (H : ∀ f6' f7' f8', a6.view.read (Elt F) f6' = resultOf hW act mm (a2.view.read (Elt F) f2) (a4.view.read (Elt F) f4) (a5.view.read (Elt F) f5) w K →
      a7.view.read (Elt F) f7' = w → (∀ q (hq : q < nc), keptIn a8 f8' hq = kept (columns (mm (halfOf (a2.view.read (Elt F) f2) (by decide : 1 < 2)) w) hW hq)) →
      (iprop((held c a2 f2 ∗ held c a3 f3 ∗ held c a7 f7') ∗ (held c a4 f4 ∗ held c a5 f5 ∗ held c a6 f6' ∗ held c a8 f8') ∗ R) : sProp 𝕄) ⊢ Q ⟨⟩) :
    (iprop((held c a2 f2 ∗ held c a3 f3 ∗ held c a7 f7) ∗ (held c a4 f4 ∗ held c a5 f5 ∗ held c a6 f6 ∗ held c a8 f8) ∗ R) : sProp 𝕄)
      ⊢ wp frame (wpE defs 𝒱 (c : Thread nD τ) bd) E (body a2 a3 a4 a5 a6 a7 a8 fresh begins tr zero mm act hW hw hw' hz hs7 hs) Q := by
  -- both halves, from a transposed weight and kept rows in place
  have halvesRun : ∀ f7 f8, a7.view.read (Elt F) f7 = w → (∀ q (hq : q < nc), keptIn a8 f8 hq = K q hq) →
      (iprop((held c a2 f2 ∗ held c a3 f3 ∗ held c a7 f7) ∗ (held c a4 f4 ∗ held c a5 f5 ∗ held c a6 f6 ∗ held c a8 f8) ∗ R) : sProp 𝕄)
      ⊢ wp frame (wpE defs 𝒱 (c : Thread nD τ) bd) E (halves a2 a4 a5 a6 a7 a8 mm act hW hw hs) Q := by
    intro f7 f8 h7 h8
    unfold halves
    iintro ⟨⟨H2, H3, H7⟩, Hh, HR⟩
    iapply (loads defs 𝒱 c bd E Q a2) $$ H2; iintro H2
    iapply (loads defs 𝒱 c bd E Q a7) $$ H7; iintro H7
    rw [read_all a7 f7, h7]
    iapply (runBlocks a4 a5 a6 a8 act defs 𝒱 c bd E Q hW _ (hs 0 _) _ _ iprop((held c a2 f2 ∗ held c a3 f3 ∗ held c a7 f7) ∗ R) f4 f5 nc le_rfl f6 f8 ?_)
    swap
    · isplitl [Hh]; · iexact Hh
      isplitl [H2 H3 H7]
      · isplitl [H2]; · iexact H2
        isplitl [H3]; · iexact H3
        iexact H7
      iexact HR
    intro f6a f8a ha
    iintro ⟨Hh, ⟨H2, H3, H7⟩, HR⟩
    iapply (loads defs 𝒱 c bd E Q a2) $$ H2; iintro H2
    iapply (loads defs 𝒱 c bd E Q a7) $$ H7; iintro H7
    rw [read_all a7 f7, h7]
    iapply (runBlocks a4 a5 a6 a8 act defs 𝒱 c bd E Q hW _ (hs 1 _) _ _ iprop((held c a2 f2 ∗ held c a3 f3 ∗ held c a7 f7) ∗ R) f4 f5 nc le_rfl f6a f8a ?_)
    swap
    · isplitl [Hh]; · iexact Hh
      isplitl [H2 H3 H7]
      · isplitl [H2]; · iexact H2
        isplitl [H3]; · iexact H3
        iexact H7
      iexact HR
    intro f6b f8b hb
    rw [wp_ret]
    iintro ⟨Hh, Hx, HR⟩
    imodintro
    iapply (H f6b f7 f8b ?_ h7 fun q hq => hb.kept q hq (by omega))
    swap
    · isplitl [Hx]; · iexact Hx
      isplitl [Hh]; · iexact Hh
      iexact HR
    refine read_result a6 hW f6b _ fun r hr q hq a b => ?_
    rw [resultOf_apply act hW mm _ _ _ w K r hr q hq a b]
    obtain rfl | rfl : r = 0 ∨ r = 1 := by omega
    · rw [hb.outMiss 0 (by decide) q hq (.inl (by decide)), ha.out q hq (by omega), h8 q hq]; rfl
    · rw [hb.out q hq (by omega), ha.kept q hq (by omega)]; rfl
  -- the reset, then both halves
  have resetRun : ∀ f7, a7.view.read (Elt F) f7 = w →
      (iprop((held c a2 f2 ∗ held c a3 f3 ∗ held c a7 f7) ∗ (held c a4 f4 ∗ held c a5 f5 ∗ held c a6 f6 ∗ held c a8 f8) ∗ R) : sProp 𝕄)
      ⊢ wp frame (wpE defs 𝒱 (c : Thread nD τ) bd) E (Prog.bind ((if _h : begins then
          .op (.load a8 (resetAt nc).toLoadRect (View.loadsAt_vmem hz)) fun _ =>
          .op (.store a8 (resetAt nc) zero Finset.univ (View.stores_vmem_bits_univ hz rfl) (.inl rfl)) fun _ => .ret PUnit.unit
        else .ret PUnit.unit : Prog (TpuEff nD τ sig (Elt F) Λ .tc) PUnit)) fun _ =>
        halves a2 a4 a5 a6 a7 a8 mm act hW hw hs) Q := by
    intro f7 h7
    by_cases hb : begins
    · simp only [dif_pos hb, Prog.bind]
      iintro ⟨Hx, ⟨H4, H5, H6, H8⟩, HR⟩
      iapply (loads defs 𝒱 c bd E Q a8) $$ H8; iintro H8
      iapply (stores defs 𝒱 c bd E Q a8) $$ H8; iintro H8
      iapply (halvesRun f7 _ h7 fun q hq => (kept_reset a8 f8 zero q hq).trans (hbegin hb q hq))
      isplitl [Hx]; · iexact Hx
      isplitl [H4 H5 H6 H8]
      · isplitl [H4]; · iexact H4
        isplitl [H5]; · iexact H5
        isplitl [H6]; · iexact H6
        iexact H8
      iexact HR
    · simp only [dif_neg hb, Prog.bind]
      exact halvesRun f7 f8 h7 (hgo hb)
  unfold body
  by_cases hf : fresh
  · simp only [dif_pos hf, Prog.bind]
    iintro ⟨⟨H2, H3, H7⟩, Hh⟩
    iapply (loads defs 𝒱 c bd E Q a3) $$ H3; iintro H3
    iapply (loads defs 𝒱 c bd E Q a7) $$ H7; iintro H7
    iapply (stores defs 𝒱 c bd E Q a7) $$ H7; iintro H7
    iapply (resetRun _ ((write_all a7 f7 _).trans ((congrArg tr (read_all a3 f3 _)).trans (hfresh hf))))
    isplitl [H2 H3 H7]
    · isplitl [H2]; · iexact H2
      isplitl [H3]; · iexact H3
      iexact H7
    iexact Hh
  · simp only [dif_neg hf, Prog.bind]
    exact resetRun f7 (hstale hf)

/-- Core `c` holds the scratch of planes with the rows `K` kept in it, its other rows at anything. -/
def keeps (K : (q : ℕ) → q < nc → FVec F PKept .f32) : sProp (MT nD τ sig Ix (Elt F) Name U Lvl) :=
  iprop(∃ f, ⌜∀ q (hq : q < nc), keptIn a8 f hq = K q hq⌝ ∗ held c a8 f)

/-- THE BODY'S TRIPLE at a point, in what each buffer reads. -/
theorem runPoint (fresh begins : Prop) [Decidable fresh] [Decidable begins] (tr : FVec F ⟨2, ![W, 1024]⟩ .f32 → FVec F ⟨2, ![1024, W]⟩ .bf16) (zero : FVec F (Reset nc) .f32)
    (mm : FVec F Half .bf16 → FVec F ⟨2, ![1024, W]⟩ .bf16 → FVec F ⟨2, ![1024, W]⟩ .f32)
    (hW : 128 * nc = W) (hw : 0 < (⟨2, ![1024, W]⟩ : Shape).numel) (hw' : 0 < (⟨2, ![W, 1024]⟩ : Shape).numel)
    (hz : 0 < (Reset nc).numel) (hs7 : (a7.access (allAt W)).Stores Finset.univ)
    (hs : ∀ r (hr : r < 2) q (hq : q < nc), (a6.access (outAt hr (width hW hq))).Stores Finset.univ)
    (R : sProp (MT nD τ sig Ix (Elt F) Name U Lvl))
    (X2 : FVec F Rows .bf16) (X3 : FVec F ⟨2, ![W, 1024]⟩ .f32) (X4 : FVec F ⟨2, ![4, W]⟩ .f32) (X5 : FVec F ⟨2, ![1, W]⟩ .f32)
    (w : FVec F ⟨2, ![1024, W]⟩ .bf16) (K : (q : ℕ) → q < nc → FVec F PKept .f32)
    (hfresh : fresh → tr X3 = w) (hbegin : begins → ∀ q (hq : q < nc), resetKept zero q hq = K q hq)
    (H : (iprop((owns (c : Thread nD τ) a2 fullShare X2 ∗ owns (c : Thread nD τ) a3 fullShare X3 ∗ owns (c : Thread nD τ) a4 fullShare X4
        ∗ owns (c : Thread nD τ) a5 fullShare X5 ∗ owns (c : Thread nD τ) a6 fullShare (resultOf hW act mm X2 X4 X5 w K))
        ∗ (owns (c : Thread nD τ) a7 fullShare w ∗ keeps a8 c (fun q hq => kept (columns (mm (halfOf X2 (by decide : 1 < 2)) w) hW hq))) ∗ R) : sProp 𝕄) ⊢ Q ⟨⟩) :
    (iprop((owns (c : Thread nD τ) a2 fullShare X2 ∗ owns (c : Thread nD τ) a3 fullShare X3 ∗ owns (c : Thread nD τ) a4 fullShare X4
        ∗ owns (c : Thread nD τ) a5 fullShare X5 ∗ (∃ d, owns (c : Thread nD τ) a6 fullShare d))
        ∗ ((∃ f, ⌜¬fresh → a7.view.read (Elt F) f = w⌝ ∗ held c a7 f) ∗ (∃ f, ⌜¬begins → ∀ q (hq : q < nc), keptIn a8 f hq = K q hq⌝ ∗ held c a8 f)) ∗ R) : sProp 𝕄)
      ⊢ wp frame (wpE defs 𝒱 (c : Thread nD τ) bd) E (body a2 a3 a4 a5 a6 a7 a8 fresh begins tr zero mm act hW hw hw' hz hs7 hs) Q := by
  unfold owns
  iintro ⟨⟨⟨%f2, %h2, H2⟩, ⟨%f3, %h3, H3⟩, ⟨%f4, %h4, H4⟩, ⟨%f5, %h5, H5⟩, ⟨%d6, %f6, %h6, H6⟩⟩, ⟨⟨%f7, %h7, H7⟩, ⟨%f8, %h8, H8⟩⟩, HR⟩
  subst h2 h3 h4 h5
  iapply (runBody a2 a3 a4 a5 a6 a7 a8 act defs 𝒱 c bd E Q fresh begins tr zero mm hW hw hw' hz hs7 hs R f2 f3 f4 f5 f6 f7 f8 w K hfresh h7 hbegin h8 ?_)
  swap
  · isplitl [H2 H3 H7]
    · isplitl [H2]; · iexact H2
      isplitl [H3]; · iexact H3
      iexact H7
    isplitl [H4 H5 H6 H8]
    · isplitl [H4]; · iexact H4
      isplitl [H5]; · iexact H5
      isplitl [H6]; · iexact H6
      iexact H8
    iexact HR
  intro f6' f7' f8' e6 e7 e8
  refine BIBase.Entails.trans ?_ H
  unfold keeps owns
  iintro ⟨⟨H2, H3, H7⟩, ⟨H4, H5, H6, H8⟩, HR⟩
  isplitl [H2 H3 H4 H5 H6]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6'; isplitr; · ipureintro; exact e6
    iexact H6
  isplitl [H7 H8]
  · isplitl [H7]
    · iexists f7'; isplitr; · ipureintro; exact e7
      iexact H7
    iexists f8'; isplitr; · ipureintro; exact e8
    iexact H8
  iexact HR

end Cert.Conv

end
-- ==== Proof.XbcRun.lean ====
/-
  The call that computes the SSD branch's convolution, as a program: its body is the transposition of the weight and
  the reset of the kept rows, each at some points only, then sixteen blocks.
-/
module

public import proofs.«01_k».proof.Proof.Conv
public import proofs.«01_k».proof.Proof.Gen.Xbc
public import proofs.«01_k».proof.Proof.Gen.Xbc.Skeleton
public import proofs.«01_k».proof.Proof.Gen.Xbc.Launch
public import proofs.«01_k».proof.Proof.Gen.Xbc.Points
public import proofs.«01_k».proof.Proof.Gen.Xbc.Frame
public import proofs.«01_k».proof.Proof.Gen.XbcIdeal
public import proofs.«01_k».proof.Proof.Gen.XbcIdeal.Skeleton
public import proofs.«01_k».proof.Proof.Gen.XbcIdeal.Launch
public import proofs.«01_k».proof.Proof.Gen.XbcIdeal.Points
public import proofs.«01_k».proof.Proof.Gen.XbcIdeal.Frame
public import Idealize.ShloMosaic.Lib.Tactic

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.XbcIdeal.Hand

open Cert.XbcIdeal Cert.XbcIdeal.Gen

variable {F : FTy → Type} [FloatOps F] [Named F]

/-- The body transposes its block of the weight. -/
abbrev fresh (i : grid0.Coords) : Prop := (Scalar.cmpi .ne (Scalar.extui (Scalar.cmpi .eq (BitVec.ofNat 32 (i 1).val) 0#32)) 0#32) = 1#1

/-- The number of a row block in its sequence. -/
abbrev place (i : grid0.Coords) : BitVec 32 :=
  let d : BitVec 32 := Scalar.select (Scalar.cmpi .eq 4#32 0#32) 1#32 4#32
  let v5 : BitVec 32 := Scalar.remsi (BitVec.ofNat 32 (i 1).val) d
  Scalar.select (Scalar.andi (Scalar.xori (Scalar.cmpi .slt v5 0#32) (Scalar.cmpi .slt d 0#32)) (Scalar.cmpi .ne v5 0#32)) (Scalar.addi v5 d) v5

/-- The body resets the kept rows: its row block begins a sequence. -/
abbrev begins (i : grid0.Coords) : Prop := (Scalar.cmpi .ne (Scalar.extui (Scalar.cmpi .eq (place i) 0#32)) 0#32) = 1#1

/-- The activation of a block: every element times its logistic, then the rounding. -/
abbrev act (y : FVec F Conv.Blk .f32) : FVec F Conv.Blk .bf16 :=
  k0_pay1 y (addf (broadcast S1024x128 (Scalar.ofBits .f32 0x3F800000#32)) (exp2 (mulf y (broadcast S1024x128 (Named.named κ "neg_log2e" 0xBFB8AA3B#32)))))
    (Scalar.ofBits .f32 0x3F800000#32)

/-- The stores of the result are exact: its rows are packed. -/
theorem stores (arg6 : Memref sig .tc .vmem S2048x1024 .bf16) (harg6 : arg6.IsWhole) (r : ℕ) (hr : r < 2) (q : ℕ) (hq : q < 8) :
    (arg6.access (Conv.outAt hr (Conv.width (rfl : 128 * 8 = 1024) hq))).Stores Finset.univ :=
  View.stores_vmem h_S1024x128 (harg6.storeExact_slice rfl _ (by
    interval_cases r <;> interval_cases q
    · exact packedbf16_S2048x1024_S1024x128_0_0
    · exact packedbf16_S2048x1024_S1024x128_0_128
    · exact packedbf16_S2048x1024_S1024x128_0_256
    · exact packedbf16_S2048x1024_S1024x128_0_384
    · exact packedbf16_S2048x1024_S1024x128_0_512
    · exact packedbf16_S2048x1024_S1024x128_0_640
    · exact packedbf16_S2048x1024_S1024x128_0_768
    · exact packedbf16_S2048x1024_S1024x128_0_896
    · exact packedbf16_S2048x1024_S1024x128_1024_0
    · exact packedbf16_S2048x1024_S1024x128_1024_128
    · exact packedbf16_S2048x1024_S1024x128_1024_256
    · exact packedbf16_S2048x1024_S1024x128_1024_384
    · exact packedbf16_S2048x1024_S1024x128_1024_512
    · exact packedbf16_S2048x1024_S1024x128_1024_640
    · exact packedbf16_S2048x1024_S1024x128_1024_768
    · exact packedbf16_S2048x1024_S1024x128_1024_896)) (fun _ => rfl)

/-- The printed body is the body of the shared module. -/
theorem body_eq (i : grid0.Coords) (arg2 : Memref sig .tc .vmem S2048x1024 .bf16) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S8x2064x128 .f32) (harg8 : arg8.IsWhole) :
    cc0_proj_xbc (F := F) i arg2 harg2 arg3 harg3 arg4 harg4 arg5 harg5 arg6 harg6 arg7 harg7 arg8 harg8
      = Conv.body (nc := 8) (W := 1024) arg2 arg3 arg4 arg5 arg6 arg7 arg8 (fresh i) (begins i) k0_pay2 k0_pay3 k0_pay4
          act rfl h_S1024x1024 h_S1024x1024 h_S8x16x128
          (View.stores_vmem h_S1024x1024 (harg7.storeExact_slice rfl _ packedbf16_S1024x1024_S1024x1024_0_0) (fun _ => rfl)) (stores arg6 harg6) := by
  simp only [cc0_proj_xbc_eq_skeleton]
  unfold cc0_proj_xbc_skel Conv.body
  rw [k0_part1_eq_skeleton]
  unfold k0_part1_skel
  by_cases h1 : fresh i <;> by_cases h2 : begins i
  · simp only [dif_pos h1, dif_pos h2]
    sl_kernel_rfl
  · simp only [dif_pos h1, dif_neg h2]
    sl_kernel_rfl
  · simp only [dif_neg h1, dif_pos h2]
    sl_kernel_rfl
  · simp only [dif_neg h1, dif_neg h2]
    sl_kernel_rfl

end Cert.XbcIdeal.Hand

end
-- ==== Proof.XbcFrame.lean ====
/-
  The call that computes the SSD branch's convolution: what its buffers hold point by point, and its runs. The grid
  has three column blocks of eight row blocks each, four to a sequence. The transposed weight is written at a column
  block's first row block; the kept rows are reset at a sequence's first.
-/
module

public import proofs.«01_k».proof.Proof.ConvBody
public import proofs.«01_k».proof.Proof.XbcRun
public import Idealize.ShloMosaic.Lib.Claim
public import Idealize.ShloMosaic.Lib.WordCmp

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

namespace Cert.XbcIdeal.Hand

open Cert.XbcIdeal Cert.XbcIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The weight is transposed at the points ≡ 0 (mod 8). -/
theorem fresh_iff (t : Fin cfg0.N) : fresh (grid0.coords t) ↔ t.val % 8 = 0 := by
  have ht : t.val < 24 := lt_of_lt_of_eq t.isLt N_0
  have e1 : (grid0.coords t 1).val = t.val / 1 % 8 := Pipeline.Grid.coords_val t 1 (by decide) rfl
  simp only [fresh, e1]
  word_cmp

/-- The kept rows are reset at the points ≡ 0 (mod 4). -/
theorem begins_iff (t : Fin cfg0.N) : begins (grid0.coords t) ↔ t.val % 4 = 0 := by
  revert t
  exact (by decide +kernel : ∀ t : Fin grid0.N, begins (grid0.coords t) ↔ t.val % 4 = 0)

/-- The transposed weight after point `n`. -/
def wAt (c : Dev nD) : (n : ℕ) → n < cfg0.N → FVec F S1024x1024 .bf16
  | 0, h => k0_pay2 (iblk m c 1 ⟨0, h⟩)
  | n + 1, h => if (n + 1) % 8 = 0 then k0_pay2 (iblk m c 1 ⟨n + 1, h⟩) else wAt c n (Nat.lt_of_succ_lt h)

/-- The rows that point `n` keeps. -/
def lastAt (c : Dev nD) (n : ℕ) (h : n < cfg0.N) (q : ℕ) (hq : q < 8) : FVec F Conv.PKept .f32 :=
  Conv.kept (Conv.columns (k0_pay4 (Conv.halfOf (iblk m c 0 ⟨n, h⟩) (by decide : 1 < 2)) (wAt m c n h)) (rfl : 128 * 8 = 1024) hq)

/-- The rows kept before the blocks of point `n`. -/
def keptAt (c : Dev nD) (n : ℕ) (h : n < cfg0.N) (q : ℕ) (hq : q < 8) : FVec F Conv.PKept .f32 :=
  if n % 4 = 0 then Conv.resetKept k0_pay3 q hq else lastAt m c (n - 1) (lt_of_le_of_lt (Nat.sub_le _ _) h) q hq

/-- The result's block that point `t` leaves. -/
def outAt (c : Dev nD) (t : Fin cfg0.N) : FVec F S2048x1024 .bf16 :=
  Conv.resultOf (rfl : 128 * 8 = 1024) act k0_pay4 (iblk m c 0 t) (iblk m c 2 t) (iblk m c 3 t) (wAt m c t.val t.isLt) (keptAt m c t.val t.isLt)

theorem wAt_fresh (c : Dev nD) (t : Fin cfg0.N) (h : t.val % 8 = 0) : k0_pay2 (iblk m c 1 t) = wAt m c t.val t.isLt := by
  obtain ⟨n, hn⟩ := t
  cases n with
  | zero => rfl
  | succ n => exact (if_pos h).symm

theorem wAt_stale (c : Dev nD) (n : ℕ) (hn : n + 1 < cfg0.N) (h : ¬(n + 1) % 8 = 0) : wAt m c n (Nat.lt_of_succ_lt hn) = wAt m c (n + 1) hn :=
  (if_neg h).symm

/-- The two scratch buffers. -/
abbrev scr0 : Memref sig .tc .vmem S1024x1024 .bf16 := Memref.whole cc0_scratch0
abbrev scr1 : Memref sig .tc .vmem S8x2064x128 .f32 := Memref.whole cc0_scratch1

/-- What the region hands the first point, in terms of the two scratch buffers. -/
theorem entry_eq (c : Dev nD) : (Pipeline.ΦA spec0 c : sProp 𝕄)
    = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant before point `n`: the scratch buffers as the point before left them. -/
def inv (c : Dev nD) : (n : ℕ) → n ≤ cfg0.N → sProp 𝕄
  | 0, _ => Pipeline.ΦA spec0 c
  | n + 1, h => iprop((owns (c : Thread nD τ) scr0 fullShare (wAt m c n h) ∗ Conv.keeps scr1 c (lastAt m c n h)) ∗ (∃ r, prngReg c r))

/-- What a point's body may assume of the scratch buffers. -/
theorem inv_open (c : Dev nD) (t : Fin cfg0.N) : inv m c t.val (Nat.le_of_lt t.isLt)
    ⊢ iprop(((∃ f, ⌜¬fresh (grid0.coords t) → scr0.view.read (Elt F) f = wAt m c t.val t.isLt⌝ ∗ Conv.held c scr0 f)
        ∗ (∃ f, ⌜¬begins (grid0.coords t) → ∀ q (hq : q < 8), Conv.keptIn scr1 f hq = keptAt m c t.val t.isLt q hq⌝ ∗ Conv.held c scr1 f)) ∗ (∃ r, prngReg c r)) := by
  obtain ⟨n, hn⟩ := t
  cases n with
  | zero =>
    show Pipeline.ΦA spec0 c ⊢ _
    rw [entry_eq]
    unfold owns
    iintro ⟨⟨⟨%d0, %f0, %h0, H0⟩, ⟨%d1, %f1, %h1, H1⟩⟩, Hg⟩
    isplitr [Hg]
    · isplitl [H0]
      · iexists f0; isplitr; · ipureintro; exact fun h => absurd ((fresh_iff ⟨0, hn⟩).mpr rfl) h
        iexact H0
      iexists f1; isplitr; · ipureintro; exact fun h => absurd ((begins_iff ⟨0, hn⟩).mpr rfl) h
      iexact H1
    iexact Hg
  | succ n =>
    unfold inv Conv.keeps owns
    iintro ⟨⟨⟨%f0, %h0, H0⟩, ⟨%f1, %h1, H1⟩⟩, Hg⟩
    isplitr [Hg]
    · isplitl [H0]
      · iexists f0; isplitr; · ipureintro; exact fun h => h0.trans (wAt_stale m c n hn fun e => h ((fresh_iff ⟨n + 1, hn⟩).mpr e))
        iexact H0
      iexists f1; isplitr
      · ipureintro
        exact fun h q hq => (h1 q hq).trans (if_neg (fun e => h ((begins_iff ⟨n + 1, hn⟩).mpr e))).symm
      iexact H1
    iexact Hg

/-- The pipeline's data: each input's block in place, the result's block at `outAt`, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val (Nat.le_of_lt_succ t.isLt)
  q _ := fullShare
  owed _ := 0

theorem dats_A (c : Dev nD) (w : Fin cfg0.W) : (dats m 0 c).A w = V m c (Pipeline.arrRef spec0 w) := by dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- The windows' buffers at point `t`. -/
abbrev buf0 (t : Fin cfg0.N) : Memref sig .tc .vmem S2048x1024 .bf16 := win0_0.stage (cfg0.slots t 0)
abbrev buf1 (t : Fin cfg0.N) : Memref sig .tc .vmem S1024x1024 .f32 := win0_1.stage (cfg0.slots t 1)
abbrev buf2 (t : Fin cfg0.N) : Memref sig .tc .vmem S4x1024 .f32 := win0_2.stage (cfg0.slots t 2)
abbrev buf3 (t : Fin cfg0.N) : Memref sig .tc .vmem S1x1024 .f32 := win0_3.stage (cfg0.slots t 3)
abbrev buf4 (t : Fin cfg0.N) : Memref sig .tc .vmem S2048x1024 .bf16 := win0_4.stage (cfg0.slots t 4)

/-- What the body is given at a point. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- What it gives back. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t))

set_option maxHeartbeats 1600000 in
/-- The body at any point, by the shared body's triple. -/
theorem sound (c : Dev nD) (t : Fin cfg0.N) :
    given m c t ⊢ wp frame (wpE (defs₀ (F := F)) Variants.none c none) Set.univ (bodyAt0 t) (fun _ => returned m c t) := by
  unfold given returned bodyAt0
  simp only [before0_0_of m (dats m 0 c) (dats_A m c 0) (after0 m c), before0_1_of m (dats m 0 c) (dats_A m c 1) (after1 m c),
    before0_2_of m (dats m 0 c) (dats_A m c 2) (after2 m c), before0_3_of m (dats m 0 c) (dats_A m c 3) (after3 m c)]
  rw [show (dats m 0 c).owesAt () t.succ = (dats m 0 c).owesAt () t.castSucc from rfl, after0, after1, after2, after3, after4,
    show (dats m 0 c).Φ t.succ = inv m c (t.val + 1) t.isLt from rfl, inv_at, body_eq]
  refine BIBase.Entails.trans (sep_mono_left (inv_open m c t)) ?_
  iintro ⟨⟨Hs, Hg⟩, Ho, ⟨%d0, H0⟩, ⟨%d1, H1⟩, ⟨%d2, H2⟩, ⟨%d3, H3⟩, ⟨%d4, H4⟩⟩
  iapply (Conv.runPoint (nc := 8) (W := 1024) (buf0 t) (buf1 t) (buf2 t) (buf3 t) (buf4 t) scr0 scr1 act (defs₀ (F := F)) Variants.none c none Set.univ _
    (fresh (grid0.coords t)) (begins (grid0.coords t)) k0_pay2 k0_pay3 k0_pay4 rfl h_S1024x1024 h_S1024x1024 h_S8x16x128 _ _
    iprop((∃ r, prngReg c r) ∗ (dats m 0 c).owesAt () t.castSucc) (iblk m c 0 t) (iblk m c 1 t) (iblk m c 2 t) (iblk m c 3 t)
    (wAt m c t.val t.isLt) (keptAt m c t.val t.isLt)
    (fun h => wAt_fresh m c t ((fresh_iff t).mp h)) (fun h q hq => (if_pos ((begins_iff t).mp h)).symm) ?_)
  swap
  · isplitl [H0 H1 H2 H3 H4]
    · isplitl [H0]; · iexact H0
      isplitl [H1]; · iexact H1
      isplitl [H2]; · iexact H2
      isplitl [H3]; · iexact H3
      iexists _; iexact H4
    isplitl [Hs]; · iexact Hs
    isplitl [Hg]; · iexact Hg
    iexact Ho
  iintro ⟨⟨H0, H1, H2, H3, H4⟩, ⟨Hw, Hk⟩, Hg, Ho⟩
  isplitl [Hw Hk Hg]
  · unfold inv
    isplitl [Hw Hk]
    · isplitl [Hw]; · iexact Hw
      iexact Hk
    iexact Hg
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem enter (c : Dev nD) : Pipeline.ΦA spec0 c ⊢ (dats m 0 c).Φ 0 := by
  rw [show (dats m 0 c).Φ 0 = Pipeline.ΦA spec0 c from rfl]

/-- After the last point the scratch buffers' contents are forgotten. -/
theorem leave (c : Dev nD) : (dats m 0 c).Φ (Fin.last cfg0.N) ⊢ Pipeline.ΦA spec0 c := by
  have e : (dats m 0 c).Φ (Fin.last cfg0.N) = inv m c (23 + 1) (le_of_eq N_0.symm) := rfl
  rw [e, entry_eq]
  unfold inv Conv.keeps
  iintro ⟨⟨H0, ⟨%f1, %h1, H1⟩⟩, Hg⟩
  isplitr [Hg]
  · isplitl [H0]
    · iexists _; iexact H0
    iexists _; unfold owns; iexists f1; isplitr; · ipureintro; rfl
    iexact H1
  iexact Hg

set_option backward.isDefEq.respectTransparency.types false in
/-- THE LAUNCH: every array at what the data computes, every other buffer as it was, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (dats_A m) (run_main m ρ)

/-- THE FRAME, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_all m ρ))

end Cert.XbcIdeal.Hand

end
-- ==== Proof.ConvValue.lean ====
/-
  What the shared body computes, in the extended reals: at every row the bias and four products, the rows before the
  point's first taken from the kept rows.
-/
module

public import proofs.«01_k».proof.Proof.ConvBody

@[expose] public section

set_option maxRecDepth 16384

noncomputable section

open Idealize.ShloMosaic Idealize.ShloMosaic.TcCoe

namespace Cert.Conv

open Cert.Shared

/-- The value `s` rows before token `r` in its sequence; zero before the sequence begins. -/
def back (p : Fin 16384 → EReal) (r : Fin 16384) (s : ℕ) : EReal :=
  if s ≤ r.val % 8192 then p ⟨r.val - s, by omega⟩ else 0

/-- The causal convolution of a column `p` over four rows, with taps `w` and bias `b`. -/
def conv (p : Fin 16384 → EReal) (w : Fin 4 → EReal) (b : EReal) (r : Fin 16384) : EReal :=
  b + w 3 * back p r 0 + w 2 * back p r 1 + w 1 * back p r 2 + w 0 * back p r 3

/-- The value `s` rows before row `i` of a point: one of the point's rows, or a kept row. -/
def prior (P B : ℕ → EReal) (i s : ℕ) : EReal := if s ≤ i then P (i - s) else B (8 + i - s)

variable {nc W : ℕ}

/-- A column of a block, moved down. -/
theorem moved_apply (P B : ℕ → EReal) (k : FVec Ideal PKept .f32) (x : FVec Ideal Blk .f32) (b : Fin 128) (r : ℕ) (s : ℕ) (hs : s ≤ 8)
    (hx : ∀ a : Fin 1024, x (ix2 a b) = P (1024 * r + a.val))
    (hk : ∀ (j : Fin 8) (a : ℕ), a < s → j.val = 8 - s + a → k (ix3 0 j b) = prior P B (1024 * r + a) s) (a : Fin 1024) :
    moved s hs k x (ix3 0 a b) = prior P B (1024 * r + a.val) s := by
  unfold moved
  by_cases h : a.val < s
  · refine (dif_pos h).trans ?_
    exact hk _ a.val h rfl
  · refine (dif_neg h).trans ?_
    refine (hx _).trans ?_
    rw [prior, if_pos (by omega)]
    congr 1
    show 1024 * r + (a.val - s) = _
    omega

/-- A tap at a column. -/
theorem tapOf_apply {k r q : ℕ} (X : FVec Ideal ⟨2, ![k, W]⟩ .f32) (hr : r + 1 ≤ k) (hq : 128 * q + 128 ≤ W) (b : Fin 128) (hb : 128 * q + b.val < W) :
    tapOf X hr hq (ix2 0 b) = X (ix2 ⟨r, hr⟩ ⟨128 * q + b.val, hb⟩) := by
  show X _ = X _
  congr 1
  funext i; fin_cases i <;> apply Fin.ext
  · rfl
  · show 128 * q + 1 * b.val = _; rw [one_mul]; rfl

/-- THE BODY'S RESULT at row `i = 1024 * r + a` of a point and a column: the convolution of the column `P` of the projected
    rows, after the kept rows `B`. -/
theorem result_apply (hW : 128 * nc = W) (act : FVec Ideal Blk .f32 → FVec Ideal Blk .bf16) (g : EReal → EReal) (hact : ∀ y j, act y j = g (y j))
    (mm : FVec Ideal Half .bf16 → FVec Ideal ⟨2, ![1024, W]⟩ .bf16 → FVec Ideal ⟨2, ![1024, W]⟩ .f32)
    (X2 : FVec Ideal Rows .bf16) (X4 : FVec Ideal ⟨2, ![4, W]⟩ .f32) (X5 : FVec Ideal ⟨2, ![1, W]⟩ .f32) (w : FVec Ideal ⟨2, ![1024, W]⟩ .bf16)
    (K : (q : ℕ) → q < nc → FVec Ideal PKept .f32) (q : ℕ) (hq : q < nc) (b : Fin 128) (hb : 128 * q + b.val < W) (P B : ℕ → EReal)
    (hP : ∀ r (hr : r < 2) (a : Fin 1024), mm (halfOf X2 hr) w (ix2 a ⟨128 * q + b.val, hb⟩) = P (1024 * r + a.val))
    (hB : ∀ j : Fin 8, K q hq (ix3 0 j b) = B j.val) (r : ℕ) (hr : r < 2) (a : Fin 1024) (h : 1024 * r + a.val < 2048) :
    resultOf hW act mm X2 X4 X5 w K (ix2 ⟨1024 * r + a.val, h⟩ ⟨128 * q + b.val, hb⟩)
      = g (X5 (ix2 0 ⟨128 * q + b.val, hb⟩) + X4 (ix2 3 ⟨128 * q + b.val, hb⟩) * prior P B (1024 * r + a.val) 0
          + X4 (ix2 2 ⟨128 * q + b.val, hb⟩) * prior P B (1024 * r + a.val) 1 + X4 (ix2 1 ⟨128 * q + b.val, hb⟩) * prior P B (1024 * r + a.val) 2
          + X4 (ix2 0 ⟨128 * q + b.val, hb⟩) * prior P B (1024 * r + a.val) 3) := by
  rw [resultOf_apply act hW mm X2 X4 X5 w K r hr q hq a b h hb]
  unfold convBlock
  rw [hact]
  have hcol : ∀ r (hr : r < 2) (a : Fin 1024), columns (mm (halfOf X2 hr) w) hW hq (ix2 a b) = P (1024 * r + a.val) := fun r hr a => by
    refine Eq.trans ?_ (hP r hr a)
    show mm (halfOf X2 hr) w _ = _
    congr 1
    funext i; fin_cases i <;> apply Fin.ext
    · show 0 + a.val = a.val; omega
    · rfl
  have hm : ∀ s (hs : s ≤ 8), moved s hs (before hW mm X2 w K r q hq) (columns (mm (halfOf X2 hr) w) hW hq) (ix3 0 a b)
      = prior P B (1024 * r + a.val) s := fun s hs => by
    refine moved_apply P B _ _ b r s hs (hcol r hr) (fun j a ha hj => ?_) a
    obtain rfl | rfl : r = 0 ∨ r = 1 := by omega
    · refine (hB j).trans ?_
      rw [prior, if_neg (by omega)]
      congr 1; omega
    · refine Eq.trans (b := P (1024 * 0 + (1016 + j.val))) ?_ ?_
      · refine Eq.trans ?_ (hcol 0 (by decide) ⟨1016 + j.val, by omega⟩)
        have e : before hW mm X2 w K 1 q hq = kept (columns (mm (halfOf X2 (by decide : 0 < 2)) w) hW hq) := if_neg (by decide)
        rw [e]
        generalize columns _ _ _ = x0
        pointwise
      · rw [prior, if_pos (by omega)]
        congr 1; omega
  have h0 : columns (mm (halfOf X2 hr) w) hW hq (ix2 a b) = prior P B (1024 * r + a.val) 0 := (hcol r hr a).trans (if_pos (Nat.zero_le _)).symm
  congr 1
  rw [← h0, ← hm 1 (by decide), ← hm 2 (by decide), ← hm 3 (by decide)]
  generalize moved 1 _ _ _ = x1
  generalize moved 2 _ _ _ = x2
  generalize moved 3 _ _ _ = x3
  generalize columns _ _ _ = x0
  pointwise
  simp only [tapOf_apply _ _ _ b hb]
  rfl

/-- A half of the rows, element by element. -/
theorem halfOf_apply {r : ℕ} (X : FVec Ideal Rows .bf16) (hr : r < 2) (a k : Fin 1024) :
    halfOf X hr (ix2 a k) = X (ix2 ⟨1024 * r + a.val, by omega⟩ k) := by
  show X _ = X _
  congr 1
  funext i; fin_cases i <;> apply Fin.ext
  · show 1024 * r + 1 * a.val = _; rw [one_mul]; rfl
  · show 0 + 1 * k.val = k.val; omega

/-- The rows of row block `T`, of a column `p`. -/
def rowsOf (p : Fin 16384 → EReal) (T : ℕ) (i : ℕ) : EReal := p ⟨(T * 2048 + i) % 16384, Nat.mod_lt _ (by decide)⟩

/-- The eight rows before row block `T` in its sequence; zeros where the sequence begins. -/
def rowsBefore (p : Fin 16384 → EReal) (T : ℕ) (j : ℕ) : EReal :=
  if T % 4 = 0 then 0 else p ⟨(T * 2048 - 8 + j) % 16384, Nat.mod_lt _ (by decide)⟩

/-- What stands before a row of a row block is what stands before it in its sequence. -/
theorem prior_eq (p : Fin 16384 → EReal) (T : ℕ) (hT : T < 8) (i s : ℕ) (hi : i < 2048) (hs : s ≤ 8) :
    prior (rowsOf p T) (rowsBefore p T) i s = back p ⟨T * 2048 + i, by omega⟩ s := by
  unfold prior back rowsOf rowsBefore
  by_cases h : s ≤ i
  · rw [if_pos h, if_pos (by show s ≤ (T * 2048 + i) % 8192; omega)]
    congr 1; apply Fin.ext
    show (T * 2048 + (i - s)) % 16384 = T * 2048 + i - s
    omega
  · rw [if_neg h]
    by_cases hz : T % 4 = 0
    · rw [if_pos hz, if_neg (by show ¬s ≤ (T * 2048 + i) % 8192; omega)]
    · rw [if_neg hz, if_pos (by show s ≤ (T * 2048 + i) % 8192; omega)]
      congr 1; apply Fin.ext
      show (T * 2048 - 8 + (8 + i - s)) % 16384 = T * 2048 + i - s
      omega

/-- `result_apply` where the point's rows and the kept rows are those of a row block of a column `p`. -/
theorem result_conv (hW : 128 * nc = W) (act : FVec Ideal Blk .f32 → FVec Ideal Blk .bf16) (g : EReal → EReal) (hact : ∀ y j, act y j = g (y j))
    (mm : FVec Ideal Half .bf16 → FVec Ideal ⟨2, ![1024, W]⟩ .bf16 → FVec Ideal ⟨2, ![1024, W]⟩ .f32)
    (hmm : ∀ X w (a : Fin 1024) (n : Fin W), mm X w (ix2 a n) = dotRow X w a n)
    (X2 : FVec Ideal Rows .bf16) (X4 : FVec Ideal ⟨2, ![4, W]⟩ .f32) (X5 : FVec Ideal ⟨2, ![1, W]⟩ .f32) (w : FVec Ideal ⟨2, ![1024, W]⟩ .bf16)
    (K : (q : ℕ) → q < nc → FVec Ideal PKept .f32) (p : Fin 16384 → EReal) (T : ℕ) (hT : T < 8) (n : Fin W)
    (hP : ∀ r : Fin 2048, dotRow X2 w r n = rowsOf p T r.val)
    (hB : ∀ (j : Fin 8) (q : ℕ) (hq : q < nc) (b : Fin 128), n.val = 128 * q + b.val → K q hq (ix3 0 j b) = rowsBefore p T j.val) (r : Fin 2048) :
    resultOf hW act mm X2 X4 X5 w K (ix2 r n) = g (conv p (fun s => X4 (ix2 s n)) (X5 (ix2 0 n)) ⟨T * 2048 + r.val, by omega⟩) := by
  have hr := r.isLt
  have hn := n.isLt
  have key : ∀ (n' : Fin W) (r' : Fin 2048), n' = n → r' = r → resultOf hW act mm X2 X4 X5 w K (ix2 r' n')
      = g (conv p (fun s => X4 (ix2 s n')) (X5 (ix2 0 n')) ⟨T * 2048 + r'.val, by omega⟩) →
      resultOf hW act mm X2 X4 X5 w K (ix2 r n) = g (conv p (fun s => X4 (ix2 s n)) (X5 (ix2 0 n)) ⟨T * 2048 + r.val, by omega⟩) := by
    rintro _ _ rfl rfl h; exact h
  have en : (⟨128 * (n.val / 128) + n.val % 128, by omega⟩ : Fin W) = n := Fin.ext (Nat.div_add_mod _ _)
  refine key ⟨128 * (n.val / 128) + n.val % 128, by omega⟩ ⟨1024 * (r.val / 1024) + r.val % 1024, by omega⟩ en (Fin.ext (Nat.div_add_mod _ _)) ?_
  refine (result_apply hW act g hact mm X2 X4 X5 w K (n.val / 128) (by omega) ⟨n.val % 128, Nat.mod_lt _ (by decide)⟩ (by show 128 * (n.val / 128) + n.val % 128 < W; omega)
    (rowsOf p T) (rowsBefore p T) (fun h hh a => ?_) (fun j => hB j _ _ _ (Nat.div_add_mod _ _).symm) (r.val / 1024) (by omega)
    ⟨r.val % 1024, Nat.mod_lt _ (by decide)⟩ (by show 1024 * (r.val / 1024) + r.val % 1024 < 2048; omega)).trans ?_
  · refine (hmm _ _ a _).trans ?_
    refine Eq.trans ?_ (hP ⟨1024 * h + a.val, by omega⟩)
    unfold dotRow
    refine Finset.sum_congr rfl fun k _ => ?_
    rw [halfOf_apply]
    congr 2
    exact congrArg (fun z => (ix2 k z : (⟨2, ![1024, W]⟩ : Shape).Idx)) en
  · unfold conv
    have e := fun s hs => prior_eq p T hT (1024 * (r.val / 1024) + r.val % 1024) s (by omega) hs
    congr 1
    show _ + _ * prior _ _ (1024 * (r.val / 1024) + r.val % 1024) 0 + _ * prior _ _ (1024 * (r.val / 1024) + r.val % 1024) 1
      + _ * prior _ _ (1024 * (r.val / 1024) + r.val % 1024) 2 + _ * prior _ _ (1024 * (r.val / 1024) + r.val % 1024) 3 = _
    rw [e 0 (by decide), e 1 (by decide), e 2 (by decide), e 3 (by decide)]

/-- The rows that a point keeps: the last eight of its second half. -/
theorem kept_apply (hW : 128 * nc = W) (mm : FVec Ideal Half .bf16 → FVec Ideal ⟨2, ![1024, W]⟩ .bf16 → FVec Ideal ⟨2, ![1024, W]⟩ .f32)
    (hmm : ∀ X w (a : Fin 1024) (n : Fin W), mm X w (ix2 a n) = dotRow X w a n) (X2 : FVec Ideal Rows .bf16) (w : FVec Ideal ⟨2, ![1024, W]⟩ .bf16)
    (q : ℕ) (hq : q < nc) (j : Fin 8) (b : Fin 128) (n : Fin W) (hn : n.val = 128 * q + b.val) :
    kept (columns (mm (halfOf X2 (by decide : 1 < 2)) w) hW hq) (ix3 0 j b) = dotRow X2 w ⟨2040 + j.val, by omega⟩ n := by
  have e : columns (mm (halfOf X2 (by decide : 1 < 2)) w) hW hq (ix2 ⟨1016 + j.val, by omega⟩ b) = dotRow X2 w ⟨2040 + j.val, by omega⟩ n := by
    refine Eq.trans (b := mm (halfOf X2 (by decide : 1 < 2)) w (ix2 ⟨1016 + j.val, by omega⟩ n)) ?_ ?_
    · show mm _ _ _ = _
      congr 1
      funext i; fin_cases i <;> apply Fin.ext
      · show 0 + (1016 + j.val) = 1016 + j.val; omega
      · exact hn.symm
    · refine (hmm _ _ _ _).trans ?_
      unfold dotRow
      refine Finset.sum_congr rfl fun k _ => ?_
      rw [halfOf_apply]
      congr 3
      apply Fin.ext
      show 1024 * 1 + (1016 + j.val) = 2040 + j.val
      omega
  rw [← e]
  generalize columns _ _ _ = x0
  pointwise

/-- The projection's column, moved down by a padding of zeros, is `back` of the column. -/
theorem back_proj (h : FVec Ideal ⟨3, ![2, 8192, 1024]⟩ .bf16) (w : FVec Ideal ⟨3, ![1, 1024, 12320]⟩ .f32) (r : Fin 16384) (col : Fin 12320)
    (s : ℕ) {P : Prop} [Decidable P] (a : P → Fin 2) (b : P → Fin 8192) (z : EReal) (hP : P ↔ s ≤ r.val % 8192)
    (ha : ∀ p, (a p).val = r.val / 8192) (hb : ∀ p, (b p).val = r.val % 8192 - s) (hz : z = 0) :
    (if p : P then (∑ k : Fin 1024, h (ix3 (a p) (b p) k) * w (ix3 0 k col) : EReal) else z) = back (fun r => proj h w r col) r s := by
  unfold back
  by_cases p : P
  · have hs := hP.mp p
    rw [dif_pos p, if_pos hs]
    unfold proj
    have ea : a p = ⟨(r.val - s) / 8192, by omega⟩ := Fin.ext ((ha p).trans (by show r.val / 8192 = (r.val - s) / 8192; omega))
    have eb : b p = ⟨(r.val - s) % 8192, by omega⟩ := Fin.ext ((hb p).trans (by show r.val % 8192 - s = (r.val - s) % 8192; omega))
    rw [ea, eb]
  · rw [dif_neg p, if_neg (fun h => p (hP.mpr h)), hz]

/-- The reference's order of the sum. -/
theorem conv_of (p : Fin 16384 → EReal) (w : Fin 4 → EReal) (b : EReal) (r : Fin 16384) (x0 x1 x2 x3 : EReal) (h0 : x0 = back p r 3)
    (h1 : x1 = back p r 2) (h2 : x2 = back p r 1) (h3 : x3 = back p r 0) : x0 * w 0 + x1 * w 1 + x2 * w 2 + x3 * w 3 + b = conv p w b r := by
  subst h0 h1 h2 h3
  unfold conv
  rw [mul_comm (w 0), mul_comm (w 1), mul_comm (w 2), mul_comm (w 3)]
  ac_rfl

end Cert.Conv

end
-- ==== Proof.XbcValue.lean ====
/-
  The call that computes the SSD branch's convolution, as arrays: what its blocks hold in terms of the arguments, and
  that the kernel's result after the run and the reference's result are one function of the four arguments.
-/
module

public import proofs.«01_k».proof.Proof.XbcFrame
public import proofs.«01_k».proof.Proof.ConvValue
public import proofs.«01_k».proof.Proof.Gen.XbcRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.XbcIdeal.Hand

open Cert.XbcIdeal Cert.XbcIdeal.Gen Cert.Shared

variable (m : (ℓ : Loc nD τ sig) → Buf (Elt Ideal) ℓ)

/-- Where the windows stand at a grid point: the row block is the point's number modulo 8, the column block its
    quotient by 8; the weight's window is at the row where the column block's weight begins. -/
theorem idx : ∀ t : Fin cfg0.N, win0_0.index t = ![t.val % 8, 0] ∧ win0_1.index t = ![2048 + t.val / 8 * 1024, 0]
    ∧ win0_2.index t = ![0, t.val / 8] ∧ win0_3.index t = ![0, t.val / 8]
    ∧ win0_4.index t = ![t.val % 8, t.val / 8] := (by decide +kernel : ∀ t : Fin grid0.N, _)

/-- The rows that a point multiplies, read from the first argument. -/
theorem rows_apply (c : Dev nD) (t : Fin cfg0.N) (r : Fin 2048) (k : Fin 1024) (h : t.val % 8 * 2048 + r.val < 16384) :
    iblk m c 0 t (ix2 r k) = m ((c : Thread nD τ).loc main_arg0)
      (ix3 ⟨(t.val % 8 * 2048 + r.val) / 8192, by omega⟩ ⟨(t.val % 8 * 2048 + r.val) % 8192, by omega⟩ k) := by
  blk_simp [iblk, idx t]
  entry_read
  pointwise
  blk_ext [idx t]

/-- The block of the weight that a point may fetch: its element `(j, k)` is the weight's column `j` of the column
    block, at the contracted coordinate `k`. -/
theorem weight_apply (c : Dev nD) (t : Fin cfg0.N) (j : Fin 1024) (k : Fin 1024) (h : 2048 + (t.val / 8 * 1024 + j.val) < 12320) :
    iblk m c 1 t (ix2 j k) = m ((c : Thread nD τ).loc main_arg1) (ix3 0 k ⟨2048 + (t.val / 8 * 1024 + j.val), h⟩) := by
  blk_simp [iblk]
  entry_read
  have e : (((View.whole main_v1).slice (win0_1.rect t)).emb (ix2 j k) : S12320x1024.Idx)
      = ix2 ⟨2048 + (t.val / 8 * 1024 + j.val), h⟩ k := by
    have h0 : win0_1.index t (0 : Fin 2) = 2048 + t.val / 8 * 1024 := congrFun (idx t).2.1 0
    have h1 : win0_1.index t (1 : Fin 2) = 0 := congrFun (idx t).2.1 1
    funext a
    apply Fin.ext
    match a with
    | ⟨0, _⟩ => show win0_1.index t (0 : Fin 2) + 1 * j.val = _; rw [h0, one_mul]; exact Nat.add_assoc _ _ _
    | ⟨1, _⟩ => show win0_1.index t (1 : Fin 2) + 1 * k.val = _; rw [h1, one_mul, zero_add]; rfl
  rw [e]
  pointwise
  try rfl

/-- The taps of a point's column block. -/
theorem taps_apply (c : Dev nD) (t : Fin cfg0.N) (s : Fin 4) (j : Fin 1024) (h : t.val / 8 * 1024 + j.val < 3072) :
    iblk m c 2 t (ix2 s j) = m ((c : Thread nD τ).loc main_arg2) (ix3 0 s ⟨t.val / 8 * 1024 + j.val, h⟩) := by
  blk_simp [iblk, idx t]
  entry_read
  pointwise
  blk_ext [idx t]

/-- The bias of a point's column block. -/
theorem bias_apply (c : Dev nD) (t : Fin cfg0.N) (j : Fin 1024) (h : t.val / 8 * 1024 + j.val < 3072) :
    iblk m c 3 t (ix2 0 j) = m ((c : Thread nD τ).loc main_arg3) (ix2 0 ⟨t.val / 8 * 1024 + j.val, h⟩) := by
  blk_simp [iblk, idx t]
  entry_read
  pointwise
  blk_ext [idx t]

/-- What the transposed weight holds after a point: the weight's columns of the point's column block. -/
theorem held_apply (c : Dev nD) (t : Fin cfg0.N) (k : Fin 1024) (j : Fin 1024) (h : 2048 + (t.val / 8 * 1024 + j.val) < 12320) :
    wAt m c t.val t.isLt (ix2 k j) = m ((c : Thread nD τ).loc main_arg1) (ix3 0 k ⟨2048 + (t.val / 8 * 1024 + j.val), h⟩) := by
  rw [Pipeline.eq_of_write_hold (fun n h => wAt m c n h) 8 (fun t => k0_pay2 (F := Ideal) (iblk m c 1 t))
    (fun t h => (wAt_fresh m c t h).symm)
    (fun t h => by
      obtain ⟨n, hn⟩ := t
      cases n with
      | zero => exact absurd rfl h
      | succ n => exact (wAt_stale m c n hn h).symm) t]
  have e : 8 * (t.val / 8) / 8 = t.val / 8 := by omega
  pointwise [k0_pay2]
  rw [weight_apply m c ⟨8 * (t.val / 8), _⟩ j k (by show 2048 + (8 * (t.val / 8) / 8 * 1024 + j.val) < 12320; rw [e]; exact h)]
  simp only [e]

/-- The column of the projection that column `j` of a point's column block is. -/
abbrev colOf (c : Dev nD) (n : ℕ) (j : Fin 1024) (h : 2048 + (n / 8 * 1024 + j.val) < 12320) : Fin 16384 → EReal := fun r =>
  proj (m ((c : Thread nD τ).loc main_arg0)) (m ((c : Thread nD τ).loc main_arg1)) r ⟨2048 + (n / 8 * 1024 + j.val), h⟩

/-- A row of a point times a column of the transposed weight is an element of the projection. -/
theorem dot_apply (c : Dev nD) (t : Fin cfg0.N) (r : Fin 2048) (j : Fin 1024) (h : 2048 + (t.val / 8 * 1024 + j.val) < 12320) :
    dotRow (iblk m c 0 t) (wAt m c t.val t.isLt) r j = Conv.rowsOf (colOf m c t.val j h) (t.val % 8) r.val := by
  have hr := r.isLt
  have hh : ∀ k : Fin 1024, iblk m c 0 t (ix2 r k) = _ := fun k => rows_apply m c t r k (by omega)
  have hw : ∀ k : Fin 1024, wAt m c t.val t.isLt (ix2 k j) = _ := fun k => held_apply m c t k j h
  unfold Conv.rowsOf colOf proj
  simp only [dotRow, hh, hw]
  have e : (t.val % 8 * 2048 + r.val) % 16384 = t.val % 8 * 2048 + r.val := Nat.mod_eq_of_lt (by omega)
  simp only [e]

/-- The kernel's matrix product. -/
theorem mm_apply (X : FVec Ideal Conv.Half .bf16) (w : FVec Ideal S1024x1024 .bf16) (a : Fin 1024) (n : Fin 1024) :
    k0_pay4 (F := Ideal) X w (ix2 a n) = dotRow X w a n := by
  pointwise [k0_pay4]
  rfl

/-- The named constant is `-(1 / log 2)`. -/
theorem neg_log2e : (Named.named κ "neg_log2e" 0xBFB8AA3B#32 : Ideal .f32) = ((-((Real.log 2)⁻¹) : ℝ) : EReal) := rfl

/-- The kernel's activation is `silu`, element by element. -/
theorem act_apply (y : FVec Ideal Conv.Blk .f32) (i : Conv.Blk.Idx) : act (F := Ideal) y i = silu (y i) := by
  obtain ⟨a, b, rfl⟩ : ∃ (a : Fin 1024) (b : Fin 128), i = ix2 a b := ⟨i 0, i 1, eq_ix2 i⟩
  pointwise [act, k0_pay1, neg_log2e, exp2_named]
  rfl

/-- The rows kept before a point: the eight rows before it in its sequence. -/
theorem kept_before (c : Dev nD) (t : Fin cfg0.N) (j : Fin 8) (q : ℕ) (hq : q < 8) (b : Fin 128) (n : Fin 1024) (hn : n.val = 128 * q + b.val)
    (h : 2048 + (t.val / 8 * 1024 + n.val) < 12320) :
    keptAt m c t.val t.isLt q hq (ix3 0 j b) = Conv.rowsBefore (colOf m c t.val n h) (t.val % 8) j.val := by
  have hj := j.isLt
  unfold keptAt Conv.rowsBefore
  by_cases hz : t.val % 4 = 0
  · rw [if_pos hz, if_pos (by omega)]
    unfold Conv.resetKept
    pointwise [k0_pay3]
  · rw [if_neg hz, if_neg (by omega)]
    have h1 : t.val - 1 < cfg0.N := lt_of_le_of_lt (Nat.sub_le _ _) t.isLt
    have ed : (t.val - 1) / 8 = t.val / 8 := by omega
    refine (Conv.kept_apply (nc := 8) (W := 1024) (rfl : 128 * 8 = 1024) (k0_pay4 (F := Ideal)) mm_apply (iblk m c 0 ⟨t.val - 1, h1⟩) (wAt m c (t.val - 1) h1) q hq j b n hn).trans ?_
    refine (dot_apply m c ⟨t.val - 1, h1⟩ _ n (by show 2048 + ((t.val - 1) / 8 * 1024 + n.val) < 12320; rw [ed]; exact h)).trans ?_
    unfold Conv.rowsOf colOf
    have e2 : ((t.val - 1) % 8 * 2048 + (2040 + j.val)) % 16384 = (t.val % 8 * 2048 - 8 + j.val) % 16384 := by omega
    simp only [ed, e2]

/-- The result: column `j` of the activated convolution of the projection's columns from 2048 on. -/
def result (h : FVec Ideal S2x8192x1024 .bf16) (w : FVec Ideal S1x1024x12320 .f32) (taps : FVec Ideal S1x4x3072 .f32) (bias : FVec Ideal S1x3072 .f32) :
    FVec Ideal S16384x3072 .bf16 :=
  fun i => silu (Conv.conv (fun r => proj h w r ⟨2048 + (i 1).val, by have := (i 1).isLt; change _ < 3072 at this; omega⟩)
    (fun s => taps (ix3 0 s (i 1))) (bias (ix2 0 (i 1))) (i 0))

/-- What a point leaves in the result's block. -/
theorem out_apply (c : Dev nD) (t : Fin cfg0.N) (r : Fin 2048) (j : Fin 1024) (hr : t.val % 8 * 2048 + r.val < 16384) (hj : t.val / 8 * 1024 + j.val < 3072) :
    outAt m c t (ix2 r j) = result (m ((c : Thread nD τ).loc main_arg0)) (m ((c : Thread nD τ).loc main_arg1))
      (m ((c : Thread nD τ).loc main_arg2)) (m ((c : Thread nD τ).loc main_arg3)) (ix2 ⟨t.val % 8 * 2048 + r.val, hr⟩ ⟨t.val / 8 * 1024 + j.val, hj⟩) := by
  have hc : 2048 + (t.val / 8 * 1024 + j.val) < 12320 := by omega
  unfold outAt
  rw [Conv.result_conv (nc := 8) (W := 1024) (rfl : 128 * 8 = 1024) (act (F := Ideal)) silu act_apply (k0_pay4 (F := Ideal)) mm_apply
    (iblk m c 0 t) (iblk m c 2 t) (iblk m c 3 t) (wAt m c t.val t.isLt) (keptAt m c t.val t.isLt)
    (colOf m c t.val j hc) (t.val % 8) (Nat.mod_lt _ (by decide)) j (fun r => dot_apply m c t r j hc)
    (fun i q hq b hb => kept_before m c t i q hq b j hb hc) r, bias_apply m c t j hj]
  simp only [fun s => taps_apply m c t s j hj]
  rfl

/-- The result array after the kernel's run. -/
theorem final (c : Dev nD) : (dats m 0 c).arrAt 4 (cfgs 0).N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after4]
  obtain ⟨r, j, rfl⟩ : ∃ (r : Fin 2048) (j : Fin 1024), y = ix2 r j := ⟨y 0, y 1, eq_ix2 y⟩
  have hN : t.val < 24 := lt_of_lt_of_eq t.isLt N_0
  have hj := j.isLt
  have hr := r.isLt
  have e : (((win0_4.blk t).view.emb (ix2 r j)) : S16384x3072.Idx)
      = ix2 ⟨t.val % 8 * 2048 + r.val, by omega⟩ ⟨t.val / 8 * 1024 + j.val, by omega⟩ := by
    blk_ext [idx t]
  rw [e]
  exact out_apply m c t r j _ _

/-- THE KERNEL'S RUN: it ends with the result at `result` of the arguments, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v6)
          = result (m ((c : Thread nD τ).loc main_arg0)) (m ((c : Thread nD τ).loc main_arg1)) (m ((c : Thread nD τ).loc main_arg2))
              (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final m c), h.2 c⟩)
    (θ_run_and (run_main m ρ) (unchanged m ρ))

end Cert.XbcIdeal.Hand

end
-- ==== Proof.XbcRef.lean ====
/-
  The reference of the SSD branch's convolution, as an array: its result is the same function of the arguments as
  the kernel's.
-/
module

public import proofs.«01_k».proof.Proof.XbcValue

@[expose] public section

set_option maxRecDepth 16384

noncomputable section

open Idealize.ShloMosaic Idealize.ShloMosaic.TcCoe Idealize.SL.Sem
open Idealize.ShloMosaic.Pipeline (Dat)

namespace Cert.XbcIdeal.Hand

open Cert.XbcIdeal Cert.XbcIdeal.Gen Cert.Shared

set_option maxHeartbeats 1000000 in
/-- THE REFERENCE'S RUN: it ends with its result at the same function of its arguments. -/
theorem reference_run (m : (ℓ : Loc Cert.XbcRefIdeal.nD Cert.XbcRefIdeal.τ Cert.XbcRefIdeal.sig) → Buf (Elt Ideal) ℓ)
    (ρ : Dev Cert.XbcRefIdeal.nD → PrngReg) :
    θ_run Cert.XbcRefIdeal.defs (onTc (τ := Cert.XbcRefIdeal.τ) (Cert.XbcRefIdeal.main (F := Ideal))) ⟨m, fun _ => 0, ρ⟩
      fun r => ∀ c : Dev Cert.XbcRefIdeal.nD,
        r.2.mem ((c.tc : Thread Cert.XbcRefIdeal.nD Cert.XbcRefIdeal.τ).loc Cert.XbcRefIdeal.main_v45)
          = result (m ((c.tc : Thread Cert.XbcRefIdeal.nD Cert.XbcRefIdeal.τ).loc Cert.XbcRefIdeal.main_arg0))
              (m ((c.tc : Thread Cert.XbcRefIdeal.nD Cert.XbcRefIdeal.τ).loc Cert.XbcRefIdeal.main_arg1))
              (m ((c.tc : Thread Cert.XbcRefIdeal.nD Cert.XbcRefIdeal.τ).loc Cert.XbcRefIdeal.main_arg2))
              (m ((c.tc : Thread Cert.XbcRefIdeal.nD Cert.XbcRefIdeal.τ).loc Cert.XbcRefIdeal.main_arg3))
        ∧ r.2.mem ((c.tc : Thread Cert.XbcRefIdeal.nD Cert.XbcRefIdeal.τ).loc Cert.XbcRefIdeal.main_arg0)
          = m ((c.tc : Thread Cert.XbcRefIdeal.nD Cert.XbcRefIdeal.τ).loc Cert.XbcRefIdeal.main_arg0)
        ∧ r.2.mem ((c.tc : Thread Cert.XbcRefIdeal.nD Cert.XbcRefIdeal.τ).loc Cert.XbcRefIdeal.main_arg1)
          = m ((c.tc : Thread Cert.XbcRefIdeal.nD Cert.XbcRefIdeal.τ).loc Cert.XbcRefIdeal.main_arg1)
        ∧ r.2.mem ((c.tc : Thread Cert.XbcRefIdeal.nD Cert.XbcRefIdeal.τ).loc Cert.XbcRefIdeal.main_arg2)
          = m ((c.tc : Thread Cert.XbcRefIdeal.nD Cert.XbcRefIdeal.τ).loc Cert.XbcRefIdeal.main_arg2)
        ∧ r.2.mem ((c.tc : Thread Cert.XbcRefIdeal.nD Cert.XbcRefIdeal.τ).loc Cert.XbcRefIdeal.main_arg3)
          = m ((c.tc : Thread Cert.XbcRefIdeal.nD Cert.XbcRefIdeal.τ).loc Cert.XbcRefIdeal.main_arg3) := by
  refine (θ_run Cert.XbcRefIdeal.defs _ _).mono (fun r h c => ⟨(h c).1.trans ?_, (h c).2⟩)
    (Cert.XbcRefIdeal.Value.run (F := Ideal) m ρ)
  clear h
  unfold Cert.XbcRefIdeal.Value.res_main_v45
  generalize m ((c.tc : Thread Cert.XbcRefIdeal.nD Cert.XbcRefIdeal.τ).loc Cert.XbcRefIdeal.main_arg0) = h0
  generalize m ((c.tc : Thread Cert.XbcRefIdeal.nD Cert.XbcRefIdeal.τ).loc Cert.XbcRefIdeal.main_arg1) = w0
  generalize m ((c.tc : Thread Cert.XbcRefIdeal.nD Cert.XbcRefIdeal.τ).loc Cert.XbcRefIdeal.main_arg2) = w2
  generalize m ((c.tc : Thread Cert.XbcRefIdeal.nD Cert.XbcRefIdeal.τ).loc Cert.XbcRefIdeal.main_arg3) = w3
  funext i
  obtain ⟨r, j, rfl⟩ : ∃ (r : Fin 16384) (j : Fin 3072), i = ix2 r j := ⟨i 0, i 1, eq_ix2 i⟩
  clean_types
  pointwise
  have hr := r.isLt
  have hz : (FloatOps.sitofp .f32 0#32 : Ideal .f32) = 0 := by
    show ((((0#32 : BitVec 32).toInt : ℤ) : ℝ) : EReal) = 0
    simp
  refine congrArg silu ?_
  refine Conv.conv_of (fun r => proj h0 w0 r ⟨2048 + j.val, by omega⟩) (fun s => w2 (ix3 0 s j)) (w3 (ix2 0 j)) r _ _ _ _ ?_ ?_ ?_ ?_
  · exact Conv.back_proj h0 w0 r ⟨2048 + j.val, by omega⟩ 3 (P := r.val / 8192 < 2 ∧ 3 ≤ r.val % 8192 ∧ r.val % 8192 - 3 < 8192) (fun p => ⟨r.val / 8192, p.1⟩) (fun p => ⟨r.val % 8192 - 3, p.2.2⟩) _ (by omega) (fun _ => rfl) (fun _ => rfl) hz
  · exact Conv.back_proj h0 w0 r ⟨2048 + j.val, by omega⟩ 2 (P := r.val / 8192 < 2 ∧ 3 ≤ 1 + r.val % 8192 ∧ 1 + r.val % 8192 - 3 < 8192) (fun p => ⟨r.val / 8192, p.1⟩) (fun p => ⟨1 + r.val % 8192 - 3, p.2.2⟩) _ (by omega) (fun _ => rfl) (fun _ => by show 1 + r.val % 8192 - 3 = _; omega) hz
  · exact Conv.back_proj h0 w0 r ⟨2048 + j.val, by omega⟩ 1 (P := r.val / 8192 < 2 ∧ 3 ≤ 2 + r.val % 8192 ∧ 2 + r.val % 8192 - 3 < 8192) (fun p => ⟨r.val / 8192, p.1⟩) (fun p => ⟨2 + r.val % 8192 - 3, p.2.2⟩) _ (by omega) (fun _ => rfl) (fun _ => by show 2 + r.val % 8192 - 3 = _; omega) hz
  · exact Conv.back_proj h0 w0 r ⟨2048 + j.val, by omega⟩ 0 (P := r.val / 8192 < 2 ∧ r.val % 8192 < 8192) (fun p => ⟨r.val / 8192, p.1⟩) (fun p => ⟨r.val % 8192, p.2⟩) _ (by omega) (fun _ => rfl) (fun _ => rfl) hz

end Cert.XbcIdeal.Hand

end
-- ==== Proof.LxRun.lean ====
/-
  The call that computes the recurrent branch's convolution, as a program: its body is the transposition of the weight and
  the reset of the kept rows, each at some points only, then twelve blocks.
-/
module

public import proofs.«01_k».proof.Proof.Conv
public import proofs.«01_k».proof.Proof.Gen.Lx
public import proofs.«01_k».proof.Proof.Gen.Lx.Skeleton
public import proofs.«01_k».proof.Proof.Gen.Lx.Launch
public import proofs.«01_k».proof.Proof.Gen.Lx.Points
public import proofs.«01_k».proof.Proof.Gen.Lx.Frame
public import proofs.«01_k».proof.Proof.Gen.LxIdeal
public import proofs.«01_k».proof.Proof.Gen.LxIdeal.Skeleton
public import proofs.«01_k».proof.Proof.Gen.LxIdeal.Launch
public import proofs.«01_k».proof.Proof.Gen.LxIdeal.Points
public import proofs.«01_k».proof.Proof.Gen.LxIdeal.Frame
public import Idealize.ShloMosaic.Lib.Tactic

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.LxIdeal.Hand

open Cert.LxIdeal Cert.LxIdeal.Gen

variable {F : FTy → Type} [FloatOps F]

/-- The body transposes its block of the weight. -/
abbrev fresh (i : grid0.Coords) : Prop := (Scalar.cmpi .ne (Scalar.extui (Scalar.cmpi .eq (BitVec.ofNat 32 (i 1).val) 0#32)) 0#32) = 1#1

/-- The number of a row block in its sequence. -/
abbrev place (i : grid0.Coords) : BitVec 32 :=
  let d : BitVec 32 := Scalar.select (Scalar.cmpi .eq 4#32 0#32) 1#32 4#32
  let v5 : BitVec 32 := Scalar.remsi (BitVec.ofNat 32 (i 1).val) d
  Scalar.select (Scalar.andi (Scalar.xori (Scalar.cmpi .slt v5 0#32) (Scalar.cmpi .slt d 0#32)) (Scalar.cmpi .ne v5 0#32)) (Scalar.addi v5 d) v5

/-- The body resets the kept rows: its row block begins a sequence. -/
abbrev begins (i : grid0.Coords) : Prop := (Scalar.cmpi .ne (Scalar.extui (Scalar.cmpi .eq (place i) 0#32)) 0#32) = 1#1

/-- The stores of the result are exact: its rows are packed. -/
theorem stores (arg6 : Memref sig .tc .vmem S2048x768 .bf16) (harg6 : arg6.IsWhole) (r : ℕ) (hr : r < 2) (q : ℕ) (hq : q < 6) :
    (arg6.access (Conv.outAt hr (Conv.width (rfl : 128 * 6 = 768) hq))).Stores Finset.univ :=
  View.stores_vmem h_S1024x128 (harg6.storeExact_slice rfl _ (by
    interval_cases r <;> interval_cases q
    · exact packedbf16_S2048x768_S1024x128_0_0
    · exact packedbf16_S2048x768_S1024x128_0_128
    · exact packedbf16_S2048x768_S1024x128_0_256
    · exact packedbf16_S2048x768_S1024x128_0_384
    · exact packedbf16_S2048x768_S1024x128_0_512
    · exact packedbf16_S2048x768_S1024x128_0_640
    · exact packedbf16_S2048x768_S1024x128_1024_0
    · exact packedbf16_S2048x768_S1024x128_1024_128
    · exact packedbf16_S2048x768_S1024x128_1024_256
    · exact packedbf16_S2048x768_S1024x128_1024_384
    · exact packedbf16_S2048x768_S1024x128_1024_512
    · exact packedbf16_S2048x768_S1024x128_1024_640)) (fun _ => rfl)

/-- The printed body is the body of the shared module. -/
theorem body_eq (i : grid0.Coords) (arg2 : Memref sig .tc .vmem S2048x1024 .bf16) (harg2 : arg2.IsWhole) (arg3 : Memref sig .tc .vmem S768x1024 .f32) (harg3 : arg3.IsWhole) (arg4 : Memref sig .tc .vmem S4x768 .f32) (harg4 : arg4.IsWhole) (arg5 : Memref sig .tc .vmem S1x768 .f32) (harg5 : arg5.IsWhole) (arg6 : Memref sig .tc .vmem S2048x768 .bf16) (harg6 : arg6.IsWhole) (arg7 : Memref sig .tc .vmem S1024x768 .bf16) (harg7 : arg7.IsWhole) (arg8 : Memref sig .tc .vmem S6x2064x128 .f32) (harg8 : arg8.IsWhole) :
    cc0_proj_lx (F := F) i arg2 harg2 arg3 harg3 arg4 harg4 arg5 harg5 arg6 harg6 arg7 harg7 arg8 harg8
      = Conv.body (nc := 6) (W := 768) arg2 arg3 arg4 arg5 arg6 arg7 arg8 (fresh i) (begins i) k0_pay3 k0_pay4 k0_pay5
          (fun y => truncf .bf16 y bitsLt_bf16_f32) rfl h_S1024x768 h_S768x1024 h_S6x16x128
          (View.stores_vmem h_S1024x768 (harg7.storeExact_slice rfl _ packedbf16_S1024x768_S1024x768_0_0) (fun _ => rfl)) (stores arg6 harg6) := by
  simp only [cc0_proj_lx_eq_skeleton]
  unfold cc0_proj_lx_skel Conv.body
  rw [k0_part1_eq_skeleton]
  unfold k0_part1_skel
  by_cases h1 : fresh i <;> by_cases h2 : begins i
  · simp only [dif_pos h1, dif_pos h2]
    sl_kernel_rfl
  · simp only [dif_pos h1, dif_neg h2]
    sl_kernel_rfl
  · simp only [dif_neg h1, dif_pos h2]
    sl_kernel_rfl
  · simp only [dif_neg h1, dif_neg h2]
    sl_kernel_rfl

end Cert.LxIdeal.Hand

end
-- ==== Proof.LxFrame.lean ====
/-
  The call that computes the recurrent branch's convolution: what its buffers hold point by point, and its runs. The grid
  has two column blocks of eight row blocks each, four to a sequence. The transposed weight is written at a column
  block's first row block; the kept rows are reset at a sequence's first.
-/
module

public import proofs.«01_k».proof.Proof.ConvBody
public import proofs.«01_k».proof.Proof.LxRun
public import Idealize.ShloMosaic.Lib.Claim
public import Idealize.ShloMosaic.Lib.WordCmp

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

namespace Cert.LxIdeal.Hand

open Cert.LxIdeal Cert.LxIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight is transposed at the points ≡ 0 (mod 8). -/
theorem fresh_iff (t : Fin cfg0.N) : fresh (grid0.coords t) ↔ t.val % 8 = 0 := by
  have ht : t.val < 16 := lt_of_lt_of_eq t.isLt N_0
  have e1 : (grid0.coords t 1).val = t.val / 1 % 8 := Pipeline.Grid.coords_val t 1 (by decide) rfl
  simp only [fresh, e1]
  word_cmp

/-- The kept rows are reset at the points ≡ 0 (mod 4). -/
theorem begins_iff (t : Fin cfg0.N) : begins (grid0.coords t) ↔ t.val % 4 = 0 := by
  revert t
  exact (by decide +kernel : ∀ t : Fin grid0.N, begins (grid0.coords t) ↔ t.val % 4 = 0)

/-- The activation: none, only the rounding. -/
abbrev act : FVec F Conv.Blk .f32 → FVec F Conv.Blk .bf16 := fun y => truncf .bf16 y bitsLt_bf16_f32

/-- The transposed weight after point `n`. -/
def wAt (c : Dev nD) : (n : ℕ) → n < cfg0.N → FVec F S1024x768 .bf16
  | 0, h => k0_pay3 (iblk m c 1 ⟨0, h⟩)
  | n + 1, h => if (n + 1) % 8 = 0 then k0_pay3 (iblk m c 1 ⟨n + 1, h⟩) else wAt c n (Nat.lt_of_succ_lt h)

/-- The rows that point `n` keeps. -/
def lastAt (c : Dev nD) (n : ℕ) (h : n < cfg0.N) (q : ℕ) (hq : q < 6) : FVec F Conv.PKept .f32 :=
  Conv.kept (Conv.columns (k0_pay5 (Conv.halfOf (iblk m c 0 ⟨n, h⟩) (by decide : 1 < 2)) (wAt m c n h)) (rfl : 128 * 6 = 768) hq)

/-- The rows kept before the blocks of point `n`. -/
def keptAt (c : Dev nD) (n : ℕ) (h : n < cfg0.N) (q : ℕ) (hq : q < 6) : FVec F Conv.PKept .f32 :=
  if n % 4 = 0 then Conv.resetKept k0_pay4 q hq else lastAt m c (n - 1) (lt_of_le_of_lt (Nat.sub_le _ _) h) q hq

/-- The result's block that point `t` leaves. -/
def outAt (c : Dev nD) (t : Fin cfg0.N) : FVec F S2048x768 .bf16 :=
  Conv.resultOf (rfl : 128 * 6 = 768) act k0_pay5 (iblk m c 0 t) (iblk m c 2 t) (iblk m c 3 t) (wAt m c t.val t.isLt) (keptAt m c t.val t.isLt)

theorem wAt_fresh (c : Dev nD) (t : Fin cfg0.N) (h : t.val % 8 = 0) : k0_pay3 (iblk m c 1 t) = wAt m c t.val t.isLt := by
  obtain ⟨n, hn⟩ := t
  cases n with
  | zero => rfl
  | succ n => exact (if_pos h).symm

theorem wAt_stale (c : Dev nD) (n : ℕ) (hn : n + 1 < cfg0.N) (h : ¬(n + 1) % 8 = 0) : wAt m c n (Nat.lt_of_succ_lt hn) = wAt m c (n + 1) hn :=
  (if_neg h).symm

/-- The two scratch buffers. -/
abbrev scr0 : Memref sig .tc .vmem S1024x768 .bf16 := Memref.whole cc0_scratch0
abbrev scr1 : Memref sig .tc .vmem S6x2064x128 .f32 := Memref.whole cc0_scratch1

/-- What the region hands the first point, in terms of the two scratch buffers. -/
theorem entry_eq (c : Dev nD) : (Pipeline.ΦA spec0 c : sProp 𝕄)
    = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant before point `n`: the scratch buffers as the point before left them. -/
def inv (c : Dev nD) : (n : ℕ) → n ≤ cfg0.N → sProp 𝕄
  | 0, _ => Pipeline.ΦA spec0 c
  | n + 1, h => iprop((owns (c : Thread nD τ) scr0 fullShare (wAt m c n h) ∗ Conv.keeps scr1 c (lastAt m c n h)) ∗ (∃ r, prngReg c r))

/-- What a point's body may assume of the scratch buffers. -/
theorem inv_open (c : Dev nD) (t : Fin cfg0.N) : inv m c t.val (Nat.le_of_lt t.isLt)
    ⊢ iprop(((∃ f, ⌜¬fresh (grid0.coords t) → scr0.view.read (Elt F) f = wAt m c t.val t.isLt⌝ ∗ Conv.held c scr0 f)
        ∗ (∃ f, ⌜¬begins (grid0.coords t) → ∀ q (hq : q < 6), Conv.keptIn scr1 f hq = keptAt m c t.val t.isLt q hq⌝ ∗ Conv.held c scr1 f)) ∗ (∃ r, prngReg c r)) := by
  obtain ⟨n, hn⟩ := t
  cases n with
  | zero =>
    show Pipeline.ΦA spec0 c ⊢ _
    rw [entry_eq]
    unfold owns
    iintro ⟨⟨⟨%d0, %f0, %h0, H0⟩, ⟨%d1, %f1, %h1, H1⟩⟩, Hg⟩
    isplitr [Hg]
    · isplitl [H0]
      · iexists f0; isplitr; · ipureintro; exact fun h => absurd ((fresh_iff ⟨0, hn⟩).mpr rfl) h
        iexact H0
      iexists f1; isplitr; · ipureintro; exact fun h => absurd ((begins_iff ⟨0, hn⟩).mpr rfl) h
      iexact H1
    iexact Hg
  | succ n =>
    unfold inv Conv.keeps owns
    iintro ⟨⟨⟨%f0, %h0, H0⟩, ⟨%f1, %h1, H1⟩⟩, Hg⟩
    isplitr [Hg]
    · isplitl [H0]
      · iexists f0; isplitr; · ipureintro; exact fun h => h0.trans (wAt_stale m c n hn fun e => h ((fresh_iff ⟨n + 1, hn⟩).mpr e))
        iexact H0
      iexists f1; isplitr
      · ipureintro
        exact fun h q hq => (h1 q hq).trans (if_neg (fun e => h ((begins_iff ⟨n + 1, hn⟩).mpr e))).symm
      iexact H1
    iexact Hg

/-- The pipeline's data: each input's block in place, the result's block at `outAt`, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val (Nat.le_of_lt_succ t.isLt)
  q _ := fullShare
  owed _ := 0

theorem dats_A (c : Dev nD) (w : Fin cfg0.W) : (dats m 0 c).A w = V m c (Pipeline.arrRef spec0 w) := by dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- The windows' buffers at point `t`. -/
abbrev buf0 (t : Fin cfg0.N) : Memref sig .tc .vmem S2048x1024 .bf16 := win0_0.stage (cfg0.slots t 0)
abbrev buf1 (t : Fin cfg0.N) : Memref sig .tc .vmem S768x1024 .f32 := win0_1.stage (cfg0.slots t 1)
abbrev buf2 (t : Fin cfg0.N) : Memref sig .tc .vmem S4x768 .f32 := win0_2.stage (cfg0.slots t 2)
abbrev buf3 (t : Fin cfg0.N) : Memref sig .tc .vmem S1x768 .f32 := win0_3.stage (cfg0.slots t 3)
abbrev buf4 (t : Fin cfg0.N) : Memref sig .tc .vmem S2048x768 .bf16 := win0_4.stage (cfg0.slots t 4)

/-- What the body is given at a point. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- What it gives back. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t))

set_option maxHeartbeats 1600000 in
/-- The body at any point, by the shared body's triple. -/
theorem sound (c : Dev nD) (t : Fin cfg0.N) :
    given m c t ⊢ wp frame (wpE (defs₀ (F := F)) Variants.none c none) Set.univ (bodyAt0 t) (fun _ => returned m c t) := by
  unfold given returned bodyAt0
  simp only [before0_0_of m (dats m 0 c) (dats_A m c 0) (after0 m c), before0_1_of m (dats m 0 c) (dats_A m c 1) (after1 m c),
    before0_2_of m (dats m 0 c) (dats_A m c 2) (after2 m c), before0_3_of m (dats m 0 c) (dats_A m c 3) (after3 m c)]
  rw [show (dats m 0 c).owesAt () t.succ = (dats m 0 c).owesAt () t.castSucc from rfl, after0, after1, after2, after3, after4,
    show (dats m 0 c).Φ t.succ = inv m c (t.val + 1) t.isLt from rfl, inv_at, body_eq]
  refine BIBase.Entails.trans (sep_mono_left (inv_open m c t)) ?_
  iintro ⟨⟨Hs, Hg⟩, Ho, ⟨%d0, H0⟩, ⟨%d1, H1⟩, ⟨%d2, H2⟩, ⟨%d3, H3⟩, ⟨%d4, H4⟩⟩
  iapply (Conv.runPoint (nc := 6) (W := 768) (buf0 t) (buf1 t) (buf2 t) (buf3 t) (buf4 t) scr0 scr1 act (defs₀ (F := F)) Variants.none c none Set.univ _
    (fresh (grid0.coords t)) (begins (grid0.coords t)) k0_pay3 k0_pay4 k0_pay5 rfl h_S1024x768 h_S768x1024 h_S6x16x128 _ _
    iprop((∃ r, prngReg c r) ∗ (dats m 0 c).owesAt () t.castSucc) (iblk m c 0 t) (iblk m c 1 t) (iblk m c 2 t) (iblk m c 3 t)
    (wAt m c t.val t.isLt) (keptAt m c t.val t.isLt)
    (fun h => wAt_fresh m c t ((fresh_iff t).mp h)) (fun h q hq => (if_pos ((begins_iff t).mp h)).symm) ?_)
  swap
  · isplitl [H0 H1 H2 H3 H4]
    · isplitl [H0]; · iexact H0
      isplitl [H1]; · iexact H1
      isplitl [H2]; · iexact H2
      isplitl [H3]; · iexact H3
      iexists _; iexact H4
    isplitl [Hs]; · iexact Hs
    isplitl [Hg]; · iexact Hg
    iexact Ho
  iintro ⟨⟨H0, H1, H2, H3, H4⟩, ⟨Hw, Hk⟩, Hg, Ho⟩
  isplitl [Hw Hk Hg]
  · unfold inv
    isplitl [Hw Hk]
    · isplitl [Hw]; · iexact Hw
      iexact Hk
    iexact Hg
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem enter (c : Dev nD) : Pipeline.ΦA spec0 c ⊢ (dats m 0 c).Φ 0 := by
  rw [show (dats m 0 c).Φ 0 = Pipeline.ΦA spec0 c from rfl]

/-- After the last point the scratch buffers' contents are forgotten. -/
theorem leave (c : Dev nD) : (dats m 0 c).Φ (Fin.last cfg0.N) ⊢ Pipeline.ΦA spec0 c := by
  have e : (dats m 0 c).Φ (Fin.last cfg0.N) = inv m c (15 + 1) (le_of_eq N_0.symm) := rfl
  rw [e, entry_eq]
  unfold inv Conv.keeps
  iintro ⟨⟨H0, ⟨%f1, %h1, H1⟩⟩, Hg⟩
  isplitr [Hg]
  · isplitl [H0]
    · iexists _; iexact H0
    iexists _; unfold owns; iexists f1; isplitr; · ipureintro; rfl
    iexact H1
  iexact Hg

set_option backward.isDefEq.respectTransparency.types false in
/-- THE LAUNCH: every array at what the data computes, every other buffer as it was, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (dats_A m) (run_main m ρ)

/-- THE FRAME, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_all m ρ))

end Cert.LxIdeal.Hand

end
-- ==== Proof.LxValue.lean ====
/-
  The call that computes the recurrent branch's convolution, as arrays: what its blocks hold in terms of the arguments, and
  that the kernel's result after the run and the reference's result are one function of the four arguments.
-/
module

public import proofs.«01_k».proof.Proof.LxFrame
public import proofs.«01_k».proof.Proof.ConvValue
public import proofs.«01_k».proof.Proof.Gen.LxRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LxIdeal.Hand

open Cert.LxIdeal Cert.LxIdeal.Gen Cert.Shared

variable (m : (ℓ : Loc nD τ sig) → Buf (Elt Ideal) ℓ)

/-- Where the windows stand at a grid point: the row block is the point's number modulo 8, the column block its
    quotient by 8; the weight's window is at the row where the column block's weight begins. -/
theorem idx : ∀ t : Fin cfg0.N, win0_0.index t = ![t.val % 8, 0] ∧ win0_1.index t = ![6688 + t.val / 8 * 768, 0]
    ∧ win0_2.index t = ![0, t.val / 8] ∧ win0_3.index t = ![0, t.val / 8]
    ∧ win0_4.index t = ![t.val % 8, t.val / 8] := (by decide +kernel : ∀ t : Fin grid0.N, _)

/-- The rows that a point multiplies, read from the first argument. -/
theorem rows_apply (c : Dev nD) (t : Fin cfg0.N) (r : Fin 2048) (k : Fin 1024) (h : t.val % 8 * 2048 + r.val < 16384) :
    iblk m c 0 t (ix2 r k) = m ((c : Thread nD τ).loc main_arg0)
      (ix3 ⟨(t.val % 8 * 2048 + r.val) / 8192, by omega⟩ ⟨(t.val % 8 * 2048 + r.val) % 8192, by omega⟩ k) := by
  blk_simp [iblk, idx t]
  entry_read
  pointwise
  blk_ext [idx t]

/-- The block of the weight that a point may fetch: its element `(j, k)` is the weight's column `j` of the column
    block, at the contracted coordinate `k`. -/
theorem weight_apply (c : Dev nD) (t : Fin cfg0.N) (j : Fin 768) (k : Fin 1024) (h : 6688 + (t.val / 8 * 768 + j.val) < 12320) :
    iblk m c 1 t (ix2 j k) = m ((c : Thread nD τ).loc main_arg1) (ix3 0 k ⟨6688 + (t.val / 8 * 768 + j.val), h⟩) := by
  blk_simp [iblk]
  entry_read
  have e : (((View.whole main_v1).slice (win0_1.rect t)).emb (ix2 j k) : S12320x1024.Idx)
      = ix2 ⟨6688 + (t.val / 8 * 768 + j.val), h⟩ k := by
    have h0 : win0_1.index t (0 : Fin 2) = 6688 + t.val / 8 * 768 := congrFun (idx t).2.1 0
    have h1 : win0_1.index t (1 : Fin 2) = 0 := congrFun (idx t).2.1 1
    funext a
    apply Fin.ext
    match a with
    | ⟨0, _⟩ => show win0_1.index t (0 : Fin 2) + 1 * j.val = _; rw [h0, one_mul]; exact Nat.add_assoc _ _ _
    | ⟨1, _⟩ => show win0_1.index t (1 : Fin 2) + 1 * k.val = _; rw [h1, one_mul, zero_add]; rfl
  rw [e]
  pointwise
  try rfl

/-- The taps of a point's column block. -/
theorem taps_apply (c : Dev nD) (t : Fin cfg0.N) (s : Fin 4) (j : Fin 768) (h : t.val / 8 * 768 + j.val < 1536) :
    iblk m c 2 t (ix2 s j) = m ((c : Thread nD τ).loc main_arg2) (ix3 0 s ⟨t.val / 8 * 768 + j.val, h⟩) := by
  blk_simp [iblk, idx t]
  entry_read
  pointwise
  blk_ext [idx t]

/-- The bias of a point's column block. -/
theorem bias_apply (c : Dev nD) (t : Fin cfg0.N) (j : Fin 768) (h : t.val / 8 * 768 + j.val < 1536) :
    iblk m c 3 t (ix2 0 j) = m ((c : Thread nD τ).loc main_arg3) (ix2 0 ⟨t.val / 8 * 768 + j.val, h⟩) := by
  blk_simp [iblk, idx t]
  entry_read
  pointwise
  blk_ext [idx t]

/-- What the transposed weight holds after a point: the weight's columns of the point's column block. -/
theorem held_apply (c : Dev nD) (t : Fin cfg0.N) (k : Fin 1024) (j : Fin 768) (h : 6688 + (t.val / 8 * 768 + j.val) < 12320) :
    wAt m c t.val t.isLt (ix2 k j) = m ((c : Thread nD τ).loc main_arg1) (ix3 0 k ⟨6688 + (t.val / 8 * 768 + j.val), h⟩) := by
  rw [Pipeline.eq_of_write_hold (fun n h => wAt m c n h) 8 (fun t => k0_pay3 (F := Ideal) (iblk m c 1 t))
    (fun t h => (wAt_fresh m c t h).symm)
    (fun t h => by
      obtain ⟨n, hn⟩ := t
      cases n with
      | zero => exact absurd rfl h
      | succ n => exact (wAt_stale m c n hn h).symm) t]
  have e : 8 * (t.val / 8) / 8 = t.val / 8 := by omega
  pointwise [k0_pay3]
  rw [weight_apply m c ⟨8 * (t.val / 8), _⟩ j k (by show 6688 + (8 * (t.val / 8) / 8 * 768 + j.val) < 12320; rw [e]; exact h)]
  simp only [e]

/-- The column of the projection that column `j` of a point's column block is. -/
abbrev colOf (c : Dev nD) (n : ℕ) (j : Fin 768) (h : 6688 + (n / 8 * 768 + j.val) < 12320) : Fin 16384 → EReal := fun r =>
  proj (m ((c : Thread nD τ).loc main_arg0)) (m ((c : Thread nD τ).loc main_arg1)) r ⟨6688 + (n / 8 * 768 + j.val), h⟩

/-- A row of a point times a column of the transposed weight is an element of the projection. -/
theorem dot_apply (c : Dev nD) (t : Fin cfg0.N) (r : Fin 2048) (j : Fin 768) (h : 6688 + (t.val / 8 * 768 + j.val) < 12320) :
    dotRow (iblk m c 0 t) (wAt m c t.val t.isLt) r j = Conv.rowsOf (colOf m c t.val j h) (t.val % 8) r.val := by
  have hr := r.isLt
  have hh : ∀ k : Fin 1024, iblk m c 0 t (ix2 r k) = _ := fun k => rows_apply m c t r k (by omega)
  have hw : ∀ k : Fin 1024, wAt m c t.val t.isLt (ix2 k j) = _ := fun k => held_apply m c t k j h
  unfold Conv.rowsOf colOf proj
  simp only [dotRow, hh, hw]
  have e : (t.val % 8 * 2048 + r.val) % 16384 = t.val % 8 * 2048 + r.val := Nat.mod_eq_of_lt (by omega)
  simp only [e]

/-- The kernel's matrix product. -/
theorem mm_apply (X : FVec Ideal Conv.Half .bf16) (w : FVec Ideal S1024x768 .bf16) (a : Fin 1024) (n : Fin 768) :
    k0_pay5 (F := Ideal) X w (ix2 a n) = dotRow X w a n := by
  pointwise [k0_pay5]
  rfl

/-- The activation rounds only, and here that changes nothing. -/
theorem act_apply (y : FVec Ideal Conv.Blk .f32) (i : Conv.Blk.Idx) : act (F := Ideal) y i = y i := rfl

/-- The rows kept before a point: the eight rows before it in its sequence. -/
theorem kept_before (c : Dev nD) (t : Fin cfg0.N) (j : Fin 8) (q : ℕ) (hq : q < 6) (b : Fin 128) (n : Fin 768) (hn : n.val = 128 * q + b.val)
    (h : 6688 + (t.val / 8 * 768 + n.val) < 12320) :
    keptAt m c t.val t.isLt q hq (ix3 0 j b) = Conv.rowsBefore (colOf m c t.val n h) (t.val % 8) j.val := by
  have hj := j.isLt
  unfold keptAt Conv.rowsBefore
  by_cases hz : t.val % 4 = 0
  · rw [if_pos hz, if_pos (by omega)]
    unfold Conv.resetKept
    pointwise [k0_pay4]
  · rw [if_neg hz, if_neg (by omega)]
    have h1 : t.val - 1 < cfg0.N := lt_of_le_of_lt (Nat.sub_le _ _) t.isLt
    have ed : (t.val - 1) / 8 = t.val / 8 := by omega
    refine (Conv.kept_apply (nc := 6) (W := 768) (rfl : 128 * 6 = 768) (k0_pay5 (F := Ideal)) mm_apply (iblk m c 0 ⟨t.val - 1, h1⟩) (wAt m c (t.val - 1) h1) q hq j b n hn).trans ?_
    refine (dot_apply m c ⟨t.val - 1, h1⟩ _ n (by show 6688 + ((t.val - 1) / 8 * 768 + n.val) < 12320; rw [ed]; exact h)).trans ?_
    unfold Conv.rowsOf colOf
    have e2 : ((t.val - 1) % 8 * 2048 + (2040 + j.val)) % 16384 = (t.val % 8 * 2048 - 8 + j.val) % 16384 := by omega
    simp only [ed, e2]

/-- The result: column `j` of the convolution of the projection's columns from 6688 on. -/
def result (h : FVec Ideal S2x8192x1024 .bf16) (w : FVec Ideal S1x1024x12320 .f32) (taps : FVec Ideal S1x4x1536 .f32) (bias : FVec Ideal S1x1536 .f32) :
    FVec Ideal S16384x1536 .bf16 :=
  fun i => Conv.conv (fun r => proj h w r ⟨6688 + (i 1).val, by have := (i 1).isLt; change _ < 1536 at this; omega⟩)
    (fun s => taps (ix3 0 s (i 1))) (bias (ix2 0 (i 1))) (i 0)

/-- What a point leaves in the result's block. -/
theorem out_apply (c : Dev nD) (t : Fin cfg0.N) (r : Fin 2048) (j : Fin 768) (hr : t.val % 8 * 2048 + r.val < 16384) (hj : t.val / 8 * 768 + j.val < 1536) :
    outAt m c t (ix2 r j) = result (m ((c : Thread nD τ).loc main_arg0)) (m ((c : Thread nD τ).loc main_arg1))
      (m ((c : Thread nD τ).loc main_arg2)) (m ((c : Thread nD τ).loc main_arg3)) (ix2 ⟨t.val % 8 * 2048 + r.val, hr⟩ ⟨t.val / 8 * 768 + j.val, hj⟩) := by
  have hc : 6688 + (t.val / 8 * 768 + j.val) < 12320 := by omega
  unfold outAt
  rw [Conv.result_conv (nc := 6) (W := 768) (rfl : 128 * 6 = 768) (act (F := Ideal)) (fun x => x) act_apply (k0_pay5 (F := Ideal)) mm_apply
    (iblk m c 0 t) (iblk m c 2 t) (iblk m c 3 t) (wAt m c t.val t.isLt) (keptAt m c t.val t.isLt)
    (colOf m c t.val j hc) (t.val % 8) (Nat.mod_lt _ (by decide)) j (fun r => dot_apply m c t r j hc)
    (fun i q hq b hb => kept_before m c t i q hq b j hb hc) r, bias_apply m c t j hj]
  simp only [fun s => taps_apply m c t s j hj]
  rfl

/-- The result array after the kernel's run. -/
theorem final (c : Dev nD) : (dats m 0 c).arrAt 4 (cfgs 0).N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after4]
  obtain ⟨r, j, rfl⟩ : ∃ (r : Fin 2048) (j : Fin 768), y = ix2 r j := ⟨y 0, y 1, eq_ix2 y⟩
  have hN : t.val < 16 := lt_of_lt_of_eq t.isLt N_0
  have hj := j.isLt
  have hr := r.isLt
  have e : (((win0_4.blk t).view.emb (ix2 r j)) : S16384x1536.Idx)
      = ix2 ⟨t.val % 8 * 2048 + r.val, by omega⟩ ⟨t.val / 8 * 768 + j.val, by omega⟩ := by
    blk_ext [idx t]
  rw [e]
  exact out_apply m c t r j _ _

/-- THE KERNEL'S RUN: it ends with the result at `result` of the arguments, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v6)
          = result (m ((c : Thread nD τ).loc main_arg0)) (m ((c : Thread nD τ).loc main_arg1)) (m ((c : Thread nD τ).loc main_arg2))
              (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final m c), h.2 c⟩)
    (θ_run_and (run_main m ρ) (unchanged m ρ))

end Cert.LxIdeal.Hand

end
-- ==== Proof.LxRef.lean ====
/-
  The reference of the recurrent branch's convolution, as an array: its result is the same function of the arguments as
  the kernel's.
-/
module

public import proofs.«01_k».proof.Proof.LxValue

@[expose] public section

set_option maxRecDepth 16384

noncomputable section

open Idealize.ShloMosaic Idealize.ShloMosaic.TcCoe Idealize.SL.Sem
open Idealize.ShloMosaic.Pipeline (Dat)

namespace Cert.LxIdeal.Hand

open Cert.LxIdeal Cert.LxIdeal.Gen Cert.Shared

set_option maxHeartbeats 1000000 in
/-- THE REFERENCE'S RUN: it ends with its result at the same function of its arguments. -/
theorem reference_run (m : (ℓ : Loc Cert.LxRefIdeal.nD Cert.LxRefIdeal.τ Cert.LxRefIdeal.sig) → Buf (Elt Ideal) ℓ)
    (ρ : Dev Cert.LxRefIdeal.nD → PrngReg) :
    θ_run Cert.LxRefIdeal.defs (onTc (τ := Cert.LxRefIdeal.τ) (Cert.LxRefIdeal.main (F := Ideal))) ⟨m, fun _ => 0, ρ⟩
      fun r => ∀ c : Dev Cert.LxRefIdeal.nD,
        r.2.mem ((c.tc : Thread Cert.LxRefIdeal.nD Cert.LxRefIdeal.τ).loc Cert.LxRefIdeal.main_v44)
          = result (m ((c.tc : Thread Cert.LxRefIdeal.nD Cert.LxRefIdeal.τ).loc Cert.LxRefIdeal.main_arg0))
              (m ((c.tc : Thread Cert.LxRefIdeal.nD Cert.LxRefIdeal.τ).loc Cert.LxRefIdeal.main_arg1))
              (m ((c.tc : Thread Cert.LxRefIdeal.nD Cert.LxRefIdeal.τ).loc Cert.LxRefIdeal.main_arg2))
              (m ((c.tc : Thread Cert.LxRefIdeal.nD Cert.LxRefIdeal.τ).loc Cert.LxRefIdeal.main_arg3))
        ∧ r.2.mem ((c.tc : Thread Cert.LxRefIdeal.nD Cert.LxRefIdeal.τ).loc Cert.LxRefIdeal.main_arg0)
          = m ((c.tc : Thread Cert.LxRefIdeal.nD Cert.LxRefIdeal.τ).loc Cert.LxRefIdeal.main_arg0)
        ∧ r.2.mem ((c.tc : Thread Cert.LxRefIdeal.nD Cert.LxRefIdeal.τ).loc Cert.LxRefIdeal.main_arg1)
          = m ((c.tc : Thread Cert.LxRefIdeal.nD Cert.LxRefIdeal.τ).loc Cert.LxRefIdeal.main_arg1)
        ∧ r.2.mem ((c.tc : Thread Cert.LxRefIdeal.nD Cert.LxRefIdeal.τ).loc Cert.LxRefIdeal.main_arg2)
          = m ((c.tc : Thread Cert.LxRefIdeal.nD Cert.LxRefIdeal.τ).loc Cert.LxRefIdeal.main_arg2)
        ∧ r.2.mem ((c.tc : Thread Cert.LxRefIdeal.nD Cert.LxRefIdeal.τ).loc Cert.LxRefIdeal.main_arg3)
          = m ((c.tc : Thread Cert.LxRefIdeal.nD Cert.LxRefIdeal.τ).loc Cert.LxRefIdeal.main_arg3) := by
  refine (θ_run Cert.LxRefIdeal.defs _ _).mono (fun r h c => ⟨(h c).1.trans ?_, (h c).2⟩)
    (Cert.LxRefIdeal.Value.run (F := Ideal) m ρ)
  generalize m ((c.tc : Thread Cert.LxRefIdeal.nD Cert.LxRefIdeal.τ).loc Cert.LxRefIdeal.main_arg0) = h0
  generalize m ((c.tc : Thread Cert.LxRefIdeal.nD Cert.LxRefIdeal.τ).loc Cert.LxRefIdeal.main_arg1) = w0
  generalize m ((c.tc : Thread Cert.LxRefIdeal.nD Cert.LxRefIdeal.τ).loc Cert.LxRefIdeal.main_arg2) = w2
  generalize m ((c.tc : Thread Cert.LxRefIdeal.nD Cert.LxRefIdeal.τ).loc Cert.LxRefIdeal.main_arg3) = w3
  funext i
  obtain ⟨r, j, rfl⟩ : ∃ (r : Fin 16384) (j : Fin 1536), i = ix2 r j := ⟨i 0, i 1, eq_ix2 i⟩
  clean_types
  pointwise
  have hr := r.isLt
  have hz : (FloatOps.sitofp .f32 0#32 : Ideal .f32) = 0 := by
    show ((((0#32 : BitVec 32).toInt : ℤ) : ℝ) : EReal) = 0
    simp
  refine Conv.conv_of (fun r => proj h0 w0 r ⟨6688 + j.val, by omega⟩) (fun s => w2 (ix3 0 s j)) (w3 (ix2 0 j)) r _ _ _ _ ?_ ?_ ?_ ?_
  · exact Conv.back_proj h0 w0 r ⟨6688 + j.val, by omega⟩ 3 (P := r.val / 8192 < 2 ∧ 3 ≤ r.val % 8192 ∧ r.val % 8192 - 3 < 8192) (fun p => ⟨r.val / 8192, p.1⟩) (fun p => ⟨r.val % 8192 - 3, p.2.2⟩) _ (by omega) (fun _ => rfl) (fun _ => rfl) hz
  · exact Conv.back_proj h0 w0 r ⟨6688 + j.val, by omega⟩ 2 (P := r.val / 8192 < 2 ∧ 3 ≤ 1 + r.val % 8192 ∧ 1 + r.val % 8192 - 3 < 8192) (fun p => ⟨r.val / 8192, p.1⟩) (fun p => ⟨1 + r.val % 8192 - 3, p.2.2⟩) _ (by omega) (fun _ => rfl) (fun _ => by show 1 + r.val % 8192 - 3 = _; omega) hz
  · exact Conv.back_proj h0 w0 r ⟨6688 + j.val, by omega⟩ 1 (P := r.val / 8192 < 2 ∧ 3 ≤ 2 + r.val % 8192 ∧ 2 + r.val % 8192 - 3 < 8192) (fun p => ⟨r.val / 8192, p.1⟩) (fun p => ⟨2 + r.val % 8192 - 3, p.2.2⟩) _ (by omega) (fun _ => rfl) (fun _ => by show 2 + r.val % 8192 - 3 = _; omega) hz
  · exact Conv.back_proj h0 w0 r ⟨6688 + j.val, by omega⟩ 0 (P := r.val / 8192 < 2 ∧ r.val % 8192 < 8192) (fun p => ⟨r.val / 8192, p.1⟩) (fun p => ⟨r.val % 8192, p.2⟩) _ (by omega) (fun _ => rfl) (fun _ => rfl) hz

end Cert.LxIdeal.Hand

end
-- ==== Proof.Kv.lean ====
/-
  The call that normalises the memory tokens and projects them to keys and values: what a grid point computes, what the
  result array holds, and the reference's result, the same function of the arguments. The grid has four column blocks.
-/
module

public import proofs.«01_k».proof.Proof.Gen.KvIdeal.Frame
public import proofs.«01_k».proof.Proof.Project
public import Idealize.ShloMosaic.Lib.Pipeline.ValueKit
public import Idealize.ShloMosaic.Lib.Pipeline.ReadBack
public import Idealize.ShloMosaic.Lib.Claim
public import proofs.«01_k».proof.Proof.Gen.KvRefIdeal.Run
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KvIdeal.Hand

open Cert.KvIdeal Cert.KvIdeal.Gen Cert.Shared

variable (m : (ℓ : Loc nD τ sig) → Buf (Elt Ideal) ℓ)

/-- Where the windows stand at a grid point: the whole memory and norm's weight, the point's column block of the weight
    and of the result. -/
theorem idx : ∀ t : Fin cfg0.N, win0_0.index t = ![0, 0] ∧ win0_1.index t = ![0, 0] ∧ win0_2.index t = ![0, t.val]
    ∧ win0_3.index t = ![0, t.val] := (by decide +kernel : ∀ t : Fin grid0.N, _)

/-- The memory tokens, read from the first argument. -/
theorem rows_apply (c : Dev nD) (t : Fin cfg0.N) (r : Fin 512) (k : Fin 1024) :
    iblk m c 0 t (ix2 r k) = m ((c : Thread nD τ).loc main_arg0)
      (ix3 ⟨r.val / 256, by omega⟩ ⟨r.val % 256, by omega⟩ k) := by
  blk_simp [iblk, idx t]
  entry_read
  pointwise
  try blk_ext [idx t]

/-- The norm's weight, read from the second argument. -/
theorem gain_apply (c : Dev nD) (t : Fin cfg0.N) (k : Fin 1024) :
    iblk m c 1 t (ix2 0 k) = m ((c : Thread nD τ).loc main_arg1) (ix2 0 k) := by
  blk_simp [iblk, idx t]
  entry_read
  pointwise
  try blk_ext [idx t]

/-- A point's column block of the weight, read from the third argument. -/
theorem weight_apply (c : Dev nD) (t : Fin cfg0.N) (k : Fin 1024) (j : Fin 512) (h : t.val * 512 + j.val < 2048) :
    iblk m c 2 t (ix2 k j) = m ((c : Thread nD τ).loc main_arg2) (ix3 0 k ⟨t.val * 512 + j.val, h⟩) := by
  blk_simp [iblk, idx t]
  entry_read
  pointwise
  try blk_ext [idx t]

/-- What a point computes: its normalised rows times its column block. -/
theorem pay_apply (X : FVec Ideal S512x1024 .f32) (G : FVec Ideal S1x1024 .f32) (W : FVec Ideal S1024x512 .bf16)
    (r j : Fin 512) :
    k0_pay1 (F := Ideal) X G W (ix2 r j)
      = ∑ k, normRow (fun l => X (ix2 r l)) (fun l => G (ix2 0 l)) k * W (ix2 k j) := by
  pointwise [k0_pay1]
  rfl

variable (x : FVec Ideal S2x256x1024 .f32) (g : FVec Ideal S1x1024 .f32) (w : FVec Ideal S1x1024x2048 .f32)

/-- The result: memory token `r`, normalised, times the weight's column `j`. -/
def result : FVec Ideal S512x2048 .bf16 := fun i =>
  ∑ k, normRow (fun l => x (ix3 ⟨(i 0).val / 256, by have := (i 0).isLt; change _ < 512 at this; omega⟩
    ⟨(i 0).val % 256, by omega⟩ l)) (fun l => g (ix2 0 l)) k * w (ix3 0 k (i 1))

omit x g w

/-- The result array after the kernel's run. -/
theorem final (c : Dev nD) : (dats m 0 c).arrAt 3 (cfgs 0).N
    = result (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  obtain ⟨r, j, rfl⟩ : ∃ (r : Fin 512) (j : Fin 512), y = ix2 r j := ⟨y 0, y 1, eq_ix2 y⟩
  have hN : t.val < 4 := lt_of_lt_of_eq t.isLt N_0
  have hj := j.isLt
  have e : (((win0_3.blk t).view.emb (ix2 r j)) : S512x2048.Idx) = ix2 r ⟨t.val * 512 + j.val, by omega⟩ := by
    blk_ext [idx t]
  rw [e]
  have ho : out0_3 (iblk m c 0 t) (iblk m c 1 t) (iblk m c 2 t)
      = k0_pay1 (F := Ideal) (iblk m c 0 t) (iblk m c 1 t) (iblk m c 2 t) := by
    frame_out
  rw [ho]
  refine (pay_apply _ _ _ r j).trans ?_
  have hx : ∀ l : Fin 1024, iblk m c 0 t (ix2 r l) = _ := fun l => rows_apply m c t r l
  have hg : ∀ l : Fin 1024, iblk m c 1 t (ix2 0 l) = _ := fun l => gain_apply m c t l
  have hw : ∀ k : Fin 1024, iblk m c 2 t (ix2 k j) = _ := fun k => weight_apply m c t k j (by omega)
  simp only [hx, hg, hw]
  rfl

/-- THE KERNEL'S RUN: it ends with the result at `result` of the arguments, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v5)
          = result (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩)
    (θ_run_and (run_main m ρ) (unchanged m ρ))

/-- THE REFERENCE'S RUN: it ends with its result at the same function of its arguments. -/
theorem reference_run (m : (ℓ : Loc Cert.KvRefIdeal.nD Cert.KvRefIdeal.τ Cert.KvRefIdeal.sig) → Buf (Elt Ideal) ℓ)
    (ρ : Dev Cert.KvRefIdeal.nD → PrngReg) :
    θ_run Cert.KvRefIdeal.defs (onTc (τ := Cert.KvRefIdeal.τ) (Cert.KvRefIdeal.main (F := Ideal)))
      ⟨m, fun _ => 0, ρ⟩ fun r => ∀ c : Dev Cert.KvRefIdeal.nD,
        r.2.mem ((c.tc : Thread Cert.KvRefIdeal.nD Cert.KvRefIdeal.τ).loc Cert.KvRefIdeal.main_v17)
          = result (m ((c.tc : Thread Cert.KvRefIdeal.nD Cert.KvRefIdeal.τ).loc Cert.KvRefIdeal.main_arg0))
              (m ((c.tc : Thread Cert.KvRefIdeal.nD Cert.KvRefIdeal.τ).loc Cert.KvRefIdeal.main_arg1))
              (m ((c.tc : Thread Cert.KvRefIdeal.nD Cert.KvRefIdeal.τ).loc Cert.KvRefIdeal.main_arg2))
        ∧ r.2.mem ((c.tc : Thread Cert.KvRefIdeal.nD Cert.KvRefIdeal.τ).loc Cert.KvRefIdeal.main_arg0)
          = m ((c.tc : Thread Cert.KvRefIdeal.nD Cert.KvRefIdeal.τ).loc Cert.KvRefIdeal.main_arg0)
        ∧ r.2.mem ((c.tc : Thread Cert.KvRefIdeal.nD Cert.KvRefIdeal.τ).loc Cert.KvRefIdeal.main_arg1)
          = m ((c.tc : Thread Cert.KvRefIdeal.nD Cert.KvRefIdeal.τ).loc Cert.KvRefIdeal.main_arg1)
        ∧ r.2.mem ((c.tc : Thread Cert.KvRefIdeal.nD Cert.KvRefIdeal.τ).loc Cert.KvRefIdeal.main_arg2)
          = m ((c.tc : Thread Cert.KvRefIdeal.nD Cert.KvRefIdeal.τ).loc Cert.KvRefIdeal.main_arg2) := by
  refine (θ_run Cert.KvRefIdeal.defs _ _).mono (fun r h c => ⟨(h c).1.trans ?_, (h c).2⟩)
    (Cert.KvRefIdeal.Value.run (F := Ideal) m ρ)
  generalize m ((c.tc : Thread Cert.KvRefIdeal.nD Cert.KvRefIdeal.τ).loc Cert.KvRefIdeal.main_arg0) = x0
  generalize m ((c.tc : Thread Cert.KvRefIdeal.nD Cert.KvRefIdeal.τ).loc Cert.KvRefIdeal.main_arg1) = g0
  generalize m ((c.tc : Thread Cert.KvRefIdeal.nD Cert.KvRefIdeal.τ).loc Cert.KvRefIdeal.main_arg2) = w0
  funext i
  obtain ⟨r, j, rfl⟩ : ∃ (r : Fin 512) (j : Fin 2048), i = ix2 r j := ⟨i 0, i 1, eq_ix2 i⟩
  clean_types
  pointwise
  rfl

end Cert.KvIdeal.Hand

end
-- ==== Proof.Attention.lean ====
/-
  The attention of one query over 256 memory tokens, in the extended reals: the kernel divides the weighted sum of the
  values by the sum of the weights, the reference divides every weight first. The two are equal where the scores are
  finite, which they are when the query and the keys are.
-/
module

public import proofs.«01_k».proof.Proof.Project

@[expose] public section

noncomputable section

namespace Cert.Shared

open Idealize.ShloMosaic

/-- The score of a query and a key: their product over the 256 coordinates of a head, scaled by `1/16`. -/
def score (q k : Fin 256 → EReal) : EReal := (∑ d, q d * k d) * Ideal.ofBits .f32 0x3D800000#32

/-- The largest of the scores. -/
def topScore (s : Fin 256 → EReal) : EReal := Finset.univ.fold max (Ideal.ofBits .f32 0xFF800000#32) s

/-- The weight of memory token `n` before the division. -/
def weight (s : Fin 256 → EReal) (n : Fin 256) : EReal := Ideal.exp (s n - topScore s)

/-- The attention as the kernel computes it: the weighted sum over the sum of the weights. -/
def attend (s v : Fin 256 → EReal) : EReal := Ideal.div (∑ n, weight s n * v n) (∑ n, weight s n)

/-- The attention as the reference computes it: the sum of the values, each times its weight over the sum of the
    weights. -/
def softmaxSum (s v : Fin 256 → EReal) : EReal := ∑ n, v n * Ideal.div (weight s n) (∑ l, weight s l)

/-- The word of minus infinity is the least extended real. -/
theorem ofBits_bot : Ideal.ofBits .f32 0xFF800000#32 = ⊥ := by simp [Ideal.ofBits, Ideal.ieee]

/-- The scale is a real number. -/
theorem ofBits_scale : Ideal.ofBits .f32 0x3D800000#32 = ((1 / 16 : ℝ) : EReal) := by
  simp [Ideal.ofBits, Ideal.ieee, -EReal.coe_mul]; norm_num

/-- The largest score taken once more against minus infinity is itself. -/
theorem max_topScore (s : Fin 256 → EReal) : max (Ideal.ofBits .f32 0xFF800000#32) (topScore s) = topScore s := by
  rw [ofBits_bot]; exact max_eq_right bot_le

/-- A finite sum of real numbers, in the extended reals. -/
theorem sum_coe {ι : Type*} (t : Finset ι) (f : ι → ℝ) : (∑ i ∈ t, ((f i : ℝ) : EReal)) = ((∑ i ∈ t, f i : ℝ) : EReal) := by
  classical
  induction t using Finset.induction_on with
  | empty => simp
  | insert a u ha ih => rw [Finset.sum_insert ha, Finset.sum_insert ha, ih, EReal.coe_add]

/-- A finite sum times a real number that is not negative is the sum of the products, whatever the summands. -/
theorem sum_mul_coe {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a u ha ih =>
    rw [Finset.sum_insert ha, Finset.sum_insert ha, ← ih]
    exact EReal.right_distrib_of_nonneg_of_ne_top (EReal.coe_nonneg.mpr hc) (EReal.coe_ne_top c) _ _

/-- The score of a finite query and a finite key is a real number. -/
theorem score_real {q k : Fin 256 → EReal} (hq : ∀ d, ∃ a : ℝ, q d = a) (hk : ∀ d, ∃ a : ℝ, k d = a) :
    ∃ a : ℝ, score q k = a := by
  choose f hf using hq
  choose g hg using hk
  refine ⟨(∑ d, f d * g d) * (1 / 16), ?_⟩
  have h : ∀ d, q d * k d = ((f d * g d : ℝ) : EReal) := fun d => by rw [hf, hg, EReal.coe_mul]
  unfold score
  rw [Finset.sum_congr rfl fun d _ => h d, sum_coe, ofBits_scale, EReal.coe_mul]

/-- The largest of finitely many real scores is one of them. -/
theorem topScore_real {s : Fin 256 → EReal} (hs : ∀ n, ∃ a : ℝ, s n = a) : ∃ a : ℝ, topScore s = a := by
  obtain ⟨n, -, hn⟩ := Finset.exists_max_image (Finset.univ : Finset (Fin 256)) s ⟨0, Finset.mem_univ 0⟩
  obtain ⟨a, ha⟩ := hs n
  refine ⟨a, ?_⟩
  rw [← ha]
  unfold topScore
  refine le_antisymm ?_ ?_
  · rw [Finset.fold_max_le, ofBits_bot]
    exact ⟨bot_le, hn⟩
  · rw [Finset.le_fold_max]
    exact Or.inr ⟨n, Finset.mem_univ n, le_rfl⟩

/-- The weights of real scores are positive real numbers. -/
theorem weight_real {s : Fin 256 → EReal} (hs : ∀ n, ∃ a : ℝ, s n = a) (n : Fin 256) :
    ∃ a : ℝ, 0 < a ∧ weight s n = a := by
  obtain ⟨t, ht⟩ := topScore_real hs
  obtain ⟨a, ha⟩ := hs n
  refine ⟨Real.exp (a - t), Real.exp_pos _, ?_⟩
  unfold weight
  rw [ht, ha, ← EReal.coe_sub, Ideal.exp_coe]

/-- THE EQUATION: where the scores are real numbers, dividing the weighted sum is summing the divided weights. -/
theorem attend_eq_softmaxSum {s : Fin 256 → EReal} (hs : ∀ n, ∃ a : ℝ, s n = a) (v : Fin 256 → EReal) :
    attend s v = softmaxSum s v := by
  choose w hpos hw using weight_real hs
  have hl : (∑ n, weight s n) = ((∑ n, w n : ℝ) : EReal) := by
    rw [Finset.sum_congr rfl fun n _ => hw n, sum_coe]
  have hp : 0 < ∑ n, w n := Finset.sum_pos (fun n _ => hpos n) ⟨0, Finset.mem_univ 0⟩
  unfold attend softmaxSum
  rw [hl, Ideal.div_coe hp.ne', sum_mul_coe _ _ _ (one_div_pos.mpr hp).le]
  refine Finset.sum_congr rfl fun n _ => ?_
  rw [Ideal.div_coe hp.ne', mul_comm (weight s n) (v n), mul_assoc]

end Cert.Shared

end
-- ==== Proof.MergeBlock.lean ====
/-
  The call that attends to the memory, merges the three branches and closes the layer: what one grid point computes. The
  grid has 32 blocks of 512 rows. A point first fills a scratch with the attention's result, two sub-blocks of 256 rows
  times four heads of 256 columns, then reads the whole scratch.
-/
module

public import proofs.«01_k».proof.Proof.Gen.MergeIdeal.Frame
public import proofs.«01_k».proof.Proof.Attention
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen Cert.Shared

variable (m : (ℓ : Loc nD τ sig) → Buf (Elt Ideal) ℓ)

/-- One row of the branches' gated sum: each branch's row times its weight, times its third of the row of gates. -/
def merged (g : Fin 3072 → EReal) (s : Fin 2048 → EReal) (l : Fin 1536 → EReal) (y : Fin 1024 → EReal)
    (ws : Fin 2048 → Fin 1024 → EReal) (wl : Fin 1536 → Fin 1024 → EReal) (wm : Fin 1024 → Fin 1024 → EReal)
    (k : Fin 1024) : EReal :=
  g ⟨k.val, by omega⟩ * (∑ n, s n * ws n k) + g ⟨1024 + k.val, by omega⟩ * (∑ n, l n * wl n k)
    + g ⟨2048 + k.val, by omega⟩ * (∑ n, y n * wm n k)

/-- A row of the layer's result: `x` plus the gated sum `b` times the out-projection's weight, normalised. -/
def closeRow (x b : Fin 1024 → EReal) (wo : Fin 1024 → Fin 1024 → EReal) (fg : Fin 1024 → EReal) (j : Fin 1024) :
    EReal :=
  normRow (fun k => x k + ∑ n, b n * wo n k) fg j

/-- Row `r`, column `j` of the attention's result: the query is the head's part of row `r` of the queries, the keys and
    the values are the head's columns of the memory's rows. -/
def memBlock (Q : FVec Ideal S512x1024 .bf16) (K : FVec Ideal S256x2048 .bf16) : FVec Ideal S512x1024 .bf16 := fun i =>
  attend (fun n => score
      (fun d => Q (ix2 (i 0) ⟨(i 1).val / 256 * 256 + d.val, by have := (i 1).isLt; change _ < 1024 at this; omega⟩))
      (fun d => K (ix2 n ⟨(i 1).val / 256 * 256 + d.val, by have := (i 1).isLt; change _ < 1024 at this; omega⟩)))
    (fun n => K (ix2 n ⟨1024 + (i 1).val, by have := (i 1).isLt; change _ < 1024 at this; omega⟩))

/-- One store into the scratch: the attention of 256 rows of queries over one head's keys and values. -/
theorem head_apply (q k v : FVec Ideal S256x256 .bf16) (a j : Fin 256) :
    k0_pay2 (F := Ideal) q k v (ix2 a j)
      = attend (fun n => score (fun d => q (ix2 a d)) (fun d => k (ix2 n d))) (fun n => v (ix2 n j)) := by
  pointwise [k0_pay2]
  rfl

/-- The same read off the whole blocks: rows from `o` on, columns from the head's first column `p` on. -/
theorem sub_block (Q : FVec Ideal S512x1024 .bf16) (K : FVec Ideal S256x2048 .bf16) (o p u : ℕ)
    (inq : ∀ a, (![o, p] : Fin 2 → ℕ) a + (![256, 256] : Fin 2 → ℕ) a ≤ S512x1024.size a)
    (ink : ∀ a, (![0, p] : Fin 2 → ℕ) a + (![256, 256] : Fin 2 → ℕ) a ≤ S256x2048.size a)
    (inv : ∀ a, (![0, u] : Fin 2 → ℕ) a + (![256, 256] : Fin 2 → ℕ) a ≤ S256x2048.size a)
    (hp : p % 256 = 0) (hu : u = 1024 + p) (a b : Fin 256) (r : Fin 512) (j : Fin 1024) (hr : r.val = o + a.val)
    (hj : j.val = p + b.val) :
    k0_pay2 (F := Ideal)
        (View.ld (Val := Elt Ideal) (e' := .bf16) Q (Rect.unit (s := S512x1024) ![o, p] ![256, 256] inq))
        (View.ld (Val := Elt Ideal) (e' := .bf16) K (Rect.unit (s := S256x2048) ![0, p] ![256, 256] ink))
        (View.ld (Val := Elt Ideal) (e' := .bf16) K (Rect.unit (s := S256x2048) ![0, u] ![256, 256] inv)) (ix2 a b)
      = memBlock Q K (ix2 r j) := by
  refine (head_apply _ _ _ a b).trans ?_
  have hq : ∀ d : Fin 256,
      View.ld (Val := Elt Ideal) (e' := .bf16) Q (Rect.unit (s := S512x1024) ![o, p] ![256, 256] inq) (ix2 a d)
        = Q (ix2 r ⟨j.val / 256 * 256 + d.val, by omega⟩) := fun d =>
    View.ld_unit_apply_of _ _ _ _ _ _ fun x => by
      fin_cases x
      · exact hr
      · show j.val / 256 * 256 + d.val = p + d.val; omega
  have hk : ∀ n d : Fin 256,
      View.ld (Val := Elt Ideal) (e' := .bf16) K (Rect.unit (s := S256x2048) ![0, p] ![256, 256] ink) (ix2 n d)
        = K (ix2 n ⟨j.val / 256 * 256 + d.val, by omega⟩) := fun n d =>
    View.ld_unit_apply_of _ _ _ _ _ _ fun x => by
      fin_cases x
      · exact (Nat.zero_add _).symm
      · show j.val / 256 * 256 + d.val = p + d.val; omega
  have hv : ∀ n : Fin 256,
      View.ld (Val := Elt Ideal) (e' := .bf16) K (Rect.unit (s := S256x2048) ![0, u] ![256, 256] inv) (ix2 n b)
        = K (ix2 n ⟨1024 + j.val, by omega⟩) := fun n =>
    View.ld_unit_apply_of _ _ _ _ _ _ fun x => by
      fin_cases x
      · exact (Nat.zero_add _).symm
      · show 1024 + j.val = u + b.val; omega
  simp only [hq, hk, hv]
  rfl

/-- WHAT A POINT LEAVES in the result's block. -/
theorem out_eq (c : Dev nD) (t : Fin cfg0.N) :
    outsAt0 m c t = k0_pay1 (k0_pay19 (iblk m c 5 t))
      (k0_pay20 (View.ld (Val := Elt Ideal) (e' := .bf16) (iblk m c 4 t) (Rect.unit ![0, 0] ![512, 1024] inb_S512x3072_S512x1024_0_0)) (iblk m c 0 t)
        (iblk m c 6 t) (View.ld (Val := Elt Ideal) (e' := .bf16) (iblk m c 4 t) (Rect.unit ![0, 1024] ![512, 1024] inb_S512x3072_S512x1024_0_1024))
        (iblk m c 1 t) (iblk m c 7 t)
        (View.ld (Val := Elt Ideal) (e' := .bf16) (iblk m c 4 t) (Rect.unit ![0, 2048] ![512, 1024] inb_S512x3072_S512x1024_0_2048))
        (memBlock (iblk m c 2 t) (iblk m c 3 t)) (iblk m c 8 t)) (iblk m c 9 t) (iblk m c 10 t) := by
  unfold outsAt0 out0_A_11
  frame_open
  frame_out
  congr 2
  funext y
  obtain ⟨r, j, rfl⟩ : ∃ (r : Fin 512) (j : Fin 1024), y = ix2 r j := ⟨y 0, y 1, eq_ix2 y⟩
  rw [View.readCov_eq_canon']
  have e : ((Rect.unit (s := S512x1024) ![0, 0] ![512, 1024] inb_S512x1024_S512x1024_0_0).toLoadRect.idx (ix2 r j)
      : S512x1024.Idx) = ix2 r j := by
    funext a
    refine Fin.ext ((Rect.idx_unit_val _ _ _ _ a).trans ?_)
    fin_cases a <;> exact Nat.zero_add _
  show View.canon _ ((Rect.unit (s := S512x1024) ![0, 0] ![512, 1024] inb_S512x1024_S512x1024_0_0).toLoadRect.idx
    (ix2 r j)) = _
  rw [e]
  canon_tiles x h
  all_goals
    obtain ⟨a, b, rfl⟩ : ∃ (a : Fin 256) (b : Fin 256), x = ix2 a b := ⟨x 0, x 1, eq_ix2 x⟩
    refine sub_block (iblk m c 2 t) (iblk m c 3 t) _ _ _ _ _ _ (by decide) (by decide) a b r j ?_ ?_
    · first | exact h0 | exact h0.trans (Nat.zero_add _).symm
    · first | exact h1 | exact h1.trans (Nat.zero_add _).symm

/-- The gated sum's payload, read at a row and a column. -/
theorem merged_apply (T : FVec Ideal S512x3072 .bf16) (Y : FVec Ideal S512x2048 .bf16) (Ws : FVec Ideal S2048x1024 .bf16)
    (L : FVec Ideal S512x1536 .bf16) (Wl : FVec Ideal S1536x1024 .bf16) (M : FVec Ideal S512x1024 .bf16)
    (Wm : FVec Ideal S1024x1024 .bf16) (r : Fin 512) (k : Fin 1024) :
    k0_pay20 (F := Ideal)
        (View.ld (Val := Elt Ideal) (e' := .bf16) T (Rect.unit ![0, 0] ![512, 1024] inb_S512x3072_S512x1024_0_0)) Y Ws
        (View.ld (Val := Elt Ideal) (e' := .bf16) T (Rect.unit ![0, 1024] ![512, 1024] inb_S512x3072_S512x1024_0_1024))
        L Wl
        (View.ld (Val := Elt Ideal) (e' := .bf16) T (Rect.unit ![0, 2048] ![512, 1024] inb_S512x3072_S512x1024_0_2048))
        M Wm (ix2 r k)
      = merged (fun n => T (ix2 r n)) (fun n => Y (ix2 r n)) (fun n => L (ix2 r n)) (fun n => M (ix2 r n))
          (fun n k => Ws (ix2 n k)) (fun n k => Wl (ix2 n k)) (fun n k => Wm (ix2 n k)) k := by
  have h0 : View.ld (Val := Elt Ideal) (e' := .bf16) T
      (Rect.unit ![0, 0] ![512, 1024] inb_S512x3072_S512x1024_0_0) (ix2 r k) = T (ix2 r ⟨k.val, by omega⟩) :=
    View.ld_unit_apply_of _ _ _ _ _ _ fun x => by fin_cases x <;> exact (Nat.zero_add _).symm
  have h1 : View.ld (Val := Elt Ideal) (e' := .bf16) T
      (Rect.unit ![0, 1024] ![512, 1024] inb_S512x3072_S512x1024_0_1024) (ix2 r k)
        = T (ix2 r ⟨1024 + k.val, by omega⟩) :=
    View.ld_unit_apply_of _ _ _ _ _ _ fun x => by
      fin_cases x
      · exact (Nat.zero_add _).symm
      · rfl
  have h2 : View.ld (Val := Elt Ideal) (e' := .bf16) T
      (Rect.unit ![0, 2048] ![512, 1024] inb_S512x3072_S512x1024_0_2048) (ix2 r k)
        = T (ix2 r ⟨2048 + k.val, by omega⟩) :=
    View.ld_unit_apply_of _ _ _ _ _ _ fun x => by
      fin_cases x
      · exact (Nat.zero_add _).symm
      · rfl
  unfold merged
  beta_reduce
  rw [← h0, ← h1, ← h2]
  generalize View.ld (Val := Elt Ideal) (e' := .bf16) T
    (Rect.unit ![0, 0] ![512, 1024] inb_S512x3072_S512x1024_0_0) = T0
  generalize View.ld (Val := Elt Ideal) (e' := .bf16) T
    (Rect.unit ![0, 1024] ![512, 1024] inb_S512x3072_S512x1024_0_1024) = T1
  generalize View.ld (Val := Elt Ideal) (e' := .bf16) T
    (Rect.unit ![0, 2048] ![512, 1024] inb_S512x3072_S512x1024_0_2048) = T2
  pointwise [k0_pay20]

/-- The result's payload, read at a row and a column. -/
theorem close_apply (X : FVec Ideal S512x1024 .f32) (B : FVec Ideal S512x1024 .bf16)
    (Wo : FVec Ideal S1024x1024 .bf16) (G : FVec Ideal S1x1024 .f32) (r : Fin 512) (j : Fin 1024) :
    k0_pay1 (F := Ideal) (k0_pay19 (F := Ideal) X) B Wo G (ix2 r j)
      = closeRow (fun k => X (ix2 r k)) (fun k => B (ix2 r k)) (fun n k => Wo (ix2 n k)) (fun k => G (ix2 0 k)) j := by
  pointwise [k0_pay1, k0_pay19]
  rfl

/-- Every element of the block that a point leaves. -/
theorem out_apply (c : Dev nD) (t : Fin cfg0.N) (r : Fin 512) (j : Fin 1024) :
    outsAt0 m c t (ix2 r j)
      = closeRow (fun k => iblk m c 5 t (ix2 r k))
          (merged (fun n => iblk m c 4 t (ix2 r n)) (fun n => iblk m c 0 t (ix2 r n)) (fun n => iblk m c 1 t (ix2 r n))
            (fun n => memBlock (iblk m c 2 t) (iblk m c 3 t) (ix2 r n)) (fun n k => iblk m c 6 t (ix2 n k))
            (fun n k => iblk m c 7 t (ix2 n k)) (fun n k => iblk m c 8 t (ix2 n k)))
          (fun n k => iblk m c 9 t (ix2 n k)) (fun k => iblk m c 10 t (ix2 0 k)) j := by
  rw [out_eq]
  refine (close_apply _ _ _ _ r j).trans ?_
  refine congrArg (fun b => closeRow _ b _ _ j) (funext fun k => ?_)
  exact merged_apply _ _ _ _ _ _ _ r k

end Cert.MergeIdeal.Hand

end
-- ==== Proof.MergeRef.lean ====
/-
  The reference of the merging call, read stage by stage: the scores, their weights, the attention's rows, the gated sum,
  the residual and the final norm, each at an index of its array.
-/
module

public import proofs.«01_k».proof.Proof.MergeBlock
public import proofs.«01_k».proof.Proof.Gen.MergeRefIdeal.Run
public import Idealize.ShloMosaic.Lib.Tactic.CleanTypes

@[expose] public section

set_option maxRecDepth 16384

noncomputable section

open Idealize.ShloMosaic Idealize.ShloMosaic.TcCoe Idealize.SL.Sem

namespace Cert.MergeRefIdeal.Hand

open Cert.MergeRefIdeal Cert.MergeRefIdeal.Gen Cert.Shared
open Cert.MergeIdeal.Hand (merged closeRow)

/-- The scores of every sequence, head, token and memory token. -/
def scoreArr (q : FVec Ideal S2x8192x1024 .bf16) (kv : FVec Ideal S2x256x2048 .bf16) : FVec Ideal S2x4x8192x256 .f32 :=
  mulf (Host.dotGeneral dot_S2x8192x4x256_S2x256x4x256_S2x4x8192x256_3_3_1_1_02_02 none
      (shapeCast S2x8192x4x256 (extf .f32 q bitsLt_bf16_f32) shapeCasts_S2x8192x1024_S2x8192x4x256)
      (shapeCast S2x256x4x256 (extractStridedSlice S2x256x1024 ![0, 0, 0] (extf .f32 kv bitsLt_bf16_f32)
        slices_S2x256x2048_S2x256x1024_0_0_0) shapeCasts_S2x256x1024_S2x256x4x256))
    (broadcastInDim S2x4x8192x256 ![] bcast_S_S2x4x8192x256 (constant S_ .f32 0x3D800000#32))

/-- The largest score of every row. -/
def topArr (s : FVec Ideal S2x4x8192x256 .f32) : FVec Ideal S2x4x8192 .f32 :=
  Host.reduce FloatOps.maximumf s (constant S_ .f32 0xFF800000#32) reducesTo_S2x4x8192x256_S2x4x8192_d3 h_S_

/-- The exponential of each score less its row's entry in `u`, the latter not below minus infinity. -/
def expArr (s : FVec Ideal S2x4x8192x256 .f32) (u : FVec Ideal S2x4x8192 .f32) : FVec Ideal S2x4x8192x256 .f32 :=
  Host.exp (subf s (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) u))))

/-- The attention's rows from an array of weights and the values. -/
def memArr (w : FVec Ideal S2x4x8192x256 .f32) (kv : FVec Ideal S2x256x2048 .bf16) : FVec Ideal S2x8192x1024 .f32 :=
  shapeCast S2x8192x1024 (transpose S2x8192x4x256 [0, 3, 1, 2]
    (Host.dotGeneral dot_S2x256x4x256_S2x4x8192x256_S2x4x256x8192_1_3_3_2_02_01 none
      (shapeCast S2x256x4x256 (extractStridedSlice S2x256x1024 ![0, 0, 1024] (extf .f32 kv bitsLt_bf16_f32)
        slices_S2x256x2048_S2x256x1024_0_0_1024) shapeCasts_S2x256x1024_S2x256x4x256)
      (Host.divf w (broadcastInDim S2x4x8192x256 ![0, 1, 2, 3] bcast_S2x4x8192x1_S2x4x8192x256_0_1_2_3
        (broadcastInDim S2x4x8192x1 ![0, 1, 2] bcast_S2x4x8192_S2x4x8192x1_0_1_2
          (Host.reduceAdd w (constant S_ .f32 0x00000000#32) reducesTo_S2x4x8192x256_S2x4x8192_d3 h_S_)))))
    transposes_S2x4x256x8192_S2x8192x4x256_0_3_1_2) shapeCasts_S2x8192x4x256_S2x8192x1024

variable (ys : FVec Ideal S2x8192x2048 .bf16) (yl : FVec Ideal S2x8192x1536 .bf16) (y : FVec Ideal S2x8192x1024 .f32)
  (gt : FVec Ideal S2x8192x3072 .bf16) (ws : FVec Ideal S1x2048x1024 .f32) (wl : FVec Ideal S1x1536x1024 .f32)
  (wm wo : FVec Ideal S1x1024x1024 .f32) (x b : FVec Ideal S2x8192x1024 .f32) (fg : FVec Ideal S1024 .f32)

/-- The gated sum of the three branches. -/
def mergedArr : FVec Ideal S2x8192x1024 .f32 :=
  addf (addf
    (mulf (shapeCast S2x8192x1024 (extractStridedSlice S2x8192x1x1024 ![0, 0, 0, 0]
        (shapeCast S2x8192x3x1024 (extf .f32 gt bitsLt_bf16_f32) shapeCasts_S2x8192x3072_S2x8192x3x1024)
        slices_S2x8192x3x1024_S2x8192x1x1024_0_0_0_0) shapeCasts_S2x8192x1x1024_S2x8192x1024)
      (Host.dotGeneral dot_S2x8192x2048_S2048x1024_S2x8192x1024_2_0_01_1_n_n none (extf .f32 ys bitsLt_bf16_f32)
        (shapeCast S2048x1024 ws shapeCasts_S1x2048x1024_S2048x1024)))
    (mulf (shapeCast S2x8192x1024 (extractStridedSlice S2x8192x1x1024 ![0, 0, 1, 0]
        (shapeCast S2x8192x3x1024 (extf .f32 gt bitsLt_bf16_f32) shapeCasts_S2x8192x3072_S2x8192x3x1024)
        slices_S2x8192x3x1024_S2x8192x1x1024_0_0_1_0) shapeCasts_S2x8192x1x1024_S2x8192x1024)
      (Host.dotGeneral dot_S2x8192x1536_S1536x1024_S2x8192x1024_2_0_01_1_n_n none (extf .f32 yl bitsLt_bf16_f32)
        (shapeCast S1536x1024 wl shapeCasts_S1x1536x1024_S1536x1024))))
    (mulf (shapeCast S2x8192x1024 (extractStridedSlice S2x8192x1x1024 ![0, 0, 2, 0]
        (shapeCast S2x8192x3x1024 (extf .f32 gt bitsLt_bf16_f32) shapeCasts_S2x8192x3072_S2x8192x3x1024)
        slices_S2x8192x3x1024_S2x8192x1x1024_0_0_2_0) shapeCasts_S2x8192x1x1024_S2x8192x1024)
      (Host.dotGeneral dot_S2x8192x1024_S1024x1024_S2x8192x1024_2_0_01_1_n_n none y
        (shapeCast S1024x1024 wm shapeCasts_S1x1024x1024_S1024x1024)))

/-- The residual: `x` plus the gated sum times the out-projection's weight. -/
def residualArr : FVec Ideal S2x8192x1024 .f32 :=
  addf x (Host.dotGeneral dot_S2x8192x1024_S1024x1024_S2x8192x1024_2_0_01_1_n_n none b
    (shapeCast S1024x1024 wo shapeCasts_S1x1024x1024_S1024x1024))

/-- The final norm of every row. -/
def normArr : FVec Ideal S16384x1024 .f32 :=
  shapeCast S16384x1024 (mulf (mulf x (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf x x) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![2] bcast_S1024_S1x1x1024_2 fg))) shapeCasts_S2x8192x1024_S16384x1024

/-- A score, read at an index. -/
theorem scoreArr_apply (q : FVec Ideal S2x8192x1024 .bf16) (kv : FVec Ideal S2x256x2048 .bf16) (e : Fin 2) (h : Fin 4)
    (s : Fin 8192) (n : Fin 256) :
    scoreArr q kv (ix4 e h s n)
      = score (fun d => q (ix3 e s ⟨h.val * 256 + d.val, by omega⟩)) (fun d => kv (ix3 e n ⟨h.val * 256 + d.val, by omega⟩)) := by
  pointwise [scoreArr]
  rfl

/-- The largest score, read at an index. -/
theorem topArr_apply (s : FVec Ideal S2x4x8192x256 .f32) (e : Fin 2) (h : Fin 4) (t : Fin 8192) :
    topArr s (ix3 e h t) = topScore (fun l => s (ix4 e h t l)) := by
  pointwise [topArr]
  unfold topScore
  with_reducible rfl

/-- The exponential, read at an index. -/
theorem expArr_apply (s : FVec Ideal S2x4x8192x256 .f32) (u : FVec Ideal S2x4x8192 .f32) (e : Fin 2) (h : Fin 4)
    (t : Fin 8192) (n : Fin 256) :
    expArr s u (ix4 e h t n)
      = Ideal.exp (s (ix4 e h t n) - max (Ideal.ofBits .f32 0xFF800000#32) (u (ix3 e h t))) := by
  pointwise [expArr]

/-- A weight, read at an index. -/
theorem weightArr_apply (s : FVec Ideal S2x4x8192x256 .f32) (e : Fin 2) (h : Fin 4) (t : Fin 8192) (n : Fin 256) :
    expArr s (topArr s) (ix4 e h t n) = weight (fun l => s (ix4 e h t l)) n := by
  rw [expArr_apply, topArr_apply, max_topScore]
  unfold weight
  with_reducible rfl

/-- The attention's rows, read at an index. -/
theorem memArr_apply (w : FVec Ideal S2x4x8192x256 .f32) (kv : FVec Ideal S2x256x2048 .bf16) (e : Fin 2) (t : Fin 8192)
    (j : Fin 1024) :
    memArr w kv (ix3 e t j)
      = ∑ n, kv (ix3 e n ⟨1024 + j.val, by omega⟩)
          * Ideal.div (w (ix4 e ⟨j.val / 256, by omega⟩ t n)) (∑ l, w (ix4 e ⟨j.val / 256, by omega⟩ t l)) := by
  pointwise [memArr]

/-- The gated sum, read at an index. -/
theorem mergedArr_apply (e : Fin 2) (t : Fin 8192) (k : Fin 1024) :
    mergedArr ys yl y gt ws wl wm (ix3 e t k)
      = merged (fun n => gt (ix3 e t n)) (fun n => ys (ix3 e t n)) (fun n => yl (ix3 e t n)) (fun n => y (ix3 e t n))
          (fun n k => ws (ix3 0 n k)) (fun n k => wl (ix3 0 n k)) (fun n k => wm (ix3 0 n k)) k := by
  pointwise [mergedArr]
  rfl

/-- The residual, read at an index. -/
theorem residualArr_apply (e : Fin 2) (t : Fin 8192) (k : Fin 1024) :
    residualArr wo x b (ix3 e t k) = x (ix3 e t k) + ∑ n, b (ix3 e t n) * wo (ix3 0 n k) := by
  pointwise [residualArr]

/-- The final norm, read at an index. -/
theorem normArr_apply (r : Fin 16384) (j : Fin 1024) :
    normArr x fg (ix2 r j)
      = normRow (fun k => x (ix3 ⟨r.val / 8192, by omega⟩ ⟨r.val % 8192, by omega⟩ k)) (fun k => fg (ix1 k)) j := by
  pointwise [normArr]
  rfl

/-- Token `t` of sequence `e`, column `j` of the attention's rows, from the queries, the keys and the values. -/
theorem attention_apply (q : FVec Ideal S2x8192x1024 .bf16) (kv : FVec Ideal S2x256x2048 .bf16) (e : Fin 2)
    (t : Fin 8192) (j : Fin 1024) :
    memArr (expArr (scoreArr q kv) (topArr (scoreArr q kv))) kv (ix3 e t j)
      = softmaxSum (fun n => score (fun d => q (ix3 e t ⟨j.val / 256 * 256 + d.val, by omega⟩))
          (fun d => kv (ix3 e n ⟨j.val / 256 * 256 + d.val, by omega⟩)))
        (fun n => kv (ix3 e n ⟨1024 + j.val, by omega⟩)) := by
  rw [memArr_apply]
  unfold softmaxSum
  simp only [weightArr_apply, scoreArr_apply]

end Cert.MergeRefIdeal.Hand

end
-- ==== Proof.MergeValue.lean ====
/-
  The call that attends to the memory, merges the three branches and closes the layer: what its result array holds, and
  the reference's result. Both are one function of the arguments, but for the attention, which the two compute
  differently; with finite queries and keys the two attentions are equal.
-/
module

public import proofs.«01_k».proof.Proof.MergeBlock
public import proofs.«01_k».proof.Proof.MergeRef
public import Idealize.ShloMosaic.Lib.Claim
public import proofs.«01_k».proof.Pre_finite_queries_and_keys

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen Cert.Shared
open Cert.MergeRefIdeal.Hand (scoreArr topArr expArr memArr mergedArr residualArr normArr normArr_apply residualArr_apply
  mergedArr_apply attention_apply)

variable (m : (ℓ : Loc nD τ sig) → Buf (Elt Ideal) ℓ)

/-- Where the windows stand at a grid point: the rows at the point's block, the keys and values at the point's sequence
    (16 points each), the weights at their only block. -/
theorem idx : ∀ t : Fin cfg0.N, win0_0.index t = ![t.val, 0] ∧ win0_1.index t = ![t.val, 0]
    ∧ win0_2.index t = ![t.val, 0] ∧ win0_3.index t = ![t.val / 16, 0] ∧ win0_4.index t = ![t.val, 0]
    ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

/-- The SSD branch's rows of a point, read from the argument. -/
theorem rows0_apply (c : Dev nD) (t : Fin cfg0.N) (r : Fin 512) (k : Fin 2048) (h : t.val * 512 + r.val < 16384) :
    iblk m c 0 t (ix2 r k) = m ((c : Thread nD τ).loc main_arg0)
      (ix3 ⟨(t.val * 512 + r.val) / 8192, by omega⟩ ⟨(t.val * 512 + r.val) % 8192, by omega⟩ k) := by
  blk_simp [iblk, idx t]
  entry_read
  pointwise
  blk_ext [idx t]

/-- The LRU branch's rows of a point, read from the argument. -/
theorem rows1_apply (c : Dev nD) (t : Fin cfg0.N) (r : Fin 512) (k : Fin 1536) (h : t.val * 512 + r.val < 16384) :
    iblk m c 1 t (ix2 r k) = m ((c : Thread nD τ).loc main_arg1)
      (ix3 ⟨(t.val * 512 + r.val) / 8192, by omega⟩ ⟨(t.val * 512 + r.val) % 8192, by omega⟩ k) := by
  blk_simp [iblk, idx t]
  entry_read
  pointwise
  blk_ext [idx t]

/-- The queries of a point, read from the argument. -/
theorem rows2_apply (c : Dev nD) (t : Fin cfg0.N) (r : Fin 512) (k : Fin 1024) (h : t.val * 512 + r.val < 16384) :
    iblk m c 2 t (ix2 r k) = m ((c : Thread nD τ).loc main_arg2)
      (ix3 ⟨(t.val * 512 + r.val) / 8192, by omega⟩ ⟨(t.val * 512 + r.val) % 8192, by omega⟩ k) := by
  blk_simp [iblk, idx t]
  entry_read
  pointwise
  blk_ext [idx t]

/-- The gates of a point, read from the argument. -/
theorem rows4_apply (c : Dev nD) (t : Fin cfg0.N) (r : Fin 512) (k : Fin 3072) (h : t.val * 512 + r.val < 16384) :
    iblk m c 4 t (ix2 r k) = m ((c : Thread nD τ).loc main_arg4)
      (ix3 ⟨(t.val * 512 + r.val) / 8192, by omega⟩ ⟨(t.val * 512 + r.val) % 8192, by omega⟩ k) := by
  blk_simp [iblk, idx t]
  entry_read
  pointwise
  blk_ext [idx t]

/-- The layer's own input of a point, read from the argument. -/
theorem rows5_apply (c : Dev nD) (t : Fin cfg0.N) (r : Fin 512) (k : Fin 1024) (h : t.val * 512 + r.val < 16384) :
    iblk m c 5 t (ix2 r k) = m ((c : Thread nD τ).loc main_arg5)
      (ix3 ⟨(t.val * 512 + r.val) / 8192, by omega⟩ ⟨(t.val * 512 + r.val) % 8192, by omega⟩ k) := by
  blk_simp [iblk, idx t]
  entry_read
  pointwise
  blk_ext [idx t]

/-- The keys and values of a point's sequence, read from the argument. -/
theorem kv_apply (c : Dev nD) (t : Fin cfg0.N) (n : Fin 256) (k : Fin 2048) (h : t.val / 16 < 2) :
    iblk m c 3 t (ix2 n k) = m ((c : Thread nD τ).loc main_arg3) (ix3 ⟨t.val / 16, h⟩ n k) := by
  blk_simp [iblk, idx t]
  entry_read
  pointwise
  blk_ext [idx t]

/-- The SSD branch's weight, read from the argument. -/
theorem weight6_apply (c : Dev nD) (t : Fin cfg0.N) (n : Fin 2048) (k : Fin 1024) :
    iblk m c 6 t (ix2 n k) = m ((c : Thread nD τ).loc main_arg6) (ix3 0 n k) := by
  blk_simp [iblk, idx t]
  entry_read
  pointwise
  try blk_ext [idx t]

/-- The LRU branch's weight, read from the argument. -/
theorem weight7_apply (c : Dev nD) (t : Fin cfg0.N) (n : Fin 1536) (k : Fin 1024) :
    iblk m c 7 t (ix2 n k) = m ((c : Thread nD τ).loc main_arg7) (ix3 0 n k) := by
  blk_simp [iblk, idx t]
  entry_read
  pointwise
  try blk_ext [idx t]

/-- The memory branch's weight, read from the argument. -/
theorem weight8_apply (c : Dev nD) (t : Fin cfg0.N) (n : Fin 1024) (k : Fin 1024) :
    iblk m c 8 t (ix2 n k) = m ((c : Thread nD τ).loc main_arg8) (ix3 0 n k) := by
  blk_simp [iblk, idx t]
  entry_read
  pointwise
  try blk_ext [idx t]

/-- The out-projection's weight, read from the argument. -/
theorem weight9_apply (c : Dev nD) (t : Fin cfg0.N) (n : Fin 1024) (k : Fin 1024) :
    iblk m c 9 t (ix2 n k) = m ((c : Thread nD τ).loc main_arg9) (ix3 0 n k) := by
  blk_simp [iblk, idx t]
  entry_read
  pointwise
  try blk_ext [idx t]

/-- The final norm's weight, read from the argument. -/
theorem gain_apply (c : Dev nD) (t : Fin cfg0.N) (k : Fin 1024) :
    iblk m c 10 t (ix2 0 k) = m ((c : Thread nD τ).loc main_arg10) (ix1 k) := by
  blk_simp [iblk, idx t]
  entry_read
  pointwise
  try blk_ext [idx t]

/-- The scores of token `r`'s query, in the head of column `j`, with the 256 keys of its sequence. -/
def scores (q : FVec Ideal S2x8192x1024 .bf16) (kv : FVec Ideal S2x256x2048 .bf16) (r : Fin 16384) (j : Fin 1024)
    (n : Fin 256) : EReal :=
  score (fun d => q (ix3 ⟨r.val / 8192, by omega⟩ ⟨r.val % 8192, by omega⟩ ⟨j.val / 256 * 256 + d.val, by omega⟩))
    (fun d => kv (ix3 ⟨r.val / 8192, by omega⟩ n ⟨j.val / 256 * 256 + d.val, by omega⟩))

/-- The values of token `r`'s sequence at column `j`. -/
def values (kv : FVec Ideal S2x256x2048 .bf16) (r : Fin 16384) (j : Fin 1024) (n : Fin 256) : EReal :=
  kv (ix3 ⟨r.val / 8192, by omega⟩ n ⟨1024 + j.val, by omega⟩)

variable (ys : FVec Ideal S2x8192x2048 .bf16) (yl : FVec Ideal S2x8192x1536 .bf16) (q : FVec Ideal S2x8192x1024
  .bf16) (kv : FVec Ideal S2x256x2048 .bf16) (gt : FVec Ideal S2x8192x3072 .bf16) (x : FVec Ideal S2x8192x1024
  .f32) (ws : FVec Ideal S1x2048x1024 .f32) (wl : FVec Ideal S1x1536x1024 .f32) (wm : FVec Ideal S1x1024x1024
  .f32) (wo : FVec Ideal S1x1024x1024 .f32) (fg : FVec Ideal S1024 .f32)

/-- The layer's result, with the attention's rows `y`: token `r`, column `j`. -/
def resultOf (y : Fin 16384 → Fin 1024 → EReal) : FVec Ideal S16384x1024 .f32 := fun i =>
  have hr : (i 0).val < 16384 := (i 0).isLt
  closeRow (fun k => x (ix3 ⟨(i 0).val / 8192, by omega⟩ ⟨(i 0).val % 8192, by omega⟩ k))
    (merged (fun n => gt (ix3 ⟨(i 0).val / 8192, by omega⟩ ⟨(i 0).val % 8192, by omega⟩ n))
      (fun n => ys (ix3 ⟨(i 0).val / 8192, by omega⟩ ⟨(i 0).val % 8192, by omega⟩ n))
      (fun n => yl (ix3 ⟨(i 0).val / 8192, by omega⟩ ⟨(i 0).val % 8192, by omega⟩ n))
      (fun n => y (i 0) n) (fun n k => ws (ix3 0 n k)) (fun n k => wl (ix3 0 n k)) (fun n k => wm (ix3 0 n k)))
    (fun n k => wo (ix3 0 n k)) (fun k => fg (ix1 k)) (i 1)

/-- The kernel's result. -/
def result : FVec Ideal S16384x1024 .f32 :=
  resultOf ys yl gt x ws wl wm wo fg fun r j => attend (scores q kv r j) (values kv r j)

/-- The reference's result. -/
def resultRef : FVec Ideal S16384x1024 .f32 :=
  resultOf ys yl gt x ws wl wm wo fg fun r j => softmaxSum (scores q kv r j) (values kv r j)

/-- An element that the precondition's test admits is a real number. -/
theorem real_of_test {a : Ideal .bf16}
    (h : FloatOps.cmpf (F := Ideal) .olt (FloatOps.absf a) (FloatOps.ofBits .bf16 0x7F80#16) = 1#1) :
    ∃ b : ℝ, (a : EReal) = b := by
  have ht : Ideal.ofBits .bf16 0x7F80#16 = ⊤ := by simp [Ideal.ofBits, Ideal.ieee]
  revert h
  show Ideal.cmp .olt (max (a : EReal) (-(a : EReal))) (Ideal.ofBits .bf16 0x7F80#16) = 1#1 → _
  rw [ht]
  induction (a : EReal) using EReal.rec with
  | bot => intro h; simp [Ideal.cmp] at h
  | top => intro h; simp [Ideal.cmp] at h
  | coe b => exact fun _ => ⟨b, rfl⟩

/-- The two results are equal where the precondition holds. -/
theorem result_eq [Cert.Pre_finite_queries_and_keys.Facts]
    (h0 : (Cert.Pre_finite_queries_and_keys.fn (F := Ideal) ys yl q kv gt x ws wl wm wo fg).1 = fun _ => 1#1)
    (h1 : (Cert.Pre_finite_queries_and_keys.fn (F := Ideal) ys yl q kv gt x ws wl wm wo fg).2 = fun _ => 1#1) :
    result ys yl q kv gt x ws wl wm wo fg = resultRef ys yl q kv gt x ws wl wm wo fg := by
  have hq : ∀ i, ∃ b : ℝ, (q i : EReal) = b := fun i => real_of_test (congrFun h0 i)
  have hk : ∀ (b : Fin 2) (n : Fin 256) (k : Fin 2048), k.val < 1024 → ∃ a : ℝ, (kv (ix3 b n k) : EReal) = a := fun b n k hk => by
    have h := congrFun h1 (ix3 b n ⟨k.val, hk⟩)
    have e : extractStridedSlice Cert.Pre_finite_queries_and_keys.S2x256x1024 ![0, 0, 0] kv
        Cert.Pre_finite_queries_and_keys.Facts.slices_S2x256x2048_S2x256x1024_0_0_0 (ix3 b n ⟨k.val, hk⟩)
          = kv (ix3 b n k) := by
      pointwise
    rw [← e]
    exact real_of_test h
  unfold result resultRef
  refine congrArg _ (funext fun r => funext fun j => attend_eq_softmaxSum (fun n => ?_) _)
  exact score_real (fun d => hq _) (fun d => hk _ _ _ (by show j.val / 256 * 256 + d.val < 1024; omega))

omit ys yl q kv gt x ws wl wm wo fg

/-- The result array after the kernel's run. -/
theorem final (c : Dev nD) : (dats m 0 c).arrAt 11 (cfgs 0).N
    = result (m ((c : Thread nD τ).loc main_arg0))
            (m ((c : Thread nD τ).loc main_arg1))
            (m ((c : Thread nD τ).loc main_arg2))
            (m ((c : Thread nD τ).loc main_arg3))
            (m ((c : Thread nD τ).loc main_arg4))
            (m ((c : Thread nD τ).loc main_arg5))
            (m ((c : Thread nD τ).loc main_arg6))
            (m ((c : Thread nD τ).loc main_arg7))
            (m ((c : Thread nD τ).loc main_arg8))
            (m ((c : Thread nD τ).loc main_arg9))
            (m ((c : Thread nD τ).loc main_arg10)) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  have hN : t.val < 32 := lt_of_lt_of_eq t.isLt N_0
  have hr := r.isLt
  have e : (((win0_11.blk t).view.emb (ix2 r j)) : S16384x1024.Idx) = ix2 ⟨t.val * 512 + r.val, by omega⟩ j := by
    blk_ext [idx t]
  rw [e]
  refine (out_apply m c t r j).trans ?_
  have h0 : ∀ k : Fin 2048, iblk m c 0 t (ix2 r k) = _ := fun k => rows0_apply m c t r k (by omega)
  have h1 : ∀ k : Fin 1536, iblk m c 1 t (ix2 r k) = _ := fun k => rows1_apply m c t r k (by omega)
  have h2 : ∀ k : Fin 1024, iblk m c 2 t (ix2 r k) = _ := fun k => rows2_apply m c t r k (by omega)
  have h3 : ∀ (n : Fin 256) (k : Fin 2048), iblk m c 3 t (ix2 n k) = _ := fun n k => kv_apply m c t n k (by omega)
  have h4 : ∀ k : Fin 3072, iblk m c 4 t (ix2 r k) = _ := fun k => rows4_apply m c t r k (by omega)
  have h5 : ∀ k : Fin 1024, iblk m c 5 t (ix2 r k) = _ := fun k => rows5_apply m c t r k (by omega)
  have h6 : ∀ (n : Fin 2048) (k : Fin 1024), iblk m c 6 t (ix2 n k) = _ := fun n k => weight6_apply m c t n k
  have h7 : ∀ (n : Fin 1536) (k : Fin 1024), iblk m c 7 t (ix2 n k) = _ := fun n k => weight7_apply m c t n k
  have h8 : ∀ (n : Fin 1024) (k : Fin 1024), iblk m c 8 t (ix2 n k) = _ := fun n k => weight8_apply m c t n k
  have h9 : ∀ (n : Fin 1024) (k : Fin 1024), iblk m c 9 t (ix2 n k) = _ := fun n k => weight9_apply m c t n k
  have h10 : ∀ k : Fin 1024, iblk m c 10 t (ix2 0 k) = _ := fun k => gain_apply m c t k
  have hy : ∀ n : Fin 1024, memBlock (iblk m c 2 t) (iblk m c 3 t) (ix2 r n)
      = attend (scores (m ((c : Thread nD τ).loc main_arg2)) (m ((c : Thread nD τ).loc main_arg3))
            ⟨t.val * 512 + r.val, by omega⟩ n)
          (values (m ((c : Thread nD τ).loc main_arg3)) ⟨t.val * 512 + r.val, by omega⟩ n) := fun n => by
    have eb : t.val / 16 = (t.val * 512 + r.val) / 8192 := by omega
    unfold memBlock scores values
    simp only [eb] at h3
    refine congrArg₂ attend (funext fun k => congrArg₂ score (funext fun d => ?_) (funext fun d => ?_)) (funext fun k => ?_)
    · exact h2 _
    · exact h3 _ _
    · exact h3 _ _
  simp only [h0, h1, h4, h5, h6, h7, h8, h9, h10, hy]
  rfl

/-- THE KERNEL'S RUN: it ends with the result at `result` of the arguments, and the arguments unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v15)
          = result (m ((c : Thread nD τ).loc main_arg0))
            (m ((c : Thread nD τ).loc main_arg1))
            (m ((c : Thread nD τ).loc main_arg2))
            (m ((c : Thread nD τ).loc main_arg3))
            (m ((c : Thread nD τ).loc main_arg4))
            (m ((c : Thread nD τ).loc main_arg5))
            (m ((c : Thread nD τ).loc main_arg6))
            (m ((c : Thread nD τ).loc main_arg7))
            (m ((c : Thread nD τ).loc main_arg8))
            (m ((c : Thread nD τ).loc main_arg9))
            (m ((c : Thread nD τ).loc main_arg10))
      ∧ r.2.mem ((c : Thread nD τ).loc main_arg0)
          = m ((c : Thread nD τ).loc main_arg0)
      ∧ r.2.mem ((c : Thread nD τ).loc main_arg1)
          = m ((c : Thread nD τ).loc main_arg1)
      ∧ r.2.mem ((c : Thread nD τ).loc main_arg2)
          = m ((c : Thread nD τ).loc main_arg2)
      ∧ r.2.mem ((c : Thread nD τ).loc main_arg3)
          = m ((c : Thread nD τ).loc main_arg3)
      ∧ r.2.mem ((c : Thread nD τ).loc main_arg4)
          = m ((c : Thread nD τ).loc main_arg4)
      ∧ r.2.mem ((c : Thread nD τ).loc main_arg5)
          = m ((c : Thread nD τ).loc main_arg5)
      ∧ r.2.mem ((c : Thread nD τ).loc main_arg6)
          = m ((c : Thread nD τ).loc main_arg6)
      ∧ r.2.mem ((c : Thread nD τ).loc main_arg7)
          = m ((c : Thread nD τ).loc main_arg7)
      ∧ r.2.mem ((c : Thread nD τ).loc main_arg8)
          = m ((c : Thread nD τ).loc main_arg8)
      ∧ r.2.mem ((c : Thread nD τ).loc main_arg9)
          = m ((c : Thread nD τ).loc main_arg9)
      ∧ r.2.mem ((c : Thread nD τ).loc main_arg10)
          = m ((c : Thread nD τ).loc main_arg10) :=
  (θ_run defs _ _).mono (fun r h c => ⟨((h.1 c).1 11).trans (final m c), h.2 c⟩)
    (θ_run_and (run_main m ρ) (unchanged m ρ))

/-- THE REFERENCE'S RUN: it ends with its result at `resultRef` of its arguments. -/
theorem reference_run (m : (ℓ : Loc Cert.MergeRefIdeal.nD Cert.MergeRefIdeal.τ Cert.MergeRefIdeal.sig) → Buf (Elt Ideal) ℓ)
    (ρ : Dev Cert.MergeRefIdeal.nD → PrngReg) :
    θ_run Cert.MergeRefIdeal.defs (onTc (τ := Cert.MergeRefIdeal.τ) (Cert.MergeRefIdeal.main (F := Ideal)))
      ⟨m, fun _ => 0, ρ⟩ fun r => ∀ c : Dev Cert.MergeRefIdeal.nD,
      r.2.mem ((c.tc : Thread Cert.MergeRefIdeal.nD Cert.MergeRefIdeal.τ).loc Cert.MergeRefIdeal.main_v61)
          = resultRef (m ((c.tc : Thread Cert.MergeRefIdeal.nD Cert.MergeRefIdeal.τ).loc Cert.MergeRefIdeal.main_arg0))
            (m ((c.tc : Thread Cert.MergeRefIdeal.nD Cert.MergeRefIdeal.τ).loc Cert.MergeRefIdeal.main_arg1))
            (m ((c.tc : Thread Cert.MergeRefIdeal.nD Cert.MergeRefIdeal.τ).loc Cert.MergeRefIdeal.main_arg2))
            (m ((c.tc : Thread Cert.MergeRefIdeal.nD Cert.MergeRefIdeal.τ).loc Cert.MergeRefIdeal.main_arg3))
            (m ((c.tc : Thread Cert.MergeRefIdeal.nD Cert.MergeRefIdeal.τ).loc Cert.MergeRefIdeal.main_arg4))
            (m ((c.tc : Thread Cert.MergeRefIdeal.nD Cert.MergeRefIdeal.τ).loc Cert.MergeRefIdeal.main_arg5))
            (m ((c.tc : Thread Cert.MergeRefIdeal.nD Cert.MergeRefIdeal.τ).loc Cert.MergeRefIdeal.main_arg6))
            (m ((c.tc : Thread Cert.MergeRefIdeal.nD Cert.MergeRefIdeal.τ).loc Cert.MergeRefIdeal.main_arg7))
            (m ((c.tc : Thread Cert.MergeRefIdeal.nD Cert.MergeRefIdeal.τ).loc Cert.MergeRefIdeal.main_arg8))
            (m ((c.tc : Thread Cert.MergeRefIdeal.nD Cert.MergeRefIdeal.τ).loc Cert.MergeRefIdeal.main_arg9))
            (m ((c.tc : Thread Cert.MergeRefIdeal.nD Cert.MergeRefIdeal.τ).loc Cert.MergeRefIdeal.main_arg10))
      ∧ r.2.mem ((c.tc : Thread Cert.MergeRefIdeal.nD Cert.MergeRefIdeal.τ).loc Cert.MergeRefIdeal.main_arg0)
          = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1)
          = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2)
          = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3)
          = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4)
          = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5)
          = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6)
          = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7)
          = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8)
          = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9)
          = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10)
          = m ((c.tc : Thread Cert.MergeRefIdeal.nD Cert.MergeRefIdeal.τ).loc Cert.MergeRefIdeal.main_arg10) := by
  refine (θ_run Cert.MergeRefIdeal.defs _ _).mono (fun r h c => ⟨(h c).1.trans ?_, (h c).2⟩)
    (Cert.MergeRefIdeal.Value.run (F := Ideal) m ρ)
  unfold Cert.MergeRefIdeal.Value.res_main_v61
  generalize m ((c.tc : Thread Cert.MergeRefIdeal.nD Cert.MergeRefIdeal.τ).loc Cert.MergeRefIdeal.main_arg0) = a0
  generalize m ((c.tc : Thread Cert.MergeRefIdeal.nD Cert.MergeRefIdeal.τ).loc Cert.MergeRefIdeal.main_arg1) = a1
  generalize m ((c.tc : Thread Cert.MergeRefIdeal.nD Cert.MergeRefIdeal.τ).loc Cert.MergeRefIdeal.main_arg2) = a2
  generalize m ((c.tc : Thread Cert.MergeRefIdeal.nD Cert.MergeRefIdeal.τ).loc Cert.MergeRefIdeal.main_arg3) = a3
  generalize m ((c.tc : Thread Cert.MergeRefIdeal.nD Cert.MergeRefIdeal.τ).loc Cert.MergeRefIdeal.main_arg4) = a4
  generalize m ((c.tc : Thread Cert.MergeRefIdeal.nD Cert.MergeRefIdeal.τ).loc Cert.MergeRefIdeal.main_arg5) = a5
  generalize m ((c.tc : Thread Cert.MergeRefIdeal.nD Cert.MergeRefIdeal.τ).loc Cert.MergeRefIdeal.main_arg6) = a6
  generalize m ((c.tc : Thread Cert.MergeRefIdeal.nD Cert.MergeRefIdeal.τ).loc Cert.MergeRefIdeal.main_arg7) = a7
  generalize m ((c.tc : Thread Cert.MergeRefIdeal.nD Cert.MergeRefIdeal.τ).loc Cert.MergeRefIdeal.main_arg8) = a8
  generalize m ((c.tc : Thread Cert.MergeRefIdeal.nD Cert.MergeRefIdeal.τ).loc Cert.MergeRefIdeal.main_arg9) = a9
  generalize m ((c.tc : Thread Cert.MergeRefIdeal.nD Cert.MergeRefIdeal.τ).loc Cert.MergeRefIdeal.main_arg10) = a10
  funext i
  obtain ⟨r, j, rfl⟩ : ∃ (r : Fin 16384) (j : Fin 1024), i = ix2 r j := ⟨i 0, i 1, eq_ix2 i⟩
  show normArr (residualArr a9 a5 (mergedArr a0 a1 (memArr (expArr (scoreArr a2 a3) (topArr (scoreArr a2 a3))) a3)
    a4 a6 a7 a8)) a10 (ix2 r j) = _
  rw [normArr_apply]
  simp only [residualArr_apply, mergedArr_apply, attention_apply]
  rfl

end Cert.MergeIdeal.Hand

end
-- ==== Proof.lean ====
/-
  The certificate's claim, assembled: for every call the frames of the kernel as printed, of the kernel at the extended
  reals and of the reference, and the equality of the kernel's and the reference's results, taken from the two runs that
  the call's own modules prove.
-/
module

public import proofs.«01_k».proof.Defs
public import proofs.«01_k».proof.Proof.Gen.Pre_finite_queries_and_keys
public import proofs.«01_k».proof.Proof.Gen.Norm.Frame
public import proofs.«01_k».proof.Proof.NormValue
public import proofs.«01_k».proof.Proof.Gen.Z.Frame
public import proofs.«01_k».proof.Proof.ZValue
public import proofs.«01_k».proof.Proof.Gen.Lg.Frame
public import proofs.«01_k».proof.Proof.LgValue
public import proofs.«01_k».proof.Proof.Gen.Gates.Frame
public import proofs.«01_k».proof.Proof.GatesValue
public import proofs.«01_k».proof.Proof.XbcFrame
public import proofs.«01_k».proof.Proof.XbcRef
public import proofs.«01_k».proof.Proof.LxFrame
public import proofs.«01_k».proof.Proof.LxRef
public import proofs.«01_k».proof.Proof.Gen.Kv.Frame
public import proofs.«01_k».proof.Proof.Kv
public import proofs.«01_k».proof.Proof.Gen.Merge.Frame
public import proofs.«01_k».proof.Proof.MergeValue
public import Idealize.ShloMosaic.Lib.Tactic
public import Idealize.ShloMosaic.Adequacy
public import Idealize.ShloMosaic.Init
public import Idealize.ShloMosaic.Lib.Quiescent

@[expose] public section

noncomputable section

namespace Cert.Proof

open Idealize.ShloMosaic Idealize.ShloMosaic.Tactic Idealize.SL.Sem

/-! ### The normalisation with the queries' and the step sizes' projection -/

/-- The reference runs, ends with its arguments unchanged, and leaves the machine quiescent. -/
theorem reference_frame_Norm : quiescent_NormRefIdeal := fun m ρ _ =>
  (θ_run Cert.NormRefIdeal.defs _ _).mono
    (fun r h => ⟨fun c => (h c).2.2.2, sem_eq_zero_of_no_sems (by decide) r.2⟩)
    (Cert.NormRefIdeal.Value.run (F := Ideal) m ρ)

/-- The kernel's and the reference's results are equal: both runs end at the same functions of the arguments. -/
theorem algebraic_Norm : algebraic_NormIdeal_NormRefIdeal := by
  intro m ρ m' ρ' _ hagree
  refine ⟨fun c => Cert.NormIdeal.Hand.resultH (m ((c.tc : Thread Cert.NormIdeal.nD Cert.NormIdeal.τ).loc Cert.NormIdeal.main_arg0))
      (m ((c.tc : Thread Cert.NormIdeal.nD Cert.NormIdeal.τ).loc Cert.NormIdeal.main_arg1)),
    fun c => Cert.NormIdeal.Hand.resultQ (m ((c.tc : Thread Cert.NormIdeal.nD Cert.NormIdeal.τ).loc Cert.NormIdeal.main_arg0))
      (m ((c.tc : Thread Cert.NormIdeal.nD Cert.NormIdeal.τ).loc Cert.NormIdeal.main_arg1))
      (m ((c.tc : Thread Cert.NormIdeal.nD Cert.NormIdeal.τ).loc Cert.NormIdeal.main_arg2)),
    fun c => Cert.NormIdeal.Hand.resultDt (m ((c.tc : Thread Cert.NormIdeal.nD Cert.NormIdeal.τ).loc Cert.NormIdeal.main_arg0))
      (m ((c.tc : Thread Cert.NormIdeal.nD Cert.NormIdeal.τ).loc Cert.NormIdeal.main_arg1))
      (m ((c.tc : Thread Cert.NormIdeal.nD Cert.NormIdeal.τ).loc Cert.NormIdeal.main_arg2)),
    (θ_run _ _ _).mono (fun r h c => ⟨(h c).1.1, (h c).1.2.1, (h c).1.2.2, (h c).2⟩) (Cert.NormIdeal.Hand.kernel_run m ρ),
    (θ_run _ _ _).mono (fun r h c => ?_) (Cert.NormIdeal.Hand.reference_run m' ρ')⟩
  obtain ⟨e0, e1, e2⟩ := hagree c
  refine ⟨(h c).1.1.trans ?_, (h c).1.2.1.trans ?_, (h c).1.2.2.trans ?_, (h c).2⟩
  · rw [e0, e1]
  · rw [e0, e1, e2]
  · rw [e0, e1, e2]

/-! ### The SSD branch's gate -/

/-- The reference runs, ends with its arguments unchanged, and leaves the machine quiescent. -/
theorem reference_frame_Z : quiescent_ZRefIdeal := fun m ρ _ =>
  (θ_run Cert.ZRefIdeal.defs _ _).mono
    (fun r h => ⟨fun c => (h c).2, sem_eq_zero_of_no_sems (by decide) r.2⟩)
    (Cert.ZRefIdeal.Value.run (F := Ideal) m ρ)

/-- The kernel's and the reference's results are equal: both runs end at the same functions of the arguments. -/
theorem algebraic_Z : algebraic_ZIdeal_ZRefIdeal := by
  intro m ρ m' ρ' _ hagree
  refine ⟨fun c => Cert.ZIdeal.Hand.result (m ((c.tc : Thread Cert.ZIdeal.nD Cert.ZIdeal.τ).loc Cert.ZIdeal.main_arg0))
      (m ((c.tc : Thread Cert.ZIdeal.nD Cert.ZIdeal.τ).loc Cert.ZIdeal.main_arg1)),
    (θ_run _ _ _).mono (fun r h c => h c) (Cert.ZIdeal.Hand.kernel_run m ρ),
    (θ_run _ _ _).mono (fun r h c => ?_) (Cert.ZIdeal.Hand.reference_run m' ρ')⟩
  obtain ⟨e0, e1⟩ := hagree c
  exact ⟨(h c).1.trans (by rw [e0, e1]), (h c).2⟩

/-! ### The LRU branch's gate -/

/-- The reference runs, ends with its arguments unchanged, and leaves the machine quiescent. -/
theorem reference_frame_Lg : quiescent_LgRefIdeal := fun m ρ _ =>
  (θ_run Cert.LgRefIdeal.defs _ _).mono
    (fun r h => ⟨fun c => (h c).2, sem_eq_zero_of_no_sems (by decide) r.2⟩)
    (Cert.LgRefIdeal.Value.run (F := Ideal) m ρ)

/-- The kernel's and the reference's results are equal: both runs end at the same functions of the arguments. -/
theorem algebraic_Lg : algebraic_LgIdeal_LgRefIdeal := by
  intro m ρ m' ρ' _ hagree
  refine ⟨fun c => Cert.LgIdeal.Hand.result (m ((c.tc : Thread Cert.LgIdeal.nD Cert.LgIdeal.τ).loc Cert.LgIdeal.main_arg0))
      (m ((c.tc : Thread Cert.LgIdeal.nD Cert.LgIdeal.τ).loc Cert.LgIdeal.main_arg1)),
    (θ_run _ _ _).mono (fun r h c => h c) (Cert.LgIdeal.Hand.kernel_run m ρ),
    (θ_run _ _ _).mono (fun r h c => ?_) (Cert.LgIdeal.Hand.reference_run m' ρ')⟩
  obtain ⟨e0, e1⟩ := hagree c
  exact ⟨(h c).1.trans (by rw [e0, e1]), (h c).2⟩

/-! ### The merge's gates -/

/-- The reference runs, ends with its arguments unchanged, and leaves the machine quiescent. -/
theorem reference_frame_Gates : quiescent_GatesRefIdeal := fun m ρ _ =>
  (θ_run Cert.GatesRefIdeal.defs _ _).mono
    (fun r h => ⟨fun c => (h c).2, sem_eq_zero_of_no_sems (by decide) r.2⟩)
    (Cert.GatesRefIdeal.Value.run (F := Ideal) m ρ)

/-- The kernel's and the reference's results are equal: both runs end at the same functions of the arguments. -/
theorem algebraic_Gates : algebraic_GatesIdeal_GatesRefIdeal := by
  intro m ρ m' ρ' _ hagree
  refine ⟨fun c => Cert.GatesIdeal.Hand.result (m ((c.tc : Thread Cert.GatesIdeal.nD Cert.GatesIdeal.τ).loc Cert.GatesIdeal.main_arg0))
      (m ((c.tc : Thread Cert.GatesIdeal.nD Cert.GatesIdeal.τ).loc Cert.GatesIdeal.main_arg1)),
    (θ_run _ _ _).mono (fun r h c => h c) (Cert.GatesIdeal.Hand.kernel_run m ρ),
    (θ_run _ _ _).mono (fun r h c => ?_) (Cert.GatesIdeal.Hand.reference_run m' ρ')⟩
  obtain ⟨e0, e1⟩ := hagree c
  exact ⟨(h c).1.trans (by rw [e0, e1]), (h c).2⟩

/-! ### The SSD branch's input with its convolution -/

/-- The reference runs, ends with its arguments unchanged, and leaves the machine quiescent. -/
theorem reference_frame_Xbc : quiescent_XbcRefIdeal := fun m ρ _ =>
  (θ_run Cert.XbcRefIdeal.defs _ _).mono
    (fun r h => ⟨fun c => (h c).2, sem_eq_zero_of_no_sems (by decide) r.2⟩)
    (Cert.XbcRefIdeal.Value.run (F := Ideal) m ρ)

/-- A named constant of the kernel read as its literal. -/
local instance literal : Named Bits := ⟨fun _ _ _ w => w⟩

/-- The kernel as printed runs as the kernel at any values does: the two are one text. -/
theorem frame_Xbc : quiescent_Xbc := fun m ρ _ =>
  cast (by sl_kernel_rfl) (Cert.XbcIdeal.Hand.frame (F := Bits) m ρ)

/-- The kernel's and the reference's results are equal: both runs end at the same functions of the arguments. -/
theorem algebraic_Xbc : algebraic_XbcIdeal_XbcRefIdeal := by
  intro m ρ m' ρ' _ hagree
  refine ⟨fun c => Cert.XbcIdeal.Hand.result (m ((c.tc : Thread Cert.XbcIdeal.nD Cert.XbcIdeal.τ).loc Cert.XbcIdeal.main_arg0))
      (m ((c.tc : Thread Cert.XbcIdeal.nD Cert.XbcIdeal.τ).loc Cert.XbcIdeal.main_arg1))
      (m ((c.tc : Thread Cert.XbcIdeal.nD Cert.XbcIdeal.τ).loc Cert.XbcIdeal.main_arg2))
      (m ((c.tc : Thread Cert.XbcIdeal.nD Cert.XbcIdeal.τ).loc Cert.XbcIdeal.main_arg3)),
    (θ_run _ _ _).mono (fun r h c => h c) (Cert.XbcIdeal.Hand.kernel_run m ρ),
    (θ_run _ _ _).mono (fun r h c => ?_) (Cert.XbcIdeal.Hand.reference_run m' ρ')⟩
  obtain ⟨e0, e1, e2, e3⟩ := hagree c
  exact ⟨(h c).1.trans (by rw [e0, e1, e2, e3]), (h c).2⟩

/-! ### The LRU branch's input with its convolution -/

/-- The reference runs, ends with its arguments unchanged, and leaves the machine quiescent. -/
theorem reference_frame_Lx : quiescent_LxRefIdeal := fun m ρ _ =>
  (θ_run Cert.LxRefIdeal.defs _ _).mono
    (fun r h => ⟨fun c => (h c).2, sem_eq_zero_of_no_sems (by decide) r.2⟩)
    (Cert.LxRefIdeal.Value.run (F := Ideal) m ρ)

/-- The kernel as printed runs as the kernel at any values does: the two are one text. -/
theorem frame_Lx : quiescent_Lx := fun m ρ _ =>
  cast (by sl_kernel_rfl) (Cert.LxIdeal.Hand.frame (F := Bits) m ρ)

/-- The kernel's and the reference's results are equal: both runs end at the same functions of the arguments. -/
theorem algebraic_Lx : algebraic_LxIdeal_LxRefIdeal := by
  intro m ρ m' ρ' _ hagree
  refine ⟨fun c => Cert.LxIdeal.Hand.result (m ((c.tc : Thread Cert.LxIdeal.nD Cert.LxIdeal.τ).loc Cert.LxIdeal.main_arg0))
      (m ((c.tc : Thread Cert.LxIdeal.nD Cert.LxIdeal.τ).loc Cert.LxIdeal.main_arg1))
      (m ((c.tc : Thread Cert.LxIdeal.nD Cert.LxIdeal.τ).loc Cert.LxIdeal.main_arg2))
      (m ((c.tc : Thread Cert.LxIdeal.nD Cert.LxIdeal.τ).loc Cert.LxIdeal.main_arg3)),
    (θ_run _ _ _).mono (fun r h c => h c) (Cert.LxIdeal.Hand.kernel_run m ρ),
    (θ_run _ _ _).mono (fun r h c => ?_) (Cert.LxIdeal.Hand.reference_run m' ρ')⟩
  obtain ⟨e0, e1, e2, e3⟩ := hagree c
  exact ⟨(h c).1.trans (by rw [e0, e1, e2, e3]), (h c).2⟩

/-! ### The memory's keys and values -/

/-- The reference runs, ends with its arguments unchanged, and leaves the machine quiescent. -/
theorem reference_frame_Kv : quiescent_KvRefIdeal := fun m ρ _ =>
  (θ_run Cert.KvRefIdeal.defs _ _).mono
    (fun r h => ⟨fun c => (h c).2, sem_eq_zero_of_no_sems (by decide) r.2⟩)
    (Cert.KvRefIdeal.Value.run (F := Ideal) m ρ)

/-- The kernel's and the reference's results are equal: both runs end at the same functions of the arguments. -/
theorem algebraic_Kv : algebraic_KvIdeal_KvRefIdeal := by
  intro m ρ m' ρ' _ hagree
  refine ⟨fun c => Cert.KvIdeal.Hand.result (m ((c.tc : Thread Cert.KvIdeal.nD Cert.KvIdeal.τ).loc Cert.KvIdeal.main_arg0))
      (m ((c.tc : Thread Cert.KvIdeal.nD Cert.KvIdeal.τ).loc Cert.KvIdeal.main_arg1))
      (m ((c.tc : Thread Cert.KvIdeal.nD Cert.KvIdeal.τ).loc Cert.KvIdeal.main_arg2)),
    (θ_run _ _ _).mono (fun r h c => h c) (Cert.KvIdeal.Hand.kernel_run m ρ),
    (θ_run _ _ _).mono (fun r h c => ?_) (Cert.KvIdeal.Hand.reference_run m' ρ')⟩
  obtain ⟨e0, e1, e2⟩ := hagree c
  exact ⟨(h c).1.trans (by rw [e0, e1, e2]), (h c).2⟩

/-! ### The merge of the branches -/

/-- The reference runs, ends with its arguments unchanged, and leaves the machine quiescent. -/
theorem reference_frame_Merge : quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- The kernel's and the reference's results are equal: the two runs end at functions of the arguments that agree
where the queries and the keys are finite. -/
theorem algebraic_Merge : algebraic_MergeIdeal_MergeRefIdeal_pre_finite_queries_and_keys := by
  intro m ρ m' ρ' hpre hagree
  refine ⟨fun c => Cert.MergeIdeal.Hand.result (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6))
      (m ((c.tc : Thread Cert.MergeIdeal.nD Cert.MergeIdeal.τ).loc Cert.MergeIdeal.main_arg7))
      (m ((c.tc : Thread Cert.MergeIdeal.nD Cert.MergeIdeal.τ).loc Cert.MergeIdeal.main_arg8))
      (m ((c.tc : Thread Cert.MergeIdeal.nD Cert.MergeIdeal.τ).loc Cert.MergeIdeal.main_arg9))
      (m ((c.tc : Thread Cert.MergeIdeal.nD Cert.MergeIdeal.τ).loc Cert.MergeIdeal.main_arg10)),
    (θ_run _ _ _).mono (fun r h c => h c) (Cert.MergeIdeal.Hand.kernel_run m ρ),
    (θ_run _ _ _).mono (fun r h c => ?_) (Cert.MergeIdeal.Hand.reference_run m' ρ')⟩
  obtain ⟨e0, e1, e2, e3, e4, e5, e6, e7, e8, e9, e10⟩ := hagree c
  exact ⟨(h c).1.trans (by
    rw [e0, e1, e2, e3, e4, e5, e6, e7, e8, e9, e10]
    exact (Cert.MergeIdeal.Hand.result_eq _ _ _ _ _ _ _ _ _ _ _ (hpre c).1 (hpre c).2).symm), (h c).2⟩

/-- THE CLAIM: every conjunct under the witnesses of the programs' side conditions. -/
theorem claim : Cert.Claim :=
  ⟨Cert.Norm.Gen.facts, Cert.NormIdeal.Gen.facts, Cert.NormRefIdeal.Gen.facts,
    Cert.Z.Gen.facts, Cert.ZIdeal.Gen.facts, Cert.ZRefIdeal.Gen.facts,
    Cert.Lg.Gen.facts, Cert.LgIdeal.Gen.facts, Cert.LgRefIdeal.Gen.facts,
    Cert.Gates.Gen.facts, Cert.GatesIdeal.Gen.facts, Cert.GatesRefIdeal.Gen.facts,
    Cert.Xbc.Gen.facts, Cert.XbcIdeal.Gen.facts, Cert.XbcRefIdeal.Gen.facts,
    Cert.Lx.Gen.facts, Cert.LxIdeal.Gen.facts, Cert.LxRefIdeal.Gen.facts,
    Cert.Kv.Gen.facts, Cert.KvIdeal.Gen.facts, Cert.KvRefIdeal.Gen.facts,
    Cert.Merge.Gen.facts, Cert.MergeIdeal.Gen.facts, Cert.MergeRefIdeal.Gen.facts,
    Cert.Pre_finite_queries_and_keys.Gen.facts,
    fun m ρ _ => Cert.Norm.Gen.frame m ρ, fun m ρ _ => Cert.NormIdeal.Gen.frame m ρ, reference_frame_Norm,
    fun m ρ _ => Cert.Z.Gen.frame m ρ, fun m ρ _ => Cert.ZIdeal.Gen.frame m ρ, reference_frame_Z,
    fun m ρ _ => Cert.Lg.Gen.frame m ρ, fun m ρ _ => Cert.LgIdeal.Gen.frame m ρ, reference_frame_Lg,
    fun m ρ _ => Cert.Gates.Gen.frame m ρ, fun m ρ _ => Cert.GatesIdeal.Gen.frame m ρ, reference_frame_Gates,
    frame_Xbc, fun m ρ _ => Cert.XbcIdeal.Hand.frame m ρ, reference_frame_Xbc,
    frame_Lx, fun m ρ _ => Cert.LxIdeal.Hand.frame m ρ, reference_frame_Lx,
    fun m ρ _ => Cert.Kv.Gen.frame m ρ, fun m ρ _ => Cert.KvIdeal.Gen.frame m ρ, reference_frame_Kv,
    fun m ρ _ => Cert.Merge.Gen.frame m ρ, fun m ρ _ => Cert.MergeIdeal.Gen.frame m ρ,
    fun m ρ _ => Cert.MergeIdeal.Gen.frame m ρ, reference_frame_Merge, fun m ρ _ => reference_frame_Merge m ρ trivial,
    trivial, algebraic_Norm,
    IdealRules.named_const.statement _ _ _ _ _ rfl, algebraic_Z,
    IdealRules.named_const.statement _ _ _ _ _ rfl, algebraic_Lg,
    IdealRules.named_const.statement _ _ _ _ _ rfl, algebraic_Gates,
    IdealRules.named_const.statement _ _ _ _ _ rfl, algebraic_Xbc,
    trivial, algebraic_Lx,
    trivial, algebraic_Kv,
    trivial, algebraic_Merge⟩

end Cert.Proof

end

end
